-- ==== Defs.lean ====
def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dest_in_rows [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_rows : Cert.Pre_dest_in_rows.Facts] (m : (ℓ : Loc Cert.Reference.nD Cert.Reference.τ Cert.Reference.sig) → Buf (Elt Bits) ℓ) : Prop :=
  ∀ c : Dev Cert.Reference.nD,
    (Cert.Pre_dest_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_dest_in_rows [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dest_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_rows : Cert.Pre_dest_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel3_Kernel3Ideal : Prop :=
  IdealRules.named_const.Statement Cert.Kernel3Ideal.κ "scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel2_Kernel2Ideal : Prop :=
  IdealRules.named_const.Statement Cert.Kernel2Ideal.κ "mask" .f32 0xF149F2CA#32 ⊥

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v9)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v9) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel : Cert.Kernel.Facts) (hKernelIdeal : Cert.KernelIdeal.Facts) (hReferenceIdeal : Cert.ReferenceIdeal.Facts) (hReference : Cert.Reference.Facts) (hPre_finite_inputs : Cert.Pre_finite_inputs.Facts) (hPre_dest_in_rows : Cert.Pre_dest_in_rows.Facts),
    quiescent_Kernel4 (hKernel4 := hKernel4)
    ∧ quiescent_Kernel4Ideal (hKernel4Ideal := hKernel4Ideal)
    ∧ quiescent_Reference4Ideal (hReference4Ideal := hReference4Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel (hKernel := hKernel) (hPre_dest_in_rows := hPre_dest_in_rows)
    ∧ quiescent_KernelIdeal (hKernelIdeal := hKernelIdeal) (hPre_dest_in_rows := hPre_dest_in_rows)
    ∧ quiescent_ReferenceIdeal (hReferenceIdeal := hReferenceIdeal)
    ∧ quiescent_ReferenceIdeal_pre_dest_in_rows (hReferenceIdeal := hReferenceIdeal) (hPre_dest_in_rows := hPre_dest_in_rows)
    ∧ quiescent_Reference (hReference := hReference) (hPre_dest_in_rows := hPre_dest_in_rows)
    ∧ preserves_Kernel4_Kernel4Ideal
    ∧ algebraic_Kernel4Ideal_Reference4Ideal (hKernel4Ideal := hKernel4Ideal) (hReference4Ideal := hReference4Ideal)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel_KernelIdeal
    ∧ algebraic_KernelIdeal_ReferenceIdeal (hKernelIdeal := hKernelIdeal) (hReferenceIdeal := hReferenceIdeal) (hPre_dest_in_rows := hPre_dest_in_rows)
    ∧ bitexact_Kernel_Reference (hKernel := hKernel) (hReference := hReference) (hPre_dest_in_rows := hPre_dest_in_rows)
-- ==== Pre_dest_in_rows.lean ====
abbrev S2x196352x256 : Shape := ⟨3, ![2, 196352, 256]⟩
abbrev S2x8x8192 : Shape := ⟨3, ![2, 8, 8192]⟩
abbrev S_ : Shape := ⟨0, ![]⟩

class Facts : Prop where
  bcast_S_S2x8x8192 : S_.BroadcastsInDim S2x8x8192 (![] : Fin 0 → Fin S2x8x8192.rank)

variable [Facts]

def fn {F : FTy → Type} [FloatOps F] (main_arg0 : IVec S2x196352x256 32) (main_arg1 : IVec S2x8x8192 32) : IVec S2x8x8192 1 :=
  let main_c : IVec S_ 32 := constantI S_ 32 0#32
  let main_v0 : IVec S2x8x8192 32 := broadcastInDim S2x8x8192 ![] bcast_S_S2x8x8192 main_c
  let main_v1 : IVec S2x8x8192 1 := cmpi .sge main_arg1 main_v0
  let main_c_0 : IVec S_ 32 := constantI S_ 32 196352#32
  let main_v2 : IVec S2x8x8192 32 := broadcastInDim S2x8x8192 ![] bcast_S_S2x8x8192 main_c_0
  let main_v3 : IVec S2x8x8192 1 := cmpi .slt main_arg1 main_v2
  let main_v4 : IVec S2x8x8192 1 := andi main_v1 main_v3
  main_v4
-- ==== Pre_finite_inputs.lean ====
abbrev S2x8192x512 : Shape := ⟨3, ![2, 8192, 512]⟩
abbrev S64 : Shape := ⟨1, ![64]⟩
abbrev S128 : Shape := ⟨1, ![128]⟩
abbrev S_ : Shape := ⟨0, ![]⟩

class Facts : Prop where
  bcast_S_S64 : S_.BroadcastsInDim S64 (![] : Fin 0 → Fin S64.rank)
  bcast_S_S2x8192x512 : S_.BroadcastsInDim S2x8192x512 (![] : Fin 0 → Fin S2x8192x512.rank)
  reducesTo_S64_S_d0 : S64.ReducesTo [0] S_
  h_S_ : 0 < S_.numel

variable [Facts]

def fn_part1 {F : FTy → Type} [FloatOps F] (main_arg2 : FVec F S2x8192x512 .f32) (main_v14 : IVec S64 1) (main_v17 : IVec S2x8192x512 1) (main_v18 : FVec F S2x8192x512 .f32) : IVec S2x8192x512 1 :=
  let main_cst_4 : FVec F S_ .f32 := constant S_ .f32 0x7F800000#32
  let main_v19 : FVec F S2x8192x512 .f32 := broadcastInDim S2x8192x512 ![] bcast_S_S2x8192x512 main_cst_4
  let main_v20 : IVec S2x8192x512 1 := cmpf .olt main_v18 main_v19
  let main_v21 : IVec S2x8192x512 1 := andi main_v17 main_v20
  let main_v22 : FVec F S2x8192x512 .f32 := Host.absf main_arg2
  let main_cst_5 : FVec F S_ .f32 := constant S_ .f32 0x7F800000#32
  let main_v23 : FVec F S2x8192x512 .f32 := broadcastInDim S2x8192x512 ![] bcast_S_S2x8192x512 main_cst_5
  let main_v24 : IVec S2x8192x512 1 := cmpf .olt main_v22 main_v23
  let main_v25 : IVec S2x8192x512 1 := andi main_v21 main_v24
  let main_c : IVec S_ 1 := constantI S_ 1 1#1
  let main_v26 : IVec S_ 1 := (fun x v => Host.reduce IntOp.andi x v reducesTo_S64_S_d0 h_S_) main_v14 main_c
  let main_v27 : IVec S2x8192x512 1 := broadcastInDim S2x8192x512 ![] bcast_S_S2x8192x512 main_v26
  let main_v28 : IVec S2x8192x512 1 := andi main_v25 main_v27
  main_v28

def fn {F : FTy → Type} [FloatOps F] (main_arg0 : FVec F S2x8192x512 .f32) (main_arg1 : FVec F S2x8192x512 .f32) (main_arg2 : FVec F S2x8192x512 .f32) (main_arg3 : FVec F S64 .f32) (main_arg4 : FVec F S64 .f32) (main_arg5 : FVec F S64 .f32) (main_arg6 : FVec F S64 .f32) (main_arg7 : FVec F S128 .f32) : IVec S2x8192x512 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg4
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : IVec S64 1 := andi main_v2 main_v5
  let main_v7 : FVec F S64 .f32 := Host.absf main_arg5
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : IVec S64 1 := andi main_v6 main_v9
  let main_v11 : FVec F S64 .f32 := Host.absf main_arg6
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_v14 : IVec S64 1 := andi main_v10 main_v13
  let main_v15 : FVec F S2x8192x512 .f32 := Host.absf main_arg0
  let main_cst_3 : FVec F S_ .f32 := constant S_ .f32 0x7F800000#32
  let main_v16 : FVec F S2x8192x512 .f32 := broadcastInDim S2x8192x512 ![] bcast_S_S2x8192x512 main_cst_3
  let main_v17 : IVec S2x8192x512 1 := cmpf .olt main_v15 main_v16
  let main_v18 : FVec F S2x8192x512 .f32 := Host.absf main_arg1
  fn_part1 (F := F) main_arg2 main_v14 main_v17 main_v18
-- ==== Kernel4.lean ====
abbrev S2x8192x1024 : Shape := ⟨3, ![2, 8192, 1024]⟩
abbrev S2x2x8192x256 : Shape := ⟨4, ![2, 2, 8192, 256]⟩
abbrev S2x8x16384x256 : Shape := ⟨4, ![2, 8, 16384, 256]⟩
abbrev S2x8x8192 : Shape := ⟨3, ![2, 8, 8192]⟩
abbrev S2x6144 : Shape := ⟨2, ![2, 6144]⟩
abbrev S1024 : Shape := ⟨1, ![1024]⟩
abbrev S1024x256 : Shape := ⟨2, ![1024, 256]⟩
abbrev S256x1024 : Shape := ⟨2, ![256, 1024]⟩
abbrev S2x6x1024 : Shape := ⟨3, ![2, 6, 1024]⟩
abbrev S2x8192x8 : Shape := ⟨3, ![2, 8192, 8]⟩
abbrev S1x1024 : Shape := ⟨2, ![1, 1024]⟩
abbrev S1x512x1024 : Shape := ⟨3, ![1, 512, 1024]⟩
abbrev S2x1x512x256 : Shape := ⟨4, ![2, 1, 512, 256]⟩
abbrev S2x8x512x256 : Shape := ⟨4, ![2, 8, 512, 256]⟩
abbrev S1x512x8 : Shape := ⟨3, ![1, 512, 8]⟩
abbrev S1x6x1024 : Shape := ⟨3, ![1, 6, 1024]⟩
abbrev S512x8 : Shape := ⟨2, ![512, 8]⟩
abbrev S1x1x512x256 : Shape := ⟨4, ![1, 1, 512, 256]⟩
abbrev S512x256 : Shape := ⟨2, ![512, 256]⟩
abbrev S512x1 : Shape := ⟨2, ![512, 1]⟩
abbrev S512x1024 : Shape := ⟨2, ![512, 1024]⟩
abbrev S1x1x1024 : Shape := ⟨3, ![1, 1, 1024]⟩
abbrev S512 : Shape := ⟨1, ![512]⟩

abbrev nBuf : Space → Nat
  | .hbm => 16
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x2x8192x256, .i32⟩
  | .hbm, ⟨2, _⟩ => ⟨S2x8x16384x256, .i32⟩
  | .hbm, ⟨3, _⟩ => ⟨S2x8x8192, .f32⟩
  | .hbm, ⟨4, _⟩ => ⟨S2x6144, .f32⟩
  | .hbm, ⟨5, _⟩ => ⟨S1024, .f32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S2x6x1024, .f32⟩
  | .hbm, ⟨10, _⟩ => ⟨S2x8192x8, .f32⟩
  | .hbm, ⟨11, _⟩ => ⟨S1024x256, .bf16⟩
  | .hbm, ⟨12, _⟩ => ⟨S1024x256, .bf16⟩
  | .hbm, ⟨13, _⟩ => ⟨S256x1024, .bf16⟩
  | .hbm, ⟨14, _⟩ => ⟨S1x1024, .f32⟩
  | .hbm, ⟨15, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S2x1x512x256, .i32⟩
  | .local _ .vmem, ⟨3, _⟩ => ⟨S2x1x512x256, .i32⟩
  | .local _ .vmem, ⟨4, _⟩ => ⟨S2x8x512x256, .i32⟩
  | .local _ .vmem, ⟨5, _⟩ => ⟨S2x8x512x256, .i32⟩
  | .local _ .vmem, ⟨6, _⟩ => ⟨S1x512x8, .f32⟩
  | .local _ .vmem, ⟨7, _⟩ => ⟨S1x512x8, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S1x512x1024, .f32⟩
  | .local _ .vmem, ⟨15, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x8192x1024 : Shape := ⟨3, ![2, 8192, 1024]⟩
abbrev S2x2x8192x256 : Shape := ⟨4, ![2, 2, 8192, 256]⟩
abbrev S2x8x16384x256 : Shape := ⟨4, ![2, 8, 16384, 256]⟩
abbrev S2x8x8192 : Shape := ⟨3, ![2, 8, 8192]⟩
abbrev S2x6144 : Shape := ⟨2, ![2, 6144]⟩
abbrev S1024 : Shape := ⟨1, ![1024]⟩
abbrev S1024x256 : Shape := ⟨2, ![1024, 256]⟩
abbrev S256x1024 : Shape := ⟨2, ![256, 1024]⟩
abbrev S2x2x8192x256x2 : Shape := ⟨5, ![2, 2, 8192, 256, 2]⟩
abbrev S2x2x8192x256x1 : Shape := ⟨5, ![2, 2, 8192, 256, 1]⟩
abbrev S1x2x8192x256 : Shape := ⟨4, ![1, 2, 8192, 256]⟩
abbrev S2x8192x256 : Shape := ⟨3, ![2, 8192, 256]⟩
abbrev S2x8x16384x256x2 : Shape := ⟨5, ![2, 8, 16384, 256, 2]⟩
abbrev S2x8x16384x256x1 : Shape := ⟨5, ![2, 8, 16384, 256, 1]⟩
abbrev S1x8x16384x256 : Shape := ⟨4, ![1, 8, 16384, 256]⟩
abbrev S8x16384x256 : Shape := ⟨3, ![8, 16384, 256]⟩
abbrev S8x16384x1024 : Shape := ⟨3, ![8, 16384, 1024]⟩
abbrev S8x2x8192x1024 : Shape := ⟨4, ![8, 2, 8192, 1024]⟩
abbrev S8x2x8192 : Shape := ⟨3, ![8, 2, 8192]⟩
abbrev S8x2x8192x1 : Shape := ⟨4, ![8, 2, 8192, 1]⟩
abbrev S_ : Shape := ⟨0, ![]⟩
abbrev S2x1024 : Shape := ⟨2, ![2, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x2x8192x256, .i32⟩
  | .hbm, ⟨2, _⟩ => ⟨S2x8x16384x256, .i32⟩
  | .hbm, ⟨3, _⟩ => ⟨S2x8x8192, .f32⟩
  | .hbm, ⟨4, _⟩ => ⟨S2x6144, .f32⟩
  | .hbm, ⟨5, _⟩ => ⟨S1024, .f32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S2x2x8192x256x2, .bf16⟩
  | .hbm, ⟨10, _⟩ => ⟨S2x2x8192x256x2, .f32⟩
  | .hbm, ⟨11, _⟩ => ⟨S2x2x8192x256x1, .f32⟩
  | .hbm, ⟨12, _⟩ => ⟨S2x2x8192x256, .f32⟩
  | .hbm, ⟨13, _⟩ => ⟨S2x2x8192x256x1, .f32⟩
  | .hbm, ⟨14, _⟩ => ⟨S2x2x8192x256, .f32⟩
  | .hbm, ⟨15, _⟩ => ⟨S1x2x8192x256, .f32⟩
  | .hbm, ⟨16, _⟩ => ⟨S2x8192x256, .f32⟩
  | .hbm, ⟨17, _⟩ => ⟨S1x2x8192x256, .f32⟩
  | .hbm, ⟨18, _⟩ => ⟨S2x8192x256, .f32⟩
  | .hbm, ⟨19, _⟩ => ⟨S1x2x8192x256, .f32⟩
  | .hbm, ⟨20, _⟩ => ⟨S2x8192x256, .f32⟩
  | .hbm, ⟨21, _⟩ => ⟨S1x2x8192x256, .f32⟩
  | .hbm, ⟨22, _⟩ => ⟨S2x8192x256, .f32⟩
  | .hbm, ⟨23, _⟩ => ⟨S2x8192x1024, .f32⟩
  | .hbm, ⟨24, _⟩ => ⟨S2x8x16384x256x2, .bf16⟩
  | .hbm, ⟨25, _⟩ => ⟨S2x8x16384x256x2, .f32⟩
  | .hbm, ⟨26, _⟩ => ⟨S2x8x16384x256x1, .f32⟩
  | .hbm, ⟨27, _⟩ => ⟨S2x8x16384x256, .f32⟩
  | .hbm, ⟨28, _⟩ => ⟨S2x8x16384x256x1, .f32⟩
  | .hbm, ⟨29, _⟩ => ⟨S2x8x16384x256, .f32⟩
  | .hbm, ⟨30, _⟩ => ⟨S1x8x16384x256, .f32⟩
  | .hbm, ⟨31, _⟩ => ⟨S8x16384x256, .f32⟩
  | .hbm, ⟨32, _⟩ => ⟨S1x8x16384x256, .f32⟩
  | .hbm, ⟨33, _⟩ => ⟨S8x16384x256, .f32⟩
  | .hbm, ⟨34, _⟩ => ⟨S1x8x16384x256, .f32⟩
  | .hbm, ⟨35, _⟩ => ⟨S8x16384x256, .f32⟩
  | .hbm, ⟨36, _⟩ => ⟨S1x8x16384x256, .f32⟩
  | .hbm, ⟨37, _⟩ => ⟨S8x16384x256, .f32⟩
  | .hbm, ⟨38, _⟩ => ⟨S8x16384x1024, .f32⟩
  | .hbm, ⟨39, _⟩ => ⟨S8x2x8192x1024, .f32⟩
  | .hbm, ⟨40, _⟩ => ⟨S8x2x8192, .f32⟩
  | .hbm, ⟨41, _⟩ => ⟨S8x2x8192x1, .f32⟩
  | .hbm, ⟨42, _⟩ => ⟨S8x2x8192x1024, .f32⟩
  | .hbm, ⟨43, _⟩ => ⟨S8x2x8192x1024, .f32⟩
  | .hbm, ⟨44, _⟩ => ⟨S_, .f32⟩
  | .hbm, ⟨45, _⟩ => ⟨S2x8192x1024, .f32⟩
  | .hbm, ⟨46, _⟩ => ⟨S2x8192x256, .f32⟩
  | .hbm, ⟨47, _⟩ => ⟨S2x8192x256, .f32⟩
  | .hbm, ⟨48, _⟩ => ⟨S2x8192x256, .f32⟩
  | .hbm, ⟨49, _⟩ => ⟨S_, .f32⟩
  | .hbm, ⟨50, _⟩ => ⟨S2x8192x256, .f32⟩
  | .hbm, ⟨51, _⟩ => ⟨S2x8192x256, .f32⟩
  | .hbm, ⟨52, _⟩ => ⟨S_, .f32⟩
  | .hbm, ⟨53, _⟩ => ⟨S2x8192x256, .f32⟩
  | .hbm, ⟨54, _⟩ => ⟨S2x8192x256, .f32⟩
  | .hbm, ⟨55, _⟩ => ⟨S2x8192x256, .f32⟩
  | .hbm, ⟨56, _⟩ => ⟨S2x8192x256, .f32⟩
  | .hbm, ⟨57, _⟩ => ⟨S2x8192x256, .f32⟩
  | .hbm, ⟨58, _⟩ => ⟨S2x8192x1024, .f32⟩
  | .hbm, ⟨59, _⟩ => ⟨S2x1024, .f32⟩
  | .hbm, ⟨60, _⟩ => ⟨S2x1x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S_, .f32⟩
  | .hbm, ⟨67, _⟩ => ⟨S2x8192, .f32⟩
  | .hbm, ⟨68, _⟩ => ⟨S2x8192x1, .f32⟩
  | .hbm, ⟨69, _⟩ => ⟨S_, .f32⟩
  | .hbm, ⟨70, _⟩ => ⟨S2x8192x1, .f32⟩
  | .hbm, ⟨71, _⟩ => ⟨S2x8192x1, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S2x8192x1, .f32⟩
  | .hbm, ⟨76, _⟩ => ⟨S2x8192x1024, .f32⟩
  | .hbm, ⟨77, _⟩ => ⟨S2x8192x1024, .f32⟩
  | .hbm, ⟨78, _⟩ => ⟨S1x1x1024, .f32⟩
  | .hbm, ⟨79, _⟩ => ⟨S2x8192x1024, .f32⟩
  | .hbm, ⟨80, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_0 : Ref sig .tc := ⟨.hbm, 66, rfl⟩
abbrev main_v48 : Ref sig .tc := ⟨.hbm, 67, rfl⟩
abbrev main_v49 : Ref sig .tc := ⟨.hbm, 68, rfl⟩
abbrev main_cst_1 : Ref sig .tc := ⟨.hbm, 69, rfl⟩
abbrev main_v50 : Ref sig .tc := ⟨.hbm, 70, rfl⟩
abbrev main_v51 : Ref sig .tc := ⟨.hbm, 71, rfl⟩
abbrev main_cst_2 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6144 : Shape := ⟨2, ![2, 6144]⟩
abbrev S1024 : Shape := ⟨1, ![1024]⟩
abbrev S1024x2048 : Shape := ⟨2, ![1024, 2048]⟩
abbrev S2x6x1024 : Shape := ⟨3, ![2, 6, 1024]⟩
abbrev S1024x1536 : Shape := ⟨2, ![1024, 1536]⟩
abbrev S1024x512 : Shape := ⟨2, ![1024, 512]⟩
abbrev S512x1024 : Shape := ⟨2, ![512, 1024]⟩
abbrev S1x1024 : Shape := ⟨2, ![1, 1024]⟩
abbrev S2x8192x512 : Shape := ⟨3, ![2, 8192, 512]⟩
abbrev S2x512x8192 : Shape := ⟨3, ![2, 512, 8192]⟩
abbrev S1x512x1024 : Shape := ⟨3, ![1, 512, 1024]⟩
abbrev S1x6x1024 : Shape := ⟨3, ![1, 6, 1024]⟩
abbrev S1x512x512 : Shape := ⟨3, ![1, 512, 512]⟩
abbrev S512 : Shape := ⟨1, ![512]⟩
abbrev S512x1 : Shape := ⟨2, ![512, 1]⟩
abbrev S1x1x1024 : Shape := ⟨3, ![1, 1, 1024]⟩
abbrev S512x1536 : Shape := ⟨2, ![512, 1536]⟩
abbrev S512x512 : Shape := ⟨2, ![512, 512]⟩

abbrev nBuf : Space → Nat
  | .hbm => 15
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x2048, .f32⟩
  | .hbm, ⟨4, _⟩ => ⟨S2x6x1024, .f32⟩
  | .hbm, ⟨5, _⟩ => ⟨S1024x1536, .f32⟩
  | .hbm, ⟨6, _⟩ => ⟨S1024x1536, .bf16⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1x1024, .f32⟩
  | .hbm, ⟨11, _⟩ => ⟨S2x8192x512, .bf16⟩
  | .hbm, ⟨12, _⟩ => ⟨S2x8192x512, .bf16⟩
  | .hbm, ⟨13, _⟩ => ⟨S2x8192x512, .bf16⟩
  | .hbm, ⟨14, _⟩ => ⟨S2x512x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S512x1024, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .f32⟩
  | .local _ .vmem, ⟨14, _⟩ => ⟨S1x512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
variable {F : FTy → Type} [FloatOps F] [Named F]
def κ : String → Option EReal := fun
  | "scale" => some (((1 / 8) * (Real.log 2)⁻¹ : ℝ) : EReal)
  | _ => none
-- ==== Reference3Ideal.lean ====
abbrev S2x8192x1024 : Shape := ⟨3, ![2, 8192, 1024]⟩
abbrev S2x6144 : Shape := ⟨2, ![2, 6144]⟩
abbrev S1024 : Shape := ⟨1, ![1024]⟩
abbrev S1024x2048 : Shape := ⟨2, ![1024, 2048]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x512 : Shape := ⟨3, ![2, 8192, 512]⟩
abbrev S2x512x8192 : Shape := ⟨3, ![2, 512, 8192]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x2048, .f32⟩
  | .hbm, ⟨4, _⟩ => ⟨S2x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x2048, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S_, .f32⟩
  | .hbm, ⟨37, _⟩ => ⟨S2x8192x512, .f32⟩
  | .hbm, ⟨38, _⟩ => ⟨S2x8192x512, .f32⟩
  | .hbm, ⟨39, _⟩ => ⟨S_, .f32⟩
  | .hbm, ⟨40, _⟩ => ⟨S_, .f32⟩
  | .hbm, ⟨41, _⟩ => ⟨S2x8192x512, .f32⟩
  | .hbm, ⟨42, _⟩ => ⟨S2x8192x512, .f32⟩
  | .hbm, ⟨43, _⟩ => ⟨S2x8192x512, .bf16⟩
  | .hbm, ⟨44, _⟩ => ⟨S2x8192x512, .bf16⟩
  | .hbm, ⟨45, _⟩ => ⟨S2x8192x512, .bf16⟩
  | .hbm, ⟨46, _⟩ => ⟨S2x512x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel2.lean ====
abbrev S2x8192x512 : Shape := ⟨3, ![2, 8192, 512]⟩
abbrev S64 : Shape := ⟨1, ![64]⟩
abbrev S128 : Shape := ⟨1, ![128]⟩
abbrev S_ : Shape := ⟨0, ![]⟩
abbrev S1 : Shape := ⟨1, ![1]⟩
abbrev S1x128 : Shape := ⟨2, ![1, 128]⟩
abbrev S1x1024x128 : Shape := ⟨3, ![1, 1024, 128]⟩
abbrev S1x8192x128 : Shape := ⟨3, ![1, 8192, 128]⟩
abbrev S2048x128 : Shape := ⟨2, ![2048, 128]⟩
abbrev S1024x128 : Shape := ⟨2, ![1024, 128]⟩
abbrev S512x128 : Shape := ⟨2, ![512, 128]⟩
abbrev S2048x1024 : Shape := ⟨2, ![2048, 1024]⟩
abbrev S2048 : Shape := ⟨1, ![2048]⟩
abbrev S2048x1 : Shape := ⟨2, ![2048, 1]⟩
abbrev S1x512x128 : Shape := ⟨3, ![1, 512, 128]⟩
abbrev S1024x512 : Shape := ⟨2, ![1024, 512]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 31
  | .vmem => 12
  | .smem => 1
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x8192x512, .f32⟩
  | .hbm, ⟨25, _⟩ => ⟨S2x8192x512, .f32⟩
  | .hbm, ⟨26, _⟩ => ⟨S2x8192x512, .bf16⟩
  | .hbm, ⟨27, _⟩ => ⟨S2x8192x512, .bf16⟩
  | .hbm, ⟨28, _⟩ => ⟨S2x8192x512, .bf16⟩
  | .hbm, ⟨29, _⟩ => ⟨S1x128, .f32⟩
  | .hbm, ⟨30, _⟩ => ⟨S2x8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128, .f32⟩
  | .local _ .vmem, ⟨7, _⟩ => ⟨S1x1024x128, .bf16⟩
  | .local _ .vmem, ⟨8, _⟩ => ⟨S1x1024x128, .bf16⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .smem, ⟨0, _⟩ => ⟨S1, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32_17 : BitVec 32 := 0#32
  let arg2 : BitVec 32 := BitVec.ofNat 32 (i 2).val
  let c0_i32 : BitVec 32 := 0#32
  let v28 : BitVec 1 := Scalar.cmpi .sgt arg2 c0_i32
  let v29 : BitVec 32 := Scalar.extui v28
  let c0_i32_12 : BitVec 32 := 0#32
  let v30 : BitVec 1 := Scalar.cmpi .slt arg2 c0_i32_12
  let v31 : BitVec 32 := Scalar.extui v30
  let v32 : BitVec 32 := Scalar.subi v29 v31
  let c2_i32 : BitVec 32 := 2#32
  let c0_i32_13 : BitVec 32 := 0#32
  let v33 : BitVec 1 := Scalar.cmpi .sgt c2_i32 c0_i32_13
  let v34 : BitVec 32 := Scalar.extui v33
  let c0_i32_14 : BitVec 32 := 0#32
  let v35 : BitVec 1 := Scalar.cmpi .slt c2_i32 c0_i32_14
  let v36 : BitVec 32 := Scalar.extui v35
  let v37 : BitVec 32 := Scalar.subi v34 v36
  let v38 : BitVec 1 := Scalar.cmpi .ne v32 v37
  let v39 : BitVec 32 := Scalar.remsi arg2 c2_i32
  let c0_i32_15 : BitVec 32 := 0#32
  let v40 : BitVec 1 := Scalar.cmpi .ne v39 c0_i32_15
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_19 : BitVec 32 := 1#32
  ⟨c0_i32_17, v48, c1_i32_19⟩
def k0_mult1 (i : grid0.Coords) (k0_t1 : Fin (k0_t1_loop i).trips) : BitVec 32 :=
  let c2_i32_86 : BitVec 32 := 2#32
  let c0_i32_17 : BitVec 32 := 0#32
  let c1_i32_19 : BitVec 32 := 1#32
  let arg12 : BitVec 32 := Scf.iv c0_i32_17 c1_i32_19 k0_t1
  let v212 : BitVec 32 := Scalar.muli c2_i32_86 arg12
  let c1024_i32_87 : BitVec 32 := 1024#32
  let v213 : BitVec 32 := Scalar.muli v212 c1024_i32_87
  v213
def k0_off1 (i : grid0.Coords) (k0_t1 : Fin (k0_t1_loop i).trips) : Fin 3 → Nat :=
  let c0_88 : Index := 0#32
  let c2_i32_86 : BitVec 32 := 2#32
  let c0_i32_17 : BitVec 32 := 0#32
  let c1_i32_19 : BitVec 32 := 1#32
  let arg12 : BitVec 32 := Scf.iv c0_i32_17 c1_i32_19 k0_t1
  let v212 : BitVec 32 := Scalar.muli c2_i32_86 arg12
  let c1024_i32_87 : BitVec 32 := 1024#32
  let v213 : BitVec 32 := Scalar.muli v212 c1024_i32_87
  let v214 : BitVec 32 := v213
  let v215 : Index := Scalar.indexCast v214
  let c0_89 : Index := 0#32
  ![0, v215.toNat, 0]
def k0_mult2 (i : grid0.Coords) (k0_t1 : Fin (k0_t1_loop i).trips) : BitVec 32 :=
  let c2_i32_107 : BitVec 32 := 2#32
  let c0_i32_17 : BitVec 32 := 0#32
  let c1_i32_19 : BitVec 32 := 1#32
  let arg12 : BitVec 32 := Scf.iv c0_i32_17 c1_i32_19 k0_t1
  let v264 : BitVec 32 := Scalar.muli c2_i32_107 arg12
  let c1_i32_108 : BitVec 32 := 1#32
  let v265 : BitVec 32 := Scalar.addi v264 c1_i32_108
  let c1024_i32_109 : BitVec 32 := 1024#32
  let v266 : BitVec 32 := Scalar.muli v265 c1024_i32_109
  v266
def k0_off2 (i : grid0.Coords) (k0_t1 : Fin (k0_t1_loop i).trips) : Fin 3 → Nat :=
  let c0_110 : Index := 0#32
  let c2_i32_107 : BitVec 32 := 2#32
  let c0_i32_17 : BitVec 32 := 0#32
  let c1_i32_19 : BitVec 32 := 1#32
  let arg12 : BitVec 32 := Scf.iv c0_i32_17 c1_i32_19 k0_t1
  let v264 : BitVec 32 := Scalar.muli c2_i32_107 arg12
  let c1_i32_108 : BitVec 32 := 1#32
  let v265 : BitVec 32 := Scalar.addi v264 c1_i32_108
  let c1024_i32_109 : BitVec 32 := 1024#32
  let v266 : BitVec 32 := Scalar.muli v265 c1024_i32_109
  let v267 : BitVec 32 := v266
  let v268 : Index := Scalar.indexCast v267
  let c0_111 : Index := 0#32
  ![0, v268.toNat, 0]
@[reducible] def k0_t2_loop (i : grid0.Coords) : Scf.Loop 32 :=
  let c0_i32_17 : BitVec 32 := 0#32
  let arg2 : BitVec 32 := BitVec.ofNat 32 (i 2).val
  let c0_i32 : BitVec 32 := 0#32
  let v28 : BitVec 1 := Scalar.cmpi .sgt arg2 c0_i32
  let v29 : BitVec 32 := Scalar.extui v28
  let c0_i32_12 : BitVec 32 := 0#32
  let v30 : BitVec 1 := Scalar.cmpi .slt arg2 c0_i32_12
  let v31 : BitVec 32 := Scalar.extui v30
  let v32 : BitVec 32 := Scalar.subi v29 v31
  let c2_i32 : BitVec 32 := 2#32
  let c0_i32_13 : BitVec 32 := 0#32
  let v33 : BitVec 1 := Scalar.cmpi .sgt c2_i32 c0_i32_13
  let v34 : BitVec 32 := Scalar.extui v33
  let c0_i32_14 : BitVec 32 := 0#32
  let v35 : BitVec 1 := Scalar.cmpi .slt c2_i32 c0_i32_14
  let v36 : BitVec 32 := Scalar.extui v35
  let v37 : BitVec 32 := Scalar.subi v34 v36
  let v38 : BitVec 1 := Scalar.cmpi .ne v32 v37
  let v39 : BitVec 32 := Scalar.remsi arg2 c2_i32
  let c0_i32_15 : BitVec 32 := 0#32
  let v40 : BitVec 1 := Scalar.cmpi .ne v39 c0_i32_15
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let v45 : BitVec 32 := Scalar.addi c0_i32_17 v44
  let c1_i32_20 : BitVec 32 := 1#32
  ⟨v48, v45, c1_i32_20⟩
def k0_mult3 (i : grid0.Coords) (k0_t2 : Fin (k0_t2_loop i).trips) : BitVec 32 :=
  let c2_i32_86 : BitVec 32 := 2#32
  let c0_i32_17 : BitVec 32 := 0#32
  let arg2 : BitVec 32 := BitVec.ofNat 32 (i 2).val
  let c0_i32 : BitVec 32 := 0#32
  let v28 : BitVec 1 := Scalar.cmpi .sgt arg2 c0_i32
  let v29 : BitVec 32 := Scalar.extui v28
  let c0_i32_12 : BitVec 32 := 0#32
  let v30 : BitVec 1 := Scalar.cmpi .slt arg2 c0_i32_12
  let v31 : BitVec 32 := Scalar.extui v30
  let v32 : BitVec 32 := Scalar.subi v29 v31
  let c2_i32 : BitVec 32 := 2#32
  let c0_i32_13 : BitVec 32 := 0#32
  let v33 : BitVec 1 := Scalar.cmpi .sgt c2_i32 c0_i32_13
  let v34 : BitVec 32 := Scalar.extui v33
  let c0_i32_14 : BitVec 32 := 0#32
  let v35 : BitVec 1 := Scalar.cmpi .slt c2_i32 c0_i32_14
  let v36 : BitVec 32 := Scalar.extui v35
  let v37 : BitVec 32 := Scalar.subi v34 v36
  let v38 : BitVec 1 := Scalar.cmpi .ne v32 v37
  let v39 : BitVec 32 := Scalar.remsi arg2 c2_i32
  let c0_i32_15 : BitVec 32 := 0#32
  let v40 : BitVec 1 := Scalar.cmpi .ne v39 c0_i32_15
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t2
  let v212 : BitVec 32 := Scalar.muli c2_i32_86 arg12
  let c1024_i32_87 : BitVec 32 := 1024#32
  let v213 : BitVec 32 := Scalar.muli v212 c1024_i32_87
  v213
def k0_off3 (i : grid0.Coords) (k0_t2 : Fin (k0_t2_loop i).trips) : Fin 3 → Nat :=
  let c0_88 : Index := 0#32
  let c2_i32_86 : BitVec 32 := 2#32
  let c0_i32_17 : BitVec 32 := 0#32
  let arg2 : BitVec 32 := BitVec.ofNat 32 (i 2).val
  let c0_i32 : BitVec 32 := 0#32
  let v28 : BitVec 1 := Scalar.cmpi .sgt arg2 c0_i32
  let v29 : BitVec 32 := Scalar.extui v28
  let c0_i32_12 : BitVec 32 := 0#32
  let v30 : BitVec 1 := Scalar.cmpi .slt arg2 c0_i32_12
  let v31 : BitVec 32 := Scalar.extui v30
  let v32 : BitVec 32 := Scalar.subi v29 v31
  let c2_i32 : BitVec 32 := 2#32
  let c0_i32_13 : BitVec 32 := 0#32
  let v33 : BitVec 1 := Scalar.cmpi .sgt c2_i32 c0_i32_13
  let v34 : BitVec 32 := Scalar.extui v33
  let c0_i32_14 : BitVec 32 := 0#32
  let v35 : BitVec 1 := Scalar.cmpi .slt c2_i32 c0_i32_14
  let v36 : BitVec 32 := Scalar.extui v35
  let v37 : BitVec 32 := Scalar.subi v34 v36
  let v38 : BitVec 1 := Scalar.cmpi .ne v32 v37
  let v39 : BitVec 32 := Scalar.remsi arg2 c2_i32
  let c0_i32_15 : BitVec 32 := 0#32
  let v40 : BitVec 1 := Scalar.cmpi .ne v39 c0_i32_15
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t2
  let v212 : BitVec 32 := Scalar.muli c2_i32_86 arg12
  let c1024_i32_87 : BitVec 32 := 1024#32
  let v213 : BitVec 32 := Scalar.muli v212 c1024_i32_87
  let v214 : BitVec 32 := v213
  let v215 : Index := Scalar.indexCast v214
  let c0_89 : Index := 0#32
  ![0, v215.toNat, 0]
def k0_mult4 (i : grid0.Coords) (k0_t2 : Fin (k0_t2_loop i).trips) : BitVec 32 :=
  let c2_i32_107 : BitVec 32 := 2#32
  let c0_i32_17 : BitVec 32 := 0#32
  let arg2 : BitVec 32 := BitVec.ofNat 32 (i 2).val
  let c0_i32 : BitVec 32 := 0#32
  let v28 : BitVec 1 := Scalar.cmpi .sgt arg2 c0_i32
  let v29 : BitVec 32 := Scalar.extui v28
  let c0_i32_12 : BitVec 32 := 0#32
  let v30 : BitVec 1 := Scalar.cmpi .slt arg2 c0_i32_12
  let v31 : BitVec 32 := Scalar.extui v30
  let v32 : BitVec 32 := Scalar.subi v29 v31
  let c2_i32 : BitVec 32 := 2#32
  let c0_i32_13 : BitVec 32 := 0#32
  let v33 : BitVec 1 := Scalar.cmpi .sgt c2_i32 c0_i32_13
  let v34 : BitVec 32 := Scalar.extui v33
  let c0_i32_14 : BitVec 32 := 0#32
  let v35 : BitVec 1 := Scalar.cmpi .slt c2_i32 c0_i32_14
  let v36 : BitVec 32 := Scalar.extui v35
  let v37 : BitVec 32 := Scalar.subi v34 v36
  let v38 : BitVec 1 := Scalar.cmpi .ne v32 v37
  let v39 : BitVec 32 := Scalar.remsi arg2 c2_i32
  let c0_i32_15 : BitVec 32 := 0#32
  let v40 : BitVec 1 := Scalar.cmpi .ne v39 c0_i32_15
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t2
  let v264 : BitVec 32 := Scalar.muli c2_i32_107 arg12
  let c1_i32_108 : BitVec 32 := 1#32
  let v265 : BitVec 32 := Scalar.addi v264 c1_i32_108
  let c1024_i32_109 : BitVec 32 := 1024#32
  let v266 : BitVec 32 := Scalar.muli v265 c1024_i32_109
  v266
def k0_off4 (i : grid0.Coords) (k0_t2 : Fin (k0_t2_loop i).trips) : Fin 3 → Nat :=
  let c0_110 : Index := 0#32
  let c2_i32_107 : BitVec 32 := 2#32
  let c0_i32_17 : BitVec 32 := 0#32
  let arg2 : BitVec 32 := BitVec.ofNat 32 (i 2).val
  let c0_i32 : BitVec 32 := 0#32
  let v28 : BitVec 1 := Scalar.cmpi .sgt arg2 c0_i32
  let v29 : BitVec 32 := Scalar.extui v28
  let c0_i32_12 : BitVec 32 := 0#32
  let v30 : BitVec 1 := Scalar.cmpi .slt arg2 c0_i32_12
  let v31 : BitVec 32 := Scalar.extui v30
  let v32 : BitVec 32 := Scalar.subi v29 v31
  let c2_i32 : BitVec 32 := 2#32
  let c0_i32_13 : BitVec 32 := 0#32
  let v33 : BitVec 1 := Scalar.cmpi .sgt c2_i32 c0_i32_13
  let v34 : BitVec 32 := Scalar.extui v33
  let c0_i32_14 : BitVec 32 := 0#32
  let v35 : BitVec 1 := Scalar.cmpi .slt c2_i32 c0_i32_14
  let v36 : BitVec 32 := Scalar.extui v35
  let v37 : BitVec 32 := Scalar.subi v34 v36
  let v38 : BitVec 1 := Scalar.cmpi .ne v32 v37
  let v39 : BitVec 32 := Scalar.remsi arg2 c2_i32
  let c0_i32_15 : BitVec 32 := 0#32
  let v40 : BitVec 1 := Scalar.cmpi .ne v39 c0_i32_15
  let v41 : BitVec 1 := Scalar.andi v38 v40
  let v27 : BitVec 32 := Scalar.divsi arg2 c2_i32
  let c1_i32 : BitVec 32 := 1#32
  let v42 : BitVec 32 := Scalar.subi v27 c1_i32
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg12 : BitVec 32 := Scf.iv v48 c1_i32_20 k0_t2
  let v264 : BitVec 32 := Scalar.muli c2_i32_107 arg12
  let c1_i32_108 : BitVec 32 := 1#32
  let v265 : BitVec 32 := Scalar.addi v264 c1_i32_108
  let c1024_i32_109 : BitVec 32 := 1024#32
  let v266 : BitVec 32 := Scalar.muli v265 c1024_i32_109
  let v267 : BitVec 32 := v266
  let v268 : Index := Scalar.indexCast v267
  let c0_111 : Index := 0#32
  ![0, v268.toNat, 0]
def k0_cond1 (i : grid0.Coords) : BitVec 1 :=
  let arg2 : BitVec 32 := BitVec.ofNat 32 (i 2).val
  let c2_i32_21 : BitVec 32 := 2#32
  let c0_i32_22 : BitVec 32 := 0#32
  let v49 : BitVec 1 := Scalar.cmpi .eq c2_i32_21 c0_i32_22
  let c1_i32_23 : BitVec 32 := 1#32
  let v50 : BitVec 32 := Scalar.select v49 c1_i32_23 c2_i32_21
  let v51 : BitVec 32 := Scalar.remsi arg2 v50
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let c0_i32_24 : BitVec 32 := 0#32
  let v52 : BitVec 1 := Scalar.cmpi .ne v51 c0_i32_24
  let v56 : BitVec 1 := Scalar.andi v55 v52
  let v57 : BitVec 32 := Scalar.addi v51 v50
  let v58 : BitVec 32 := Scalar.select v56 v57 v51
  let c1_i32_27 : BitVec 32 := 1#32
  let v59 : BitVec 1 := Scalar.cmpi .eq v58 c1_i32_27
  let v60 : BitVec 32 := Scalar.extui v59
  let c0_i32_28 : BitVec 32 := 0#32
  let v61 : BitVec 1 := Scalar.cmpi .ne v60 c0_i32_28
  v61

def k0_mult5 (i : grid0.Coords) : BitVec 32 :=
  let arg2 : BitVec 32 := BitVec.ofNat 32 (i 2).val
  let c1_i32_86 : BitVec 32 := 1#32
  let v212 : BitVec 32 := Scalar.subi arg2 c1_i32_86
  let c1024_i32_87 : BitVec 32 := 1024#32
  let v213 : BitVec 32 := Scalar.muli v212 c1024_i32_87
  v213
def k0_off5 (i : grid0.Coords) : Fin 3 → Nat :=
  let c0_88 : Index := 0#32
  let arg2 : BitVec 32 := BitVec.ofNat 32 (i 2).val
  let c1_i32_86 : BitVec 32 := 1#32
  let v212 : BitVec 32 := Scalar.subi arg2 c1_i32_86
  let c1024_i32_87 : BitVec 32 := 1024#32
  let v213 : BitVec 32 := Scalar.muli v212 c1024_i32_87
  let v214 : BitVec 32 := v213
  let v215 : Index := Scalar.indexCast v214
  let c0_89 : Index := 0#32
  ![0, v215.toNat, 0]
def k0_mult6 (i : grid0.Coords) : BitVec 32 :=
  let arg2 : BitVec 32 := BitVec.ofNat 32 (i 2).val
  let c1024_i32 : BitVec 32 := 1024#32
  let v62 : BitVec 32 := Scalar.muli arg2 c1024_i32
  v62
def k0_off6 (i : grid0.Coords) : Fin 3 → Nat :=
  let c0_29 : Index := 0#32
  let arg2 : BitVec 32 := BitVec.ofNat 32 (i 2).val
  let c1024_i32 : BitVec 32 := 1024#32
  let v62 : BitVec 32 := Scalar.muli arg2 c1024_i32
  let v63 : BitVec 32 := v62
  let v64 : Index := Scalar.indexCast v63
  let c0_30 : Index := 0#32
  ![0, v64.toNat, 0]
def k0_mult7 (i : grid0.Coords) : BitVec 32 :=
  let arg2 : BitVec 32 := BitVec.ofNat 32 (i 2).val
  let c1024_i32_50 : BitVec 32 := 1024#32
  let v115 : BitVec 32 := Scalar.muli arg2 c1024_i32_50
  v115
def k0_off7 (i : grid0.Coords) : Fin 3 → Nat :=
  let c0_51 : Index := 0#32
  let arg2 : BitVec 32 := BitVec.ofNat 32 (i 2).val
  let c1024_i32_50 : BitVec 32 := 1024#32
  let v115 : BitVec 32 := Scalar.muli arg2 c1024_i32_50
  let v116 : BitVec 32 := v115
  let v117 : Index := Scalar.indexCast v116
  let c0_52 : Index := 0#32
  ![0, v117.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S2x8192x512 : Shape := ⟨3, ![2, 8192, 512]⟩
abbrev S64 : Shape := ⟨1, ![64]⟩
abbrev S128 : Shape := ⟨1, ![128]⟩
abbrev S_ : Shape := ⟨0, ![]⟩
abbrev S2x8192x4x2x64 : Shape := ⟨5, ![2, 8192, 4, 2, 64]⟩
abbrev S2x8192x4x128 : Shape := ⟨4, ![2, 8192, 4, 128]⟩
abbrev S2x4x2x8192x8192 : Shape := ⟨5, ![2, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x8192x512, .f32⟩
  | .hbm, ⟨21, _⟩ => ⟨S2x8192x512, .f32⟩
  | .hbm, ⟨22, _⟩ => ⟨S2x8192x4x2x64, .f32⟩
  | .hbm, ⟨23, _⟩ => ⟨S2x8192x4x2x64, .f32⟩
  | .hbm, ⟨24, _⟩ => ⟨S2x8192x4x128, .f32⟩
  | .hbm, ⟨25, _⟩ => ⟨S2x4x2x8192x8192, .f32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S2x4x2x8192x8192, .i1⟩
  | .hbm, ⟨35, _⟩ => ⟨S2x4x2x8192x8192, .f32⟩
  | .hbm, ⟨36, _⟩ => ⟨S2x4x2x8192x8192, .f32⟩
  | .hbm, ⟨37, _⟩ => ⟨S_, .f32⟩
  | .hbm, ⟨38, _⟩ => ⟨S2x4x2x8192, .f32⟩
  | .hbm, ⟨39, _⟩ => ⟨S_, .f32⟩
  | .hbm, ⟨40, _⟩ => ⟨S2x4x2x8192, .f32⟩
  | .hbm, ⟨41, _⟩ => ⟨S2x4x2x8192, .f32⟩
  | .hbm, ⟨42, _⟩ => ⟨S2x4x2x8192x1, .f32⟩
  | .hbm, ⟨43, _⟩ => ⟨S2x4x2x8192x8192, .f32⟩
  | .hbm, ⟨44, _⟩ => ⟨S2x4x2x8192x8192, .f32⟩
  | .hbm, ⟨45, _⟩ => ⟨S2x4x2x8192x8192, .f32⟩
  | .hbm, ⟨46, _⟩ => ⟨S_, .f32⟩
  | .hbm, ⟨47, _⟩ => ⟨S2x4x2x8192, .f32⟩
  | .hbm, ⟨48, _⟩ => ⟨S2x4x2x8192x1, .f32⟩
  | .hbm, ⟨49, _⟩ => ⟨S2x4x2x8192x8192, .f32⟩
  | .hbm, ⟨50, _⟩ => ⟨S2x4x2x8192x8192, .f32⟩
  | .hbm, ⟨51, _⟩ => ⟨S2x4x1x8192x8192, .f32⟩
  | .hbm, ⟨52, _⟩ => ⟨S2x4x8192x8192, .f32⟩
  | .hbm, ⟨53, _⟩ => ⟨S2x4x1x8192x8192, .f32⟩
  | .hbm, ⟨54, _⟩ => ⟨S2x4x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S2x4x128x8192, .f32⟩
  | .hbm, ⟨59, _⟩ => ⟨S2x8192x4x128, .f32⟩
  | .hbm, ⟨60, _⟩ => ⟨S2x8192x4x128, .f32⟩
  | .hbm, ⟨61, _⟩ => ⟨S_, .f32⟩
  | .hbm, ⟨62, _⟩ => ⟨S2x8192x4, .f32⟩
  | .hbm, ⟨63, _⟩ => ⟨S2x8192x4x1, .f32⟩
  | .hbm, ⟨64, _⟩ => ⟨S_, .f32⟩
  | .hbm, ⟨65, _⟩ => ⟨S2x8192x4x1, .f32⟩
  | .hbm, ⟨66, _⟩ => ⟨S2x8192x4x1, .f32⟩
  | .hbm, ⟨67, _⟩ => ⟨S_, .f32⟩
  | .hbm, ⟨68, _⟩ => ⟨S2x8192x4x1, .f32⟩
  | .hbm, ⟨69, _⟩ => ⟨S2x8192x4x1, .f32⟩
  | .hbm, ⟨70, _⟩ => ⟨S2x8192x4x1, .f32⟩
  | .hbm, ⟨71, _⟩ => ⟨S2x8192x4x128, .f32⟩
  | .hbm, ⟨72, _⟩ => ⟨S2x8192x4x128, .f32⟩
  | .hbm, ⟨73, _⟩ => ⟨S1x1x1x128, .f32⟩
  | .hbm, ⟨74, _⟩ => ⟨S2x8192x4x128, .f32⟩
  | .hbm, ⟨75, _⟩ => ⟨S2x8192x4x128, .f32⟩
  | .hbm, ⟨76, _⟩ => ⟨S_, .f32⟩
  | .hbm, ⟨77, _⟩ => ⟨S2x8192x4x128, .f32⟩
  | .hbm, ⟨78, _⟩ => ⟨S2x8192x4x128, .f32⟩
  | .hbm, ⟨79, _⟩ => ⟨S2x8192x512, .f32⟩
  | .hbm, ⟨80, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel.lean ====
abbrev S2x196352x256 : Shape := ⟨3, ![2, 196352, 256]⟩
abbrev S2x8x8192 : Shape := ⟨3, ![2, 8, 8192]⟩
abbrev S8x2x8192 : Shape := ⟨3, ![8, 2, 8192]⟩
abbrev S8x16384 : Shape := ⟨2, ![8, 16384]⟩
abbrev S131072 : Shape := ⟨1, ![131072]⟩
abbrev S_ : Shape := ⟨0, ![]⟩
abbrev S262144 : Shape := ⟨1, ![262144]⟩
abbrev S392704x256 : Shape := ⟨2, ![392704, 256]⟩
abbrev S1x262144 : Shape := ⟨2, ![1, 262144]⟩
abbrev S262144x256 : Shape := ⟨2, ![262144, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S392704x128 : Shape := ⟨2, ![392704, 128]⟩

abbrev nBuf : Table → Nat
  | .hbm => 13
  | .local .scVector .vmem => 2
  | _ => 0

abbrev bufTy : (tb : Table) → Fin (nBuf tb) → BufTy
  | .hbm, ⟨0, _⟩ => ⟨S2x196352x256, .i32⟩
  | .hbm, ⟨1, _⟩ => ⟨S2x8x8192, .i32⟩
  | .hbm, ⟨2, _⟩ => ⟨S8x2x8192, .i32⟩
  | .hbm, ⟨3, _⟩ => ⟨S8x16384, .i32⟩
  | .hbm, ⟨4, _⟩ => ⟨S131072, .i32⟩
  | .hbm, ⟨5, _⟩ => ⟨S_, .i32⟩
  | .hbm, ⟨6, _⟩ => ⟨S8x16384, .i32⟩
  | .hbm, ⟨7, _⟩ => ⟨S8x16384, .i32⟩
  | .hbm, ⟨8, _⟩ => ⟨S131072, .i32⟩
  | .hbm, ⟨9, _⟩ => ⟨S262144, .i32⟩
  | .hbm, ⟨10, _⟩ => ⟨S392704x256, .i32⟩
  | .hbm, ⟨11, _⟩ => ⟨S1x262144, .i32⟩
  | .hbm, ⟨12, _⟩ => ⟨S262144x256, .i32⟩
  | .local .scVector .vmem, ⟨0, _⟩ => ⟨S2x1x128, .i32⟩
  | .local .scVector .vmem, ⟨1, _⟩ => ⟨S2x128x256, .i32⟩
  | _, _ => ⟨S2x196352x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v7_scv : Ref sig .scVector := ⟨.hbm, 10, rfl⟩
abbrev main_v8_scv : Ref sig .scVector := ⟨.hbm, 11, rfl⟩
abbrev main_v9_scv : Ref sig .scVector := ⟨.hbm, 12, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c64_i32_27_r0 : BitVec 32 := 64#32
  let v32_r0 : BitVec 32 := Scalar.addi c0_i32_26_r0 c64_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_68_r0 : BitVec 32 := 63#32
  let v83_r0 : BitVec 1 := Scalar.cmpi .sge arg5_r0 c63_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_55_r0 : BitVec 32 := 63#32
  let v65_r0 : BitVec 1 := Scalar.cmpi .eq arg5_r0 c63_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x262144.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x262144.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S262144x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S262144x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x262144.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x262144.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S262144x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S262144x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c63_i32_33_r0 : BitVec 32 := 63#32
  let v37_r0 : BitVec 32 := Scalar.select v36_r0 c63_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S262144x256.size a)
theorem k0_off19_inb : ∀ (i : grid0.Coords) (v33_4_r0 : BitVec 32) (k0_hw5 : k0_chk5 i v33_4_r0), ∀ a, (k0_off19 i v33_4_r0) a + S128x256.size a ≤ S262144x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x196352x256 : Shape := ⟨3, ![2, 196352, 256]⟩
abbrev S2x8x8192 : Shape := ⟨3, ![2, 8, 8192]⟩
abbrev S8x2x8192 : Shape := ⟨3, ![8, 2, 8192]⟩
abbrev S_ : Shape := ⟨0, ![]⟩
abbrev S8x2x8192x1 : Shape := ⟨4, ![8, 2, 8192, 1]⟩
abbrev S2x8x2x8192x256 : Shape := ⟨5, ![2, 8, 2, 8192, 256]⟩
abbrev S262144x256 : Shape := ⟨2, ![262144, 256]⟩

abbrev nBuf : Space → Nat
  | .hbm => 13
  | .vmem => 0
  | .smem => 0
  | _ => 0

abbrev bufTy : (tb : Table) → Fin (tcTables nBuf tb) → BufTy
  | .hbm, ⟨0, _⟩ => ⟨S2x196352x256, .i32⟩
  | .hbm, ⟨1, _⟩ => ⟨S2x8x8192, .i32⟩
  | .hbm, ⟨2, _⟩ => ⟨S8x2x8192, .i32⟩
  | .hbm, ⟨3, _⟩ => ⟨S_, .i32⟩
  | .hbm, ⟨4, _⟩ => ⟨S8x2x8192, .i32⟩
  | .hbm, ⟨5, _⟩ => ⟨S8x2x8192, .i1⟩
  | .hbm, ⟨6, _⟩ => ⟨S_, .i32⟩
  | .hbm, ⟨7, _⟩ => ⟨S8x2x8192, .i32⟩
  | .hbm, ⟨8, _⟩ => ⟨S8x2x8192, .i32⟩
  | .hbm, ⟨9, _⟩ => ⟨S8x2x8192, .i32⟩
  | .hbm, ⟨10, _⟩ => ⟨S8x2x8192x1, .i32⟩
  | .hbm, ⟨11, _⟩ => ⟨S2x8x2x8192x256, .i32⟩
  | .hbm, ⟨12, _⟩ => ⟨S262144x256, .i32⟩
  | _, _ => ⟨S2x196352x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Words.lean ====
/-
  The pipeline's words. A tile walks 64 blocks; five words travel with the trip: index fetches issued, index fetches
  waited for, output copies issued, output copies waited for, and the step. At trip `k` they are `k + 1` (never more
  than 64), `k`, `k`, `k - 1` and `k`, so every guard and every offset of the trip is a closed form in `k`; each closed
  form is checked at every tile and trip.
-/
module

public import proofs.«01_k».proof.Defs
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic

/-- Tile `s` of SparseCore `c`, as grid coordinates. -/
def at2 (c : Fin 2) (s : Fin 16) : grid0.Coords :=
  fun | 0 => c | 1 => s | ⟨_ + 2, h⟩ => absurd h (Nat.not_lt.2 (Nat.le_add_left _ _))

/-- The tile's number: its blocks are `64 * tileNo … 64 * tileNo + 63`. -/
def tileNo (c : Fin 2) (s : Fin 16) : Nat := s.val + 16 * c.val

theorem trips_eq : k0_t1_loop.trips = 64 := by decide +kernel

/-- The words carried into trip `k`. -/
def wFetched (k : Nat) : BitVec 32 := BitVec.ofNat 32 (min (k + 1) 64)
def wRead (k : Nat) : BitVec 32 := BitVec.ofNat 32 k
def wSent (k : Nat) : BitVec 32 := BitVec.ofNat 32 k
def wDone (k : Nat) : BitVec 32 := BitVec.ofNat 32 (k - 1)
def wStep (k : Nat) : BitVec 32 := BitVec.ofNat 32 (k % 64)

/-- The five words of trip `k` together. -/
abbrev words (k : Nat) : BitVec 32 × BitVec 32 × BitVec 32 × BitVec 32 × BitVec 32 :=
  (wFetched k, wRead k, wSent k, wDone k, wStep k)

/-- The next block's indices are fetched at every trip but the last. -/
theorem guard_fetch : ∀ (c : Fin 2) (s : Fin 16) (k : Fin k0_t1_loop.trips),
    k0_cond1 (at2 c s) k (wStep k.val) = if k.val < 63 then 1#1 else 0#1 := by decide +kernel
/-- This block's indices are waited for at every trip. -/
theorem guard_await : ∀ (c : Fin 2) (s : Fin 16) (k : Fin k0_t1_loop.trips),
    k0_cond2 (at2 c s) k (wStep k.val) = 1#1 := by decide +kernel
/-- The gathered block is sent at every trip. -/
theorem guard_send : ∀ (c : Fin 2) (s : Fin 16) (k : Fin k0_t1_loop.trips),
    k0_cond5 (at2 c s) k (wStep k.val) = 1#1 := by decide +kernel
/-- The block sent one trip before is waited for at every trip but the first. -/
theorem guard_done : ∀ (c : Fin 2) (s : Fin 16) (k : Fin k0_t1_loop.trips),
    k0_cond7 (at2 c s) k (wStep k.val) = if 0 < k.val then 1#1 else 0#1 := by decide +kernel

/-! ## The offsets, in the trip's number -/

theorem offFetch_slot : ∀ k : Fin k0_t1_loop.trips, k.val < 63 → k0_off4 (wFetched k.val) = ![(k.val + 1) % 2, 0, 0] := by decide +kernel
theorem offFetch_cell : ∀ k : Fin k0_t1_loop.trips, k.val < 63 → k0_off6 (wFetched k.val) = ![(k.val + 1) % 2] := by decide +kernel
theorem offFetch_src : ∀ (c : Fin 2) (s : Fin 16) (k : Fin k0_t1_loop.trips), k.val < 63 →
    k0_off5 (at2 c s) (wStep k.val) = ![0, 128 * (64 * tileNo c s + (k.val + 1))] := by decide +kernel
theorem offAwait_slot : ∀ k : Fin k0_t1_loop.trips, k0_off7 (wRead k.val) = ![k.val % 2, 0, 0] := by decide +kernel
theorem offAwait_src : ∀ (c : Fin 2) (s : Fin 16) (k : Fin k0_t1_loop.trips),
    k0_off8 (at2 c s) (wStep k.val) = ![0, 128 * (64 * tileNo c s + k.val)] := by decide +kernel
theorem offAwait_cell : ∀ k : Fin k0_t1_loop.trips, k0_off9 (wRead k.val) = ![k.val % 2] := by decide +kernel
theorem offGather_slot : ∀ k : Fin k0_t1_loop.trips, k0_off10 (wSent k.val) = ![k.val % 2, 0, 0] := by decide +kernel
theorem offGather_list : ∀ k : Fin k0_t1_loop.trips, k0_off11 (wRead k.val) = ![k.val % 2, 0, 0] := by decide +kernel
theorem offSend_slot : ∀ k : Fin k0_t1_loop.trips, k0_off12 (wSent k.val) = ![k.val % 2, 0, 0] := by decide +kernel
theorem offSend_dst : ∀ (c : Fin 2) (s : Fin 16) (k : Fin k0_t1_loop.trips),
    k0_off13 (at2 c s) (wStep k.val) = ![128 * (64 * tileNo c s + k.val), 0] := by decide +kernel
theorem offSend_cell : ∀ k : Fin k0_t1_loop.trips, k0_off14 (wSent k.val) = ![k.val % 2] := by decide +kernel
theorem offDone_slot : ∀ k : Fin k0_t1_loop.trips, 0 < k.val → k0_off15 (wDone k.val) = ![(k.val + 1) % 2, 0, 0] := by decide +kernel
theorem offDone_dst : ∀ (c : Fin 2) (s : Fin 16) (k : Fin k0_t1_loop.trips), 0 < k.val →
    k0_off16 (at2 c s) (wStep k.val) = ![128 * (64 * tileNo c s + (k.val - 1)), 0] := by decide +kernel
theorem offDone_cell : ∀ k : Fin k0_t1_loop.trips, 0 < k.val → k0_off17 (wDone k.val) = ![(k.val + 1) % 2] := by decide +kernel

theorem offFirst_slot : k0_off1 = ![0, 0, 0] := by decide +kernel
theorem offFirst_src : ∀ (c : Fin 2) (s : Fin 16), k0_off2 (at2 c s) = ![0, 128 * (64 * tileNo c s + 0)] := by decide +kernel
theorem offFirst_cell : k0_off3 = ![0] := by decide +kernel
theorem offLast_dst : ∀ (c : Fin 2) (s : Fin 16), k0_off19 (at2 c s) (wStep 64) = ![128 * (64 * tileNo c s + 63), 0] := by decide +kernel
theorem offLast_cell : k0_off20 (wDone 64) = ![1] := by decide +kernel
theorem offLast_slot : k0_off21 (wDone 64) = ![1, 0, 0] := by decide +kernel

/-! ## The checks the body makes of its words -/

theorem check_trip : ∀ (c : Fin 2) (s : Fin 16) (k : Fin k0_t1_loop.trips),
    k0_chk1 (at2 c s) k (wFetched k.val) (wRead k.val) (wSent k.val) (wDone k.val) (wStep k.val) := by decide +kernel
theorem check_sent : ∀ k : Fin k0_t1_loop.trips, k0_chk2 (wSent k.val) := by decide +kernel
theorem check_read : ∀ k : Fin k0_t1_loop.trips, k0_chk3 (wRead k.val) := by decide +kernel
theorem check_lastSlot : k0_chk4 (wDone 64) := by decide +kernel
theorem check_lastBlock : ∀ (c : Fin 2) (s : Fin 16), k0_chk5 (at2 c s) (wStep 64) := by decide +kernel

/-! ## The words carried to the next trip -/

/-- The number of the step after `w`, and of the one before, among the 64. -/
abbrev stepUp (w : BitVec 32) : BitVec 32 :=
  Scalar.select (Scalar.cmpi .eq (Scalar.select 1#1 (Scalar.addi w 1#32) w) 64#32) 0#32 (Scalar.select 1#1 (Scalar.addi w 1#32) w)
abbrev stepDown (w : BitVec 32) : BitVec 32 :=
  Scalar.select (Scalar.cmpi .eq (Scalar.select 1#1 (Scalar.subi w 1#32) w) 4294967295#32) 63#32 (Scalar.select 1#1 (Scalar.subi w 1#32) w)
/-- The tile's first block, as the word the body computes. -/
abbrev tileWord (c : Fin 2) (s : Fin 16) : BitVec 32 := BitVec.ofNat 32 (64 * tileNo c s)

theorem next_fetched : ∀ (c : Fin 2) (s : Fin 16) (k : Fin k0_t1_loop.trips),
    Scalar.select (Scalar.andi (Scalar.andi
        (Scalar.cmpi .ne (Scalar.addi (wStep k.val) (tileWord c s)) (Scalar.addi (stepUp (wStep k.val)) (tileWord c s)))
        (Scalar.xori (Scalar.cmpi .sge (Scf.iv 0#32 1#32 k) 63#32) 1#1)) 1#1)
      (Scalar.addi (wFetched k.val) 1#32) (wFetched k.val) = wFetched (k.val + 1) := by decide +kernel
theorem next_read : ∀ (c : Fin 2) (s : Fin 16) (k : Fin k0_t1_loop.trips),
    Scalar.select (Scalar.ori
        (Scalar.cmpi .ne (Scalar.addi (wStep k.val) (tileWord c s)) (Scalar.addi (stepUp (wStep k.val)) (tileWord c s)))
        (Scalar.cmpi .eq (Scf.iv 0#32 1#32 k) 63#32))
      (Scalar.addi (wRead k.val) 1#32) (wRead k.val) = wRead (k.val + 1) := by decide +kernel
theorem next_sent : ∀ (c : Fin 2) (s : Fin 16) (k : Fin k0_t1_loop.trips),
    Scalar.select (Scalar.andi (Scalar.ori
        (Scalar.cmpi .ne (Scalar.addi (wStep k.val) (tileWord c s)) (Scalar.addi (stepUp (wStep k.val)) (tileWord c s)))
        (Scalar.cmpi .eq (Scf.iv 0#32 1#32 k) 63#32)) 1#1)
      (Scalar.addi (wSent k.val) 1#32) (wSent k.val) = wSent (k.val + 1) := by decide +kernel
theorem next_done : ∀ (c : Fin 2) (s : Fin 16) (k : Fin k0_t1_loop.trips),
    Scalar.select (Scalar.andi (Scalar.andi
        (Scalar.cmpi .ne (Scalar.addi (wStep k.val) (tileWord c s)) (Scalar.addi (stepDown (wStep k.val)) (tileWord c s)))
        (Scalar.xori (Scalar.cmpi .eq (Scf.iv 0#32 1#32 k) 0#32) 1#1)) 1#1)
      (Scalar.addi (wDone k.val) 1#32) (wDone k.val) = wDone (k.val + 1) := by decide +kernel
theorem next_step : ∀ k : Fin k0_t1_loop.trips, stepUp (wStep k.val) = wStep (k.val + 1) := by decide +kernel
/-- The word the body computes for its first block. -/
theorem tileWord_eq : ∀ (c : Fin 2) (s : Fin 16),
    Scalar.muli (Scalar.addi (Scalar.addi 0#32 (Scalar.muli (BitVec.ofNat 32 (at2 c s 1).val) 1#32)) (Scalar.muli (BitVec.ofNat 32 (at2 c s 0).val) 16#32)) 64#32
      = tileWord c s := by decide +kernel

end Cert.Proof.Gather

end
-- ==== Proof.Geometry.lean ====
/-
  The tile's memrefs and cells, named by slot parity and block number, and what its transfers move: a block of 128 row
  numbers into an index slot, the two column halves of the rows they name into a row slot, and the row slot to the
  block's 128 rows of the result.
-/
module

public import proofs.«01_k».proof.Proof.Words
public import Idealize.ShloMosaic.Lib.SparseCore.Quiescent
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Ring
public import Idealize.ShloMosaic.Lib.ViewIndex
public import Idealize.ShloMosaic.Lib.ValueIdxCore

@[expose] public section

noncomputable section

namespace Cert.Proof.Gather

open Cert.KernelIdeal Cert.KernelIdeal.Gen
open Idealize.ShloMosaic
open Idealize.ShloMosaic.ValueIdx

variable {F : FTy → Type}

/-- The rows gathered from, the row numbers, and the result, as a tile addresses them; the two double buffers. -/
abbrev rowsV : Memref sig .scVector .hbm S392704x256 .i32 := Memref.whole main_v7_scv
abbrev idxV : Memref sig .scVector .hbm S1x262144 .i32 := Memref.whole main_v8_scv
abbrev outV : Memref sig .scVector .hbm S262144x256 .i32 := Memref.whole main_v9_scv
abbrev idxB : Memref sig .scVector .vmem S2x1x128 .i32 := Memref.whole cc0_scoped0
abbrev rowB : Memref sig .scVector .vmem S2x128x256 .i32 := Memref.whole cc0_scoped2

theorem inb_idxSlot (j : Fin 2) : ∀ a, (![j.val, 0, 0] : Fin 3 → Nat) a + S1x1x128.size a ≤ S2x1x128.size a := by
  have := j.isLt; intro a; fin_cases a <;> simp <;> omega
theorem inb_rowSlot (j : Fin 2) : ∀ a, (![j.val, 0, 0] : Fin 3 → Nat) a + S1x128x256.size a ≤ S2x128x256.size a := by
  have := j.isLt; intro a; fin_cases a <;> simp <;> omega
theorem inb_cell (j : Fin 2) : ∀ a, (![j.val] : Fin 1 → Nat) a + S1.size a ≤ S2.size a := by
  have := j.isLt; intro a; fin_cases a; simp; omega
theorem inb_idxBlk (n : Fin 2048) : ∀ a, (![0, 128 * n.val] : Fin 2 → Nat) a + S1x128.size a ≤ S1x262144.size a := by
  have := n.isLt; intro a; fin_cases a <;> simp; omega
theorem inb_outBlk (n : Fin 2048) : ∀ a, (![128 * n.val, 0] : Fin 2 → Nat) a + S128x256.size a ≤ S262144x256.size a := by
  have := n.isLt; intro a; fin_cases a <;> simp; omega

/-- Index slot `j`, row slot `j`, and their cells. -/
def idxSlot (j : Fin 2) : Memref sig .scVector .vmem S1x128 .i32 :=
  (idxB.slice (Rect.unit (s := S2x1x128) ![j.val, 0, 0] S1x1x128.size (inb_idxSlot j)) (fun _ => rfl)).squeeze S1x128 squeezes_S1x1x128_S1x128
def rowSlot (j : Fin 2) : Memref sig .scVector .vmem S128x256 .i32 :=
  (rowB.slice (Rect.unit (s := S2x128x256) ![j.val, 0, 0] S1x128x256.size (inb_rowSlot j)) (fun _ => rfl)).squeeze S128x256 squeezes_S1x128x256_S128x256
def idxCell (j : Fin 2) : DmaSems sig S_ :=
  (cc0_scoped1.slice (Rect.unit (s := S2) ![j.val] S1.size (inb_cell j))).squeeze S_ squeezes_S1_S_
def rowCell (j : Fin 2) : DmaSems sig S_ :=
  (cc0_scoped3.slice (Rect.unit (s := S2) ![j.val] S1.size (inb_cell j))).squeeze S_ squeezes_S1_S_

/-- Block `n` of the row numbers and of the result. -/
def idxBlk (n : Fin 2048) : Memref sig .scVector .hbm S1x128 .i32 :=
  idxV.slice (Rect.unit (s := S1x262144) ![0, 128 * n.val] S1x128.size (inb_idxBlk n)) (fun _ => rfl)
def outBlk (n : Fin 2048) : Memref sig .scVector .hbm S128x256 .i32 :=
  outV.slice (Rect.unit (s := S262144x256) ![128 * n.val, 0] S128x256.size (inb_outBlk n)) (fun _ => rfl)

/-- An index slot as the gathers' list; the two column halves of a row slot and of the rows. -/
abbrev listOf (j : Fin 2) : Memref sig .scVector .vmem S128 .i32 :=
  ((idxSlot j).slice (Rect.unit (s := S1x128) ![0, 0] S1x128.size inb_S1x128_S1x128_0_0) (fun _ => rfl)).squeeze S128 squeezes_S1x128_S128
abbrev slotL (j : Fin 2) : Memref sig .scVector .vmem S128x128 .i32 :=
  (rowSlot j).slice (Rect.unit (s := S128x256) ![0, 0] S128x128.size inb_S128x256_S128x128_0_0) (fun _ => rfl)
abbrev slotR (j : Fin 2) : Memref sig .scVector .vmem S128x128 .i32 :=
  (rowSlot j).slice (Rect.unit (s := S128x256) ![0, 128] S128x128.size inb_S128x256_S128x128_0_128) (fun _ => rfl)
abbrev rowsL : Memref sig .scVector .hbm S392704x128 .i32 :=
  rowsV.slice (Rect.unit (s := S392704x256) ![0, 0] S392704x128.size inb_S392704x256_S392704x128_0_0) (fun _ => rfl)
abbrev rowsR : Memref sig .scVector .hbm S392704x128 .i32 :=
  rowsV.slice (Rect.unit (s := S392704x256) ![0, 128] S392704x128.size inb_S392704x256_S392704x128_0_128) (fun _ => rfl)

/-! ## What is gathered -/

/-- Position `p` of block `n` among the 262144 entries. -/
def pos (n : Fin 2048) (p : Fin 128) : Fin 262144 := ⟨128 * n.val + p.val, by omega⟩

/-- The result: row `p` is the row of `A` that entry `p` of `I` names. -/
def picked (A : S392704x256.Idx → Elt F .i32) (I : S1x262144.Idx → BitVec 32) : S262144x256.Idx → Elt F .i32 :=
  fun x => A (ix2 (⟨(I (ix2 (0 : Fin 1) (x 0))).toNat % 392704, Nat.mod_lt _ (by decide)⟩ : Fin 392704) (x 1))

theorem emb_idxBlk (n : Fin 2048) (a : Fin 1) (p : Fin 128) : (idxBlk n).view.emb (ix2 a p) = ix2 (0 : Fin 1) (pos n p) := by
  funext b; apply Fin.ext
  match b with
  | ⟨0, _⟩ => show 0 + 1 * a.val = 0; omega
  | ⟨1, _⟩ => show 128 * n.val + 1 * p.val = 128 * n.val + p.val; rw [Nat.one_mul]

theorem emb_outBlk (n : Fin 2048) (p : Fin 128) (q : Fin 256) : (outBlk n).view.emb (ix2 p q) = ix2 (pos n p) q := by
  funext b; apply Fin.ext
  match b with
  | ⟨0, _⟩ => show 128 * n.val + 1 * p.val = 128 * n.val + p.val; rw [Nat.one_mul]
  | ⟨1, _⟩ => show 0 + 1 * q.val = q.val; rw [Nat.one_mul, Nat.zero_add]

theorem emb_listOf (j : Fin 2) (p : Fin 128) : (listOf j).view.emb (ix1 p) = (idxSlot j).view.emb (ix2 (0 : Fin 1) p) := by
  have h : (Rect.unit (s := S1x128) ![0, 0] S1x128.size inb_S1x128_S1x128_0_0).emb
      (Shape.reshapeEquiv squeezes_S1x128_S128.numel_eq (ix1 p)) = ix2 (0 : Fin 1) p := by
    rw [show Shape.reshapeEquiv squeezes_S1x128_S128.numel_eq (ix1 p) = ix2 (0 : Fin 1) p from
      Shape.reshapeEquiv_eq_of_rowMajor _ (by
        rw [Shape.rowMajor_val_two, Shape.rowMajor_val_one]
        show 0 * 128 + p.val = p.val; omega)]
    funext a; apply Fin.ext
    match a with
    | ⟨0, _⟩ => rfl
    | ⟨1, _⟩ => show 0 + 1 * p.val = p.val; rw [Nat.one_mul, Nat.zero_add]
  exact congrArg (idxSlot j).view.emb h

/-- An index slot holding block `n` of the row numbers: what the gathers' list reads. -/
def Holds (j : Fin 2) (n : Fin 2048) (I : S1x262144.Idx → BitVec 32) (f : (idxSlot j).view.ty.Contents (Elt F)) : Prop :=
  ∀ p : Fin 128, (listOf j).view.read (Elt F) f (ix1 p) = I (ix2 (0 : Fin 1) (pos n p))

theorem holds_fetched (j : Fin 2) (n : Fin 2048) (I : S1x262144.Idx → BitVec 32) (f : (idxSlot j).view.ty.Contents (Elt F)) :
    Holds (F := F) j n I ((idxSlot j).view.write (Elt F) f (ReadAs.same.apply ((idxBlk n).view.read (Elt F) I)) Finset.univ) := by
  intro p
  have h : (idxSlot j).view.read (Elt F) ((idxSlot j).view.write (Elt F) f ((idxBlk n).view.read (Elt F) I) Finset.univ) (ix2 (0 : Fin 1) p)
      = I (ix2 (0 : Fin 1) (pos n p)) := by
    rw [View.read_write_univ]; exact congrArg I (emb_idxBlk n 0 p)
  refine Eq.trans ?_ h
  rw [View.read_apply, View.read_apply, emb_listOf]

/-- The words of a held list name rows. -/
theorem holds_lt {j : Fin 2} {n : Fin 2048} {I : S1x262144.Idx → BitVec 32} {f : (idxSlot j).view.ty.Contents (Elt F)}
    (h : Holds (F := F) j n I f) (hI : ∀ x, (I x).toNat < 392704) (x : S128.Idx) :
    ((listOf j).view.read (Elt F) f x).toNat < 392704 := by
  have e := eq_ix1 x
  rw [e]
  exact (congrArg BitVec.toNat (h (x 0))).trans_lt (hI _)

/-- The element of `A` at column `q` of the row that entry `p` of block `n` names. -/
def pick (A : S392704x256.Idx → Elt F .i32) (I : S1x262144.Idx → BitVec 32) (n : Fin 2048) (p : Fin 128) (q : Fin 256) : Elt F .i32 :=
  A (ix2 (⟨(I (ix2 (0 : Fin 1) (pos n p))).toNat % 392704, Nat.mod_lt _ (by decide)⟩ : Fin 392704) q)

theorem payload_at {j : Fin 2} {n : Fin 2048} {A : S392704x256.Idx → Elt F .i32} {I : S1x262144.Idx → BitVec 32}
    {f : (idxSlot j).view.ty.Contents (Elt F)} (h : Holds (F := F) j n I f) (g : S392704x128.Idx → Elt F .i32) (q : Fin 256) (l : Fin 128)
    (hg : ∀ r : Fin 392704, g (ix2 r l) = A (ix2 r q))
    (hn : S128.numel = S128x128.size gathers_S392704x128_S128x128.axis')
    (hin : ∀ x, ((listOf j).view.read (Elt F) f x).toNat < S392704x128.size gathers_S392704x128_S128x128.axis)
    (p : Fin 128) :
    SparseCore.gatherPayload gathers_S392704x128_S128x128 g (SparseCore.rows ((listOf j).view.read (Elt F) f) hn hin) (ix2 p l)
      = pick A I n p q := by
  have hlt : (I (ix2 (0 : Fin 1) (pos n p))).toNat < 392704 := (congrArg BitVec.toNat (h p)).symm.trans_lt (hin (ix1 p))
  have hrow : S128.rowMajor.symm (Fin.cast hn.symm p) = ix1 p := by
    rw [Equiv.symm_apply_eq]; apply Fin.ext; exact (Shape.rowMajor_val_one (ix1 p)).symm
  have hx : gathers_S392704x128_S128x128.idx (SparseCore.rows ((listOf j).view.read (Elt F) f) hn hin) (ix2 p l)
      = ix2 (⟨(I (ix2 (0 : Fin 1) (pos n p))).toNat, hlt⟩ : Fin 392704) l := by
    funext a
    match a with
    | ⟨0, _⟩ =>
      refine (Shape.Gathers.idx_axis gathers_S392704x128_S128x128 _ (ix2 p l)).trans (Fin.ext ?_)
      show ((listOf j).view.read (Elt F) f (S128.rowMajor.symm (Fin.cast hn.symm p))).toNat = _
      rw [hrow]; exact congrArg BitVec.toNat (h p)
    | ⟨1, hb⟩ => exact Fin.ext (Shape.Gathers.idx_of_ne gathers_S392704x128_S128x128 _ (ix2 p l) ⟨1, hb⟩ Nat.one_ne_zero)
  refine (congrArg g hx).trans ((hg _).trans ?_)
  exact congrArg (fun r : Fin 392704 => A (ix2 r q)) (Fin.ext (Nat.mod_eq_of_lt hlt).symm)

theorem rowsL_read (A : S392704x256.Idx → Elt F .i32) (r : Fin 392704) (l : Fin 128) :
    rowsL.view.read (Elt F) A (ix2 r l) = A (ix2 r (⟨l.val, by omega⟩ : Fin 256)) := by
  refine congrArg A (funext fun b => Fin.ext ?_)
  match b with
  | ⟨0, _⟩ => show 0 + 1 * r.val = r.val; omega
  | ⟨1, _⟩ => show 0 + 1 * l.val = l.val; omega
theorem rowsR_read (A : S392704x256.Idx → Elt F .i32) (r : Fin 392704) (l : Fin 128) :
    rowsR.view.read (Elt F) A (ix2 r l) = A (ix2 r (⟨128 + l.val, by omega⟩ : Fin 256)) := by
  refine congrArg A (funext fun b => Fin.ext ?_)
  match b with
  | ⟨0, _⟩ => show 0 + 1 * r.val = r.val; omega
  | ⟨1, _⟩ => show 128 + 1 * l.val = 128 + l.val; omega

/-- A row slot written with both gathered halves reads, at `(p, q)`, as the picked element. -/
theorem slot_value (j : Fin 2) (f : (rowSlot j).view.ty.Contents (Elt F)) (wL wR : S128x128.Idx → Elt F .i32) (v : Fin 128 → Fin 256 → Elt F .i32)
    (hL : ∀ p l : Fin 128, wL (ix2 p l) = v p ⟨l.val, by omega⟩) (hR : ∀ p l : Fin 128, wR (ix2 p l) = v p ⟨128 + l.val, by omega⟩)
    (p : Fin 128) (q : Fin 256) :
    (rowSlot j).view.read (Elt F) ((slotR j).view.write (Elt F) ((slotL j).view.write (Elt F) f wL Finset.univ) wR Finset.univ) (ix2 p q) = v p q := by
  by_cases hq : q.val < 128
  · have hy : (ix2 p q : S128x256.Idx) ∉ Finset.univ.map (Rect.unit (s := S128x256) ![0, 128] S128x128.size inb_S128x256_S128x128_0_128).emb := by
      intro hm
      obtain ⟨x, -, hx⟩ := Finset.mem_map.mp hm
      have := congrArg (fun z : S128x256.Idx => (z 1).val) hx
      change 128 + 1 * (x 1).val = q.val at this
      omega
    have he : (Rect.unit (s := S128x256) ![0, 0] S128x128.size inb_S128x256_S128x128_0_0).emb (ix2 p (⟨q.val, hq⟩ : Fin 128)) = ix2 p q := by
      funext b; apply Fin.ext
      match b with
      | ⟨0, _⟩ => show 0 + 1 * p.val = p.val; omega
      | ⟨1, _⟩ => show 0 + 1 * q.val = q.val; omega
    refine (View.read_slice_write_of_not_mem _ _ _ _ hy).trans ?_
    rw [← he]
    exact (View.read_slice_write_emb _ _ _ (Finset.mem_univ _)).trans (hL p ⟨q.val, hq⟩)
  · have he : (Rect.unit (s := S128x256) ![0, 128] S128x128.size inb_S128x256_S128x128_0_128).emb (ix2 p (⟨q.val - 128, by omega⟩ : Fin 128)) = ix2 p q := by
      funext b; apply Fin.ext
      match b with
      | ⟨0, _⟩ => show 0 + 1 * p.val = p.val; omega
      | ⟨1, _⟩ => show 128 + 1 * (q.val - 128) = q.val; omega
    rw [← he]
    refine (View.read_slice_write_emb _ _ _ (Finset.mem_univ _)).trans ((hR p ⟨q.val - 128, by omega⟩).trans ?_)
    exact congrArg (v p) (Fin.ext (show 128 + (q.val - 128) = q.val by omega))

/-- A block of the result written from a row slot holding the picked rows is the result there. -/
theorem block_value (n : Fin 2048) (A : S392704x256.Idx → Elt F .i32) (I : S1x262144.Idx → BitVec 32) (f : S262144x256.Idx → Elt F .i32)
    (w : S128x256.Idx → Elt F .i32) (hw : ∀ (p : Fin 128) (q : Fin 256), w (ix2 p q) = pick A I n p q) :
    ∀ i ∈ (outBlk n).view.set, (outBlk n).view.write (Elt F) f w Finset.univ i = picked A I i := by
  intro i hi
  obtain ⟨x, -, rfl⟩ := Finset.mem_map.mp hi
  refine (View.write_emb_of_mem _ _ (Finset.mem_univ x)).trans ?_
  have hx : x = ix2 (show Fin 128 from x 0) (show Fin 256 from x 1) := eq_ix2 x
  generalize (show Fin 128 from x 0) = p at hx
  generalize (show Fin 256 from x 1) = q at hx
  subst hx
  exact (hw p q).trans (congrArg (picked A I) (emb_outBlk n p q)).symm

end Cert.Proof.Gather
-- ==== Proof.Steps.lean ====
/-
  A trip of the tile's pipeline as six steps over the named slots, cells and blocks: fetch the next block's row numbers,
  await this block's, gather the left and the right column halves, send the block, and await the block sent one trip
  before. The printed trip at the words of trip `k` is these steps, after the checks it makes of its words.
-/
module

public import proofs.«01_k».proof.Proof.Geometry

@[expose] public section

noncomputable section

namespace Cert.Proof.Gather

open Cert.KernelIdeal Cert.KernelIdeal.Gen
open Idealize.ShloMosaic
open Idealize.SL.Sem

variable {F : FTy → Type} [FloatOps F]

/-- The number of block `k` of tile `(c, s)`. -/
def blk (c : Fin 2) (s : Fin 16) (k : Nat) : Fin 2048 := ⟨(64 * tileNo c s + k) % 2048, Nat.mod_lt _ (by decide)⟩

theorem blk_val (c : Fin 2) (s : Fin 16) {k : Nat} (hk : k < 64) : (blk c s k).val = 64 * tileNo c s + k := by
  have := c.isLt; have := s.isLt
  exact Nat.mod_eq_of_lt (by unfold tileNo; omega)

/-- The effects of tile `(c, s)`. -/
abbrev TileProg (F : FTy → Type) (c : Fin 2) (s : Fin 16) : Type → Type 1 :=
  Prog (TpuEff nD τ sig (Elt F) Λ₀ (.scVector ((at2 c s 0).castLE hcore0) ((at2 c s 1).castLE hsub0)))

/-- Slot of trip `k`. -/
abbrev sl (k : Nat) : Fin 2 := Ring.sl 2 k

def fetchOp (c : Fin 2) (s : Fin 16) (n : Fin 2048) (j : Fin 2) : TileProg F c s PUnit :=
  Prog.lift (.enqueueDma (idxBlk n) (.here (idxSlot j)) (.dma (idxCell j).sem) (View.wordExact_bits rfl) (View.wordExact_bits rfl) ⟨Or.inl rfl, trivial⟩)
def awaitOp (c : Fin 2) (s : Fin 16) (n : Fin 2048) (j : Fin 2) : TileProg F c s PUnit :=
  Prog.lift (.waitDma2 (idxCell j).sem (idxBlk n) (idxSlot j) (View.wordExact_bits rfl) (View.wordExact_bits rfl))
def gatherL (c : Fin 2) (s : Fin 16) (j : Fin 2) : TileProg F c s PUnit :=
  SparseCore.enqueueIndirectGather rfl rowsL (slotL j) gathers_S392704x128_S128x128 (listOf j) rfl cc0_scoped4.sem (View.wordExact_bits rfl) rfl (Or.inl rfl)
    >>= fun _ => SparseCore.waitIndirectGather cc0_scoped4.sem rowsL (slotL j) (View.wordExact_bits rfl) (View.wordExact_bits rfl)
def gatherR (c : Fin 2) (s : Fin 16) (j : Fin 2) : TileProg F c s PUnit :=
  SparseCore.enqueueIndirectGather rfl rowsR (slotR j) gathers_S392704x128_S128x128 (listOf j) rfl cc0_scoped5.sem (View.wordExact_bits rfl) rfl (Or.inl rfl)
    >>= fun _ => SparseCore.waitIndirectGather cc0_scoped5.sem rowsR (slotR j) (View.wordExact_bits rfl) (View.wordExact_bits rfl)
def sendOp (c : Fin 2) (s : Fin 16) (n : Fin 2048) (j : Fin 2) : TileProg F c s PUnit :=
  Prog.lift (.enqueueDma (rowSlot j) (.here (outBlk n)) (.dma (rowCell j).sem) (View.wordExact_bits rfl) (View.wordExact_bits rfl) ⟨Or.inl rfl, trivial⟩)
def doneOp (c : Fin 2) (s : Fin 16) (n : Fin 2048) (j : Fin 2) : TileProg F c s PUnit :=
  Prog.lift (.waitDma2 (rowCell j).sem (rowSlot j) (outBlk n) (View.wordExact_bits rfl) (View.wordExact_bits rfl))

def fetchStep (c : Fin 2) (s : Fin 16) (k : Nat) : TileProg F c s PUnit :=
  if k < 63 then fetchOp c s (blk c s (k + 1)) (sl (k + 1)) else pure ⟨⟩
def doneStep (c : Fin 2) (s : Fin 16) (k : Nat) : TileProg F c s PUnit :=
  if 0 < k then doneOp c s (blk c s (k - 1)) (sl (k + 1)) else pure ⟨⟩

/-- A trip as its steps. -/
def trip (c : Fin 2) (s : Fin 16) (k : Nat) : TileProg F c s PUnit :=
  fetchStep c s k >>= fun _ => awaitOp c s (blk c s k) (sl k) >>= fun _ => gatherL c s (sl k) >>= fun _ => gatherR c s (sl k) >>= fun _ =>
    sendOp c s (blk c s k) (sl k) >>= fun _ => doneStep c s k

/-! ## The printed memrefs are the named ones -/

theorem idxSlot_of {o : Fin 3 → Nat} {j : Fin 2} (h : o = ![j.val, 0, 0]) (inb : ∀ a, o a + S1x1x128.size a ≤ S2x1x128.size a) :
    (idxB.slice (Rect.unit (s := S2x1x128) o S1x1x128.size inb) (fun _ => rfl)).squeeze S1x128 squeezes_S1x1x128_S1x128 = idxSlot j := by
  subst h; rfl
theorem rowSlot_of {o : Fin 3 → Nat} {j : Fin 2} (h : o = ![j.val, 0, 0]) (inb : ∀ a, o a + S1x128x256.size a ≤ S2x128x256.size a) :
    (rowB.slice (Rect.unit (s := S2x128x256) o S1x128x256.size inb) (fun _ => rfl)).squeeze S128x256 squeezes_S1x128x256_S128x256 = rowSlot j := by
  subst h; rfl
theorem idxCell_of {o : Fin 1 → Nat} {j : Fin 2} (h : o = ![j.val]) (inb : ∀ a, o a + S1.size a ≤ S2.size a) :
    (cc0_scoped1.slice (Rect.unit (s := S2) o S1.size inb)).squeeze S_ squeezes_S1_S_ = idxCell j := by
  subst h; rfl
theorem rowCell_of {o : Fin 1 → Nat} {j : Fin 2} (h : o = ![j.val]) (inb : ∀ a, o a + S1.size a ≤ S2.size a) :
    (cc0_scoped3.slice (Rect.unit (s := S2) o S1.size inb)).squeeze S_ squeezes_S1_S_ = rowCell j := by
  subst h; rfl
theorem idxBlk_of {o : Fin 2 → Nat} {n : Fin 2048} (h : o = ![0, 128 * n.val]) (inb : ∀ a, o a + S1x128.size a ≤ S1x262144.size a) :
    idxV.slice (Rect.unit (s := S1x262144) o S1x128.size inb) (fun _ => rfl) = idxBlk n := by
  subst h; rfl
theorem outBlk_of {o : Fin 2 → Nat} {n : Fin 2048} (h : o = ![128 * n.val, 0]) (inb : ∀ a, o a + S128x256.size a ≤ S262144x256.size a) :
    outV.slice (Rect.unit (s := S262144x256) o S128x256.size inb) (fun _ => rfl) = outBlk n := by
  subst h; rfl

abbrev bodyAt (c : Fin 2) (s : Fin 16) (v4 : BitVec 32) :=
  k0_t1_body (F := F) (at2 c s) rowsV (Memref.isWhole_whole _) idxV (Memref.isWhole_whole _) outV (Memref.isWhole_whole _)
    idxB (Memref.isWhole_whole _) cc0_scoped1 rowB (Memref.isWhole_whole _) cc0_scoped3 cc0_scoped4 cc0_scoped5 v4

theorem bind_eq {α β : Type} {M : Type → Type 1} [Bind M] {x y : M α} {f g : α → M β} (h : x = y) (hf : ∀ a, f a = g a) : x >>= f = y >>= g := by
  rw [h, funext hf]

/-- The printed trip is the steps, the words going from trip `k`'s to trip `k + 1`'s. -/
theorem body_eq (c : Fin 2) (s : Fin 16) (k : Fin k0_t1_loop.trips) :
    bodyAt (F := F) c s (tileWord c s) k (words k.val)
      = Prog.lift (TpuEff.assume (k0_chk3 (wRead k.val)) (k0_chk3.dec (wRead k.val))) >>= fun _ =>
        Prog.lift (TpuEff.assume (k0_chk2 (wSent k.val)) (k0_chk2.dec (wSent k.val))) >>= fun _ =>
        Prog.lift (TpuEff.assume (k0_chk1 (at2 c s) k (wFetched k.val) (wRead k.val) (wSent k.val) (wDone k.val) (wStep k.val)) (k0_chk1.dec _ _ _ _ _ _ _)) >>= fun _ =>
        trip c s k.val >>= fun _ => pure (words (k.val + 1)) := by
  have hk : k.val < 64 := trips_eq ▸ k.isLt
  have e2 := guard_await c s k
  have e5 := guard_send c s k
  have hw := congrArg (pure (f := TileProg F c s)) (congrArg₂ Prod.mk (next_fetched c s k) (congrArg₂ Prod.mk (next_read c s k)
    (congrArg₂ Prod.mk (next_sent c s k) (congrArg₂ Prod.mk (next_done c s k) (next_step k)))))
  have oAs := offAwait_src c s k
  have oSd := offSend_dst c s k
  rw [← blk_val c s hk] at oAs oSd
  unfold bodyAt k0_t1_body
  simp only [k0_part1_eq_skeleton, k0_part2_eq_skeleton, k0_part3_eq_skeleton]
  unfold k0_part1_skel k0_part2_skel k0_part3_skel
  simp only [dif_pos e2, dif_pos e5, ite_self, pure_bind, bind_assoc,
    idxSlot_of (j := sl k.val) (offAwait_slot k), idxSlot_of (j := sl k.val) (offGather_list k), idxCell_of (j := sl k.val) (offAwait_cell k),
    rowSlot_of (j := sl k.val) (offGather_slot k), rowSlot_of (j := sl k.val) (offSend_slot k), rowCell_of (j := sl k.val) (offSend_cell k),
    idxBlk_of oAs, outBlk_of oSd]
  unfold trip fetchStep doneStep gatherL gatherR
  by_cases h1 : k.val < 63 <;> by_cases h0 : 0 < k.val
  · have e1 := guard_fetch c s k; have e7 := guard_done c s k
    rw [if_pos h1] at e1; rw [if_pos h0] at e7
    have oFs := offFetch_src c s k h1; have oDd := offDone_dst c s k h0
    rw [← blk_val c s (by omega)] at oFs oDd
    simp only [dif_pos e1, dif_pos e7, if_pos h1, if_pos h0, pure_bind, bind_assoc,
      idxSlot_of (j := sl (k.val + 1)) (offFetch_slot k h1), idxCell_of (j := sl (k.val + 1)) (offFetch_cell k h1), idxBlk_of oFs,
      rowSlot_of (j := sl (k.val + 1)) (offDone_slot k h0), rowCell_of (j := sl (k.val + 1)) (offDone_cell k h0), outBlk_of oDd]
    iterate 11 refine bind_eq rfl fun _ => ?_
    exact hw
  · have e1 := guard_fetch c s k; have e7 := guard_done c s k
    rw [if_pos h1] at e1; rw [if_neg h0] at e7
    have oFs := offFetch_src c s k h1
    rw [← blk_val c s (by omega)] at oFs
    simp only [dif_pos e1, e7, show ¬ (0#1 : BitVec 1) = 1#1 by decide, dif_neg, not_false_eq_true, if_pos h1, if_neg h0, pure_bind, bind_assoc,
      idxSlot_of (j := sl (k.val + 1)) (offFetch_slot k h1), idxCell_of (j := sl (k.val + 1)) (offFetch_cell k h1), idxBlk_of oFs]
    iterate 10 refine bind_eq rfl fun _ => ?_
    exact hw
  · have e1 := guard_fetch c s k; have e7 := guard_done c s k
    rw [if_neg h1] at e1; rw [if_pos h0] at e7
    have oDd := offDone_dst c s k h0
    rw [← blk_val c s (by omega)] at oDd
    simp only [e1, show ¬ (0#1 : BitVec 1) = 1#1 by decide, dif_neg, not_false_eq_true, dif_pos e7, if_neg h1, if_pos h0, pure_bind, bind_assoc,
      rowSlot_of (j := sl (k.val + 1)) (offDone_slot k h0), rowCell_of (j := sl (k.val + 1)) (offDone_cell k h0), outBlk_of oDd]
    iterate 10 refine bind_eq rfl fun _ => ?_
    exact hw
  · omega

end Cert.Proof.Gather
-- ==== Proof.Transfer.lean ====
/-
  What each step of a trip does to the memory it touches: a fetch puts a block of row numbers in flight, its wait leaves
  the index slot holding them; the two gathers leave the row slot holding the rows they name; a send puts the row slot in
  flight towards its block of the result, and its wait leaves the block finished and the slot free.
-/
module

public import proofs.«01_k».proof.Proof.Steps

@[expose] public section

noncomputable section

namespace Cert.Proof.Gather

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none
abbrev UH : Type := URounds (GSem nD τ sig) ℕ
abbrev UU : Type := UH × Counters
local notation "𝕄" => MT nD τ sig (HIx 1) (Elt F) ℕ UU ℕ

variable [FloatOps F]

/-- Tile `(c, s)` of device `d`. -/
abbrev tile (d : Dev nD) (c : Fin 2) (s : Fin 16) : Thread nD τ := V d ((at2 c s 0).castLE hcore0) ((at2 c s 1).castLE hsub0)

/-- The program of a step, run by tile `(c, s)`, ends in `Q`. -/
abbrev runs (d : Dev nD) (c : Fin 2) (s : Fin 16) (p : TileProg F c s PUnit) (Q : sProp 𝕄) : sProp 𝕄 :=
  wp frame (wpE (defs₀ (F := F)) 𝒱₀ (tile d c s) none) Set.univ p fun _ => Q

section
variable (d : Dev nD) (c : Fin 2) (s : Fin 16) (O : CellTallies nD τ sig (HIx 1)) (W : Waits sig (HIx 1))
variable (A : S392704x256.Idx → Elt F .i32) (I : S1x262144.Idx → BitVec 32)

/-- What the tile owes, its waits recorded since `W` all its own. -/
def Owing : sProp 𝕄 := iprop(∃ W', ⌜∀ p ∈ W', p ∈ W ∨ p.2 = none⌝ ∗ owes (tile d c s) O W')

/-- The tile may await any of its cells. -/
abbrev Await : sProp 𝕄 := Transfers.MayWaits (tile d c s) (default : HIx 1) O

/-- Index slot `j` at contents `f`; row slot `j` at contents `h`; the rows, by a share; the row numbers, by a share; block
    `n` of the result at contents `g`; a cell at zero. -/
abbrev idxAt (j : Fin 2) (f : Buf (Elt F) ((idxSlot j).view.loc (tile d c s))) : sProp 𝕄 :=
  (idxSlot j).view.loc (tile d c s) ↦[(idxSlot j).view.set]{fullShare} f
abbrev rowAt (j : Fin 2) (h : Buf (Elt F) ((rowSlot j).view.loc (tile d c s))) : sProp 𝕄 :=
  (rowSlot j).view.loc (tile d c s) ↦[(rowSlot j).view.set]{fullShare} h
abbrev rowsAt (q : PosShare TreeShare) : sProp 𝕄 := rowsV.view.loc (tile d c s) ↦[Finset.univ]{q} (show Buf (Elt F) (rowsV.view.loc (tile d c s)) from A)
abbrev idxsAt (q : PosShare TreeShare) (S : Finset (Idx (idxV.view.loc (tile d c s)))) : sProp 𝕄 :=
  idxV.view.loc (tile d c s) ↦[S]{q} (show Buf (Elt F) (idxV.view.loc (tile d c s)) from I)
abbrev outAt (n : Fin 2048) (g : S262144x256.Idx → Elt F .i32) : sProp 𝕄 :=
  (outBlk n).view.loc (tile d c s) ↦[(outBlk n).view.set]{fullShare} (show Buf (Elt F) ((outBlk n).view.loc (tile d c s)) from g)
abbrev cellAt (x : DmaSem sig) : sProp 𝕄 := semVal (tile d c s, SemLoc.dma x) 0

/-- Index slot `j` free. -/
def IdxFree (j : Fin 2) : sProp 𝕄 := iprop((∃ f, idxAt (F := F) d c s j f) ∗ cellAt (F := F) d c s (idxCell j).sem)
/-- Block `n` of the row numbers on its way into index slot `j`, the share `q` of the row numbers lent for it. -/
def IdxFlight (q : PosShare TreeShare) (n : Fin 2048) (j : Fin 2) : sProp 𝕄 :=
  iprop((∃ f, Transfers.Flight countersEmb (tile d c s) (.dma (idxCell j).sem) (default : HIx 1) (idxSlot j).view.dmaCredit
      iprop(idxAt (F := F) d c s j ((idxSlot j).view.write (Elt F) f (ReadAs.same.apply ((idxBlk n).view.read (Elt F) I)) Finset.univ)
        ∗ idxsAt d c s I q (idxBlk n).view.set))
    ∗ idxsAt d c s I q (Finset.univ \ (idxBlk n).view.set))
/-- Index slot `j` holding block `n`. -/
def IdxHeld (n : Fin 2048) (j : Fin 2) : sProp 𝕄 := iprop(∃ f, ⌜Holds (F := F) j n I f⌝ ∗ idxAt (F := F) d c s j f)

theorem fetch_step (q : PosShare TreeShare) (n : Fin 2048) (j : Fin 2) :
    iprop(IdxFree (F := F) d c s j ∗ idxsAt d c s I q Finset.univ) ⊢ runs d c s (fetchOp c s n j) (IdxFlight (F := F) d c s I q n j) := by
  unfold IdxFree IdxFlight fetchOp
  iintro ⟨⟨⟨%f, Hf⟩, Hc⟩, Hi⟩
  ihave Hi := (pointsTo_split_subset (Finset.subset_univ (idxBlk n).view.set)).1 $$ Hi
  icases Hi with ⟨Hb, Hr⟩
  iapply (Transfers.wp_dmaLocal countersEmb 𝒱₀ (tile d c s) none (default : HIx 1) (idxSlot j).view.dmaCredit rfl
    (View.amount_pos (idxSlot j).view (.dma (idxCell j).sem) (show 0 < S1x128.numel by decide)) subset_rfl) $$ [Hb Hf Hc]
  · isplitl [Hb]; · iexact Hb
    isplitl [Hf]; · iexact Hf
    iexact Hc
  iintro Hfl
  sl_step
  isplitl [Hfl]
  · iexists f; iexact Hfl
  iexact Hr

theorem owing_insert {x : SemLoc sig} : ∀ {W₁ : Waits sig (HIx 1)}, (∀ p ∈ W₁, p ∈ W ∨ p.2 = none) →
    ∀ p ∈ insert (x, (default : HIx 1)) W₁, p ∈ W ∨ p.2 = none := by
  intro W₁ h p hp
  rcases Finset.mem_insert.mp hp with hp | hp
  · exact .inr (hp ▸ rfl)
  · exact h p hp

theorem await_step (q : PosShare TreeShare) (n : Fin 2048) (j : Fin 2) :
    iprop(Await (F := F) d c s O ∗ Owing d c s O W ∗ IdxFlight (F := F) d c s I q n j)
      ⊢ runs d c s (awaitOp c s n j)
        iprop(Owing d c s O W ∗ IdxHeld (F := F) d c s I n j ∗ cellAt (F := F) d c s (idxCell j).sem ∗ idxsAt d c s I q Finset.univ) := by
  unfold Owing IdxFlight IdxHeld awaitOp
  iintro ⟨Hmw, ⟨%W₁, %hW, HO⟩, ⟨%f, Hfl⟩, Hr⟩
  iapply (Transfers.wp_waitLocalO countersEmb 𝒱₀ (tile d c s) none (default : HIx 1) rfl) $$ [Hfl HO Hmw]
  · isplitl [Hfl]; · iexact Hfl
    isplitl [HO]; · iexact HO
    iapply (Transfers.MayWaits.elim (SemLoc.dma (idxCell j).sem)) $$ Hmw
  iintro ⟨⟨Hf, Hb⟩, Hc, HO⟩
  sl_step
  isplitl [HO]
  · iexists _; isplitr
    swap; · iexact HO
    ipureintro; exact owing_insert W hW
  isplitl [Hf]
  · iexists _; isplitr
    swap; · iexact Hf
    ipureintro; exact holds_fetched j n I f
  isplitl [Hc]; · iexact Hc
  iapply (pointsTo_split_subset (Finset.subset_univ (idxBlk n).view.set)).2 $$ [Hb Hr]
  isplitl [Hb] <;> iassumption

/-- Row slot `j` free. -/
def RowFree (j : Fin 2) : sProp 𝕄 := iprop((∃ h, rowAt (F := F) d c s j h) ∗ cellAt (F := F) d c s (rowCell j).sem)
/-- Row slot `j` holding the rows block `n` names, on its way to block `n` of the result. -/
def RowFlight (n : Fin 2048) (j : Fin 2) : sProp 𝕄 :=
  iprop(∃ (g : S262144x256.Idx → Elt F .i32) (h : Buf (Elt F) ((rowSlot j).view.loc (tile d c s))),
    ⌜∀ (p : Fin 128) (q : Fin 256), (rowSlot j).view.read (Elt F) h (ix2 p q) = pick A I n p q⌝
    ∗ Transfers.Flight countersEmb (tile d c s) (.dma (rowCell j).sem) (default : HIx 1) (outBlk n).view.dmaCredit
      iprop(outAt d c s n ((outBlk n).view.write (Elt F) g (ReadAs.same.apply ((rowSlot j).view.read (Elt F) h)) Finset.univ)
        ∗ rowAt (F := F) d c s j h))
/-- Row slot `j` holding the rows block `n` names. -/
def RowHeld (n : Fin 2048) (j : Fin 2) : sProp 𝕄 :=
  iprop(∃ h, ⌜∀ (p : Fin 128) (q : Fin 256), (rowSlot j).view.read (Elt F) h (ix2 p q) = pick A I n p q⌝ ∗ rowAt (F := F) d c s j h)

theorem send_step (g : S262144x256.Idx → Elt F .i32) (n : Fin 2048) (j : Fin 2) :
    iprop(RowHeld (F := F) d c s A I n j ∗ cellAt (F := F) d c s (rowCell j).sem ∗ outAt d c s n g)
      ⊢ runs d c s (sendOp c s n j) (RowFlight (F := F) d c s A I n j) := by
  unfold RowHeld RowFlight sendOp
  iintro ⟨⟨%h, %hv, Hh⟩, Hc, Hg⟩
  iapply (Transfers.wp_dmaLocal countersEmb 𝒱₀ (tile d c s) none (default : HIx 1) (outBlk n).view.dmaCredit rfl
    (View.amount_pos (outBlk n).view (.dma (rowCell j).sem) (show 0 < S128x256.numel by decide)) subset_rfl) $$ [Hh Hg Hc]
  · isplitl [Hh]; · iexact Hh
    isplitl [Hg]; · iexact Hg
    iexact Hc
  iintro Hfl
  sl_step
  iexists g; iexists h
  isplitr
  · ipureintro; exact hv
  iexact Hfl

theorem done_step (n : Fin 2048) (j : Fin 2) :
    iprop(Await (F := F) d c s O ∗ Owing d c s O W ∗ RowFlight (F := F) d c s A I n j)
      ⊢ runs d c s (doneOp c s n j) iprop(Owing d c s O W ∗ RowFree (F := F) d c s j ∗ outAt d c s n (picked A I)) := by
  unfold Owing RowFlight RowFree doneOp
  iintro ⟨Hmw, ⟨%W₁, %hW, HO⟩, %g, %h, %hv, Hfl⟩
  iapply (Transfers.wp_waitLocalO countersEmb 𝒱₀ (tile d c s) none (default : HIx 1) rfl) $$ [Hfl HO Hmw]
  · isplitl [Hfl]; · iexact Hfl
    isplitl [HO]; · iexact HO
    iapply (Transfers.MayWaits.elim (SemLoc.dma (rowCell j).sem)) $$ Hmw
  iintro ⟨⟨Hg, Hh⟩, Hc, HO⟩
  sl_step
  isplitl [HO]
  · iexists _; isplitr
    swap; · iexact HO
    ipureintro; exact owing_insert W hW
  isplitl [Hh Hc]
  · isplitl [Hh]
    · iexists h; iexact Hh
    iexact Hc
  iapply (Entails.of_eq (pointsTo_congr (block_value n A I g _ hv))) $$ Hg

/-! ## The gathers -/

/-- The 128 columns from `o` of the rows, and of row slot `j`. -/
abbrev rowsFrom (o : Nat) (ho : ∀ a, (![0, o] : Fin 2 → Nat) a + S392704x128.size a ≤ S392704x256.size a) : Memref sig .scVector .hbm S392704x128 .i32 :=
  rowsV.slice (Rect.unit (s := S392704x256) ![0, o] S392704x128.size ho) (fun _ => rfl)
abbrev slotFrom (j : Fin 2) (o : Nat) (ho : ∀ a, (![0, o] : Fin 2 → Nat) a + S128x128.size a ≤ S128x256.size a) : Memref sig .scVector .vmem S128x128 .i32 :=
  (rowSlot j).slice (Rect.unit (s := S128x256) ![0, o] S128x128.size ho) (fun _ => rfl)

theorem credit_rows_first :
    ∑ r, ((slotL 0).slice (S128x128.rowRect gathers_S392704x128_S128x128.axis' r)
      (S128x128.stride_rowRect gathers_S392704x128_S128x128.axis' r)).view.dmaCredit = (slotL 0).view.dmaCredit := by
  decide

/-- The credits of a gather's 128 rows add up to what its wait takes, whatever the slot and the columns. -/
theorem credit_rows (j : Fin 2) (o : Nat) (ho : ∀ a, (![0, o] : Fin 2 → Nat) a + S128x128.size a ≤ S128x256.size a) :
    ∑ r, ((slotFrom j o ho).slice (S128x128.rowRect gathers_S392704x128_S128x128.axis' r)
      (S128x128.stride_rowRect gathers_S392704x128_S128x128.axis' r)).view.dmaCredit = (slotFrom j o ho).view.dmaCredit :=
  credit_rows_first

/-- The columns from `o` of the rows a held list names, gathered into the same columns of a row slot: the slot is written
    there with those elements of `A`, and the list, the rows and the stream's cell are back. -/
theorem gather_step (hI : ∀ x, (I x).toNat < 392704) (q : PosShare TreeShare) (n : Fin 2048) (j : Fin 2) (o : Nat)
    (ho₁ : ∀ a, (![0, o] : Fin 2 → Nat) a + S392704x128.size a ≤ S392704x256.size a)
    (ho₂ : ∀ a, (![0, o] : Fin 2 → Nat) a + S128x128.size a ≤ S128x256.size a) (ho : o + 128 ≤ 256) (x : DmaSem sig)
    (h : Buf (Elt F) ((rowSlot j).view.loc (tile d c s))) :
    iprop(Await (F := F) d c s O ∗ Owing d c s O W ∗ IdxHeld (F := F) d c s I n j ∗ rowsAt d c s A q ∗ rowAt (F := F) d c s j h ∗ cellAt (F := F) d c s x)
      ⊢ runs d c s (SparseCore.enqueueIndirectGather rfl (rowsFrom o ho₁) (slotFrom j o ho₂) gathers_S392704x128_S128x128 (listOf j) rfl x (View.wordExact_bits rfl) rfl (Or.inl rfl)
          >>= fun _ => SparseCore.waitIndirectGather x (rowsFrom o ho₁) (slotFrom j o ho₂) (View.wordExact_bits rfl) (View.wordExact_bits rfl))
        iprop(∃ w : S128x128.Idx → Elt F .i32, ⌜∀ p l : Fin 128, w (ix2 p l) = pick A I n p ⟨o + l.val, by omega⟩⌝
          ∗ Owing d c s O W ∗ IdxHeld (F := F) d c s I n j ∗ rowsAt d c s A q
          ∗ rowAt (F := F) d c s j ((slotFrom j o ho₂).view.write (Elt F) h w Finset.univ) ∗ cellAt (F := F) d c s x) := by
  unfold Owing IdxHeld
  iintro ⟨Hmw, ⟨%W₁, %hW, HO⟩, ⟨%f, %hf, Hf⟩, Ha, Hh, Hc⟩
  have hlist : (listOf j).view.set ⊆ (idxSlot j).view.set :=
    (View.set_reshape _ _).subset.trans (View.set_slice_subset _ _)
  have hslot : (slotFrom j o ho₂).view.set ⊆ (rowSlot j).view.set := View.set_slice_subset _ _
  ihave Hf := (pointsTo_split_subset hlist).1 $$ Hf
  icases Hf with ⟨Hf, Hf'⟩
  ihave Ha := (pointsTo_split_subset (Finset.subset_univ (rowsFrom o ho₁).view.set)).1 $$ Ha
  icases Ha with ⟨Ha, Ha'⟩
  ihave Hh := (pointsTo_split_subset hslot).1 $$ Hh
  icases Hh with ⟨Hh, Hh'⟩
  iapply (SparseCore.wp_indirectGatherLocal countersEmb 𝒱₀ (tile d c s) none (hg := gathers_S392704x128_S128x128) (default : HIx 1)
      (slotFrom j o ho₂).view.dmaCredit (credit_rows j o ho₂) (by decide) (fun y => holds_lt hf hI y)) $$ [Ha Hh Hf Hc]
  · isplitl [Ha]; · iexact Ha
    isplitl [Hh]; · iexact Hh
    isplitl [Hf]; · iexact Hf
    iexact Hc
  iintro Hfl
  iapply (Transfers.wp_waitLocalO countersEmb 𝒱₀ (tile d c s) none (default : HIx 1) rfl) $$ [Hfl HO Hmw]
  · isplitl [Hfl]; · iexact Hfl
    isplitl [HO]; · iexact HO
    iapply (Transfers.MayWaits.elim (SemLoc.dma x)) $$ Hmw
  iintro ⟨⟨Hh, Ha, Hf⟩, Hc, HO⟩
  sl_step
  iexists _
  isplitr
  swap
  · isplitl [HO]
    · iexists _; isplitr
      swap; · iexact HO
      ipureintro; exact owing_insert W hW
    isplitl [Hf Hf']
    · iexists f; isplitr
      · ipureintro; exact hf
      iapply (pointsTo_split_subset hlist).2 $$ [Hf Hf']
      isplitl [Hf] <;> iassumption
    isplitl [Ha Ha']
    · iapply (pointsTo_split_subset (Finset.subset_univ (rowsFrom o ho₁).view.set)).2 $$ [Ha Ha']
      isplitl [Ha] <;> iassumption
    isplitl [Hh Hh']
    · iapply (pointsTo_split_subset hslot).2 $$ [Hh Hh']
      isplitl [Hh]; · iexact Hh
      iapply (Entails.of_eq (pointsTo_congr fun i hi => (View.write_of_not_mem _ _ _ (Finset.mem_sdiff.mp hi).2).symm)) $$ Hh'
    iexact Hc
  ipureintro
  intro p l
  refine payload_at hf _ _ _ (fun r => ?_) _ _ p
  refine congrArg A (funext fun b => Fin.ext ?_)
  match b with
  | ⟨0, _⟩ => show 0 + 1 * r.val = r.val; omega
  | ⟨1, _⟩ => show o + 1 * l.val = o + l.val; omega

/-! ## One step after another -/

/-- A step from `P` to `Q`, then the rest of the program from `Q`. -/
theorem step_then {P Q : sProp 𝕄} {p : TileProg F c s PUnit} (h : P ⊢ runs d c s p Q) {α : Type} (k : TileProg F c s α) (R : α → sProp 𝕄) :
    P ⊢ iprop((Q -∗ wp frame (wpE (defs₀ (F := F)) 𝒱₀ (tile d c s) none) Set.univ k R)
      -∗ wp frame (wpE (defs₀ (F := F)) 𝒱₀ (tile d c s) none) Set.univ (p >>= fun _ => k) R) := by
  rw [wp_bind]
  iintro HP Hk
  ihave Hp := h $$ HP
  iapply (wp_frame_r frame _ _).trans (wp_mono frame _ _ fun _ => ?_) $$ [Hp Hk]
  rotate_left
  · isplitl [Hp]; · iexact Hp
    iexact Hk
  iintro ⟨HQ, Hk⟩
  iapply Hk; iexact HQ

/-- The last step of a program. -/
theorem step_last {P Q : sProp 𝕄} {p : TileProg F c s PUnit} (h : P ⊢ runs d c s p Q) (R : sProp 𝕄) :
    P ⊢ iprop((Q -∗ R) -∗ runs d c s p R) := by
  iintro HP Hk
  ihave Hp := h $$ HP
  iapply (wp_frame_r frame _ _).trans (wp_mono frame _ _ fun _ => ?_) $$ [Hp Hk]
  rotate_left
  · isplitl [Hp]; · iexact Hp
    iexact Hk
  iintro ⟨HQ, Hk⟩
  iapply Hk; iexact HQ

end

end Cert.Proof.Gather
-- ==== Proof.Tile.lean ====
/-
  A tile's run: the first fetch, 64 trips of the pipeline, and the wait for the last block sent. From its share of the
  rows and of the row numbers, and its 64 blocks of the result, it leaves those blocks holding the rows named.
-/
module

public import proofs.«01_k».proof.Proof.Transfer

@[expose] public section

noncomputable section

namespace Cert.Proof.Gather

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable [FloatOps F]

section
variable (d : Dev nD) (c : Fin 2) (s : Fin 16) (O : CellTallies nD τ sig (HIx 1)) (W : Waits sig (HIx 1))
variable (A : S392704x256.Idx → Elt F .i32) (I : S1x262144.Idx → BitVec 32) (g : S262144x256.Idx → Elt F .i32)
variable (qa qi : PosShare TreeShare)

/-- The half of the tile's share of the row numbers that slot `j`'s fetches use. -/
def half (j : Fin 2) : PosShare TreeShare := if j = 0 then qi.left else qi.right

/-- Trip `k`'s row numbers, on their way to its slot; none after the last trip. -/
def IdxNext (k : Nat) : sProp 𝕄 :=
  if k < 64 then IdxFlight (F := F) d c s I (half qi (sl k)) (blk c s k) (sl k)
  else iprop(IdxFree (F := F) d c s (sl k) ∗ idxsAt d c s I (half qi (sl k)) Finset.univ)
/-- The other index slot, free before trip `k`. -/
def IdxOther (k : Nat) : sProp 𝕄 := iprop(IdxFree (F := F) d c s (sl (k + 1)) ∗ idxsAt d c s I (half qi (sl (k + 1))) Finset.univ)
/-- The block sent one trip before trip `k`, on its way; none before the first. -/
def RowPrev (k : Nat) : sProp 𝕄 :=
  if 0 < k then RowFlight (F := F) d c s A I (blk c s (k - 1)) (sl (k + 1)) else RowFree (F := F) d c s (sl (k + 1))

theorem fetchStep_runs (k : Nat) : IdxOther (F := F) d c s I qi k ⊢ runs d c s (fetchStep c s k) (IdxNext (F := F) d c s I qi (k + 1)) := by
  unfold IdxOther IdxNext fetchStep
  by_cases hk : k < 63
  · rw [if_pos hk, if_pos (by omega)]
    exact fetch_step d c s I _ _ _
  · rw [if_neg hk, if_neg (by omega)]
    unfold runs; iintro H; sl_step; iexact H

theorem doneStep_runs (k : Nat) :
    iprop(Await (F := F) d c s O ∗ Owing d c s O W ∗ RowPrev (F := F) d c s A I k)
      ⊢ runs d c s (doneStep c s k) iprop(Owing d c s O W ∗ RowFree (F := F) d c s (sl (k + 1))
        ∗ if 0 < k then outAt d c s (blk c s (k - 1)) (picked A I) else emp) := by
  unfold RowPrev doneStep
  by_cases hk : 0 < k
  · rw [if_pos hk, if_pos hk, if_pos hk]
    exact done_step d c s O W A I _ _
  · rw [if_neg hk, if_neg hk, if_neg hk]
    unfold runs; iintro ⟨-, HO, H⟩; sl_step
    isplitl [HO]; · iexact HO
    isplitl [H]; · iexact H
    iempintro

/-- Both gathers: a free row slot comes to hold the rows that the held list names. -/
theorem gathers_runs (hI : ∀ x, (I x).toNat < 392704) (n : Fin 2048) (j : Fin 2) {α : Type} (kk : TileProg F c s α) (R : α → sProp 𝕄) :
    iprop(Await (F := F) d c s O ∗ Owing d c s O W ∗ IdxHeld (F := F) d c s I n j ∗ rowsAt d c s A qa ∗ RowFree (F := F) d c s j
      ∗ cellAt (F := F) d c s cc0_scoped4.sem ∗ cellAt (F := F) d c s cc0_scoped5.sem)
      ⊢ iprop((iprop(Owing d c s O W ∗ IdxHeld (F := F) d c s I n j ∗ rowsAt d c s A qa ∗ RowHeld (F := F) d c s A I n j
          ∗ cellAt (F := F) d c s (rowCell j).sem ∗ cellAt (F := F) d c s cc0_scoped4.sem ∗ cellAt (F := F) d c s cc0_scoped5.sem)
            -∗ wp frame (wpE (defs₀ (F := F)) 𝒱₀ (tile d c s) none) Set.univ kk R)
        -∗ wp frame (wpE (defs₀ (F := F)) 𝒱₀ (tile d c s) none) Set.univ (gatherL c s j >>= fun _ => gatherR c s j >>= fun _ => kk) R) := by
  unfold RowFree
  iintro ⟨#Hmw, HO, Hi, Ha, ⟨⟨%h, Hh⟩, Hc⟩, H4, H5⟩ Hk
  iapply (step_then d c s (gather_step d c s O W A I hI qa n j 0 inb_S392704x256_S392704x128_0_0 inb_S128x256_S128x128_0_0 (by omega) cc0_scoped4.sem h) _ _) $$ [HO Hi Ha Hh H4]
  · isplitr; · iexact Hmw
    isplitl [HO]; · iexact HO
    isplitl [Hi]; · iexact Hi
    isplitl [Ha]; · iexact Ha
    isplitl [Hh]; · iexact Hh
    iexact H4
  iintro ⟨%wL, %hL, HO, Hi, Ha, Hh, H4⟩
  iapply (step_then d c s (gather_step d c s O W A I hI qa n j 128 inb_S392704x256_S392704x128_0_128 inb_S128x256_S128x128_0_128 (by omega) cc0_scoped5.sem _) _ _) $$ [HO Hi Ha Hh H5]
  · isplitr; · iexact Hmw
    isplitl [HO]; · iexact HO
    isplitl [Hi]; · iexact Hi
    isplitl [Ha]; · iexact Ha
    isplitl [Hh]; · iexact Hh
    iexact H5
  iintro ⟨%wR, %hR, HO, Hi, Ha, Hh, H5⟩
  iapply Hk
  isplitl [HO]; · iexact HO
  isplitl [Hi]; · iexact Hi
  isplitl [Ha]; · iexact Ha
  isplitl [Hh]
  · unfold RowHeld
    iexists _; isplitr
    swap; · iexact Hh
    ipureintro
    exact slot_value j h wL wR (pick A I n) (fun p l => (hL p l).trans (congrArg (pick A I n p) (Fin.ext (Nat.zero_add _)))) hR
  isplitl [Hc]; · iexact Hc
  isplitl [H4]; · iexact H4
  iexact H5

/-- Before trip `k`. -/
def Inv (k : Nat) : sProp 𝕄 :=
  iprop(Owing d c s O W ∗ (IdxNext (F := F) d c s I qi k ∗ IdxOther (F := F) d c s I qi k) ∗ rowsAt d c s A qa
    ∗ (RowFree (F := F) d c s (sl k) ∗ RowPrev (F := F) d c s A I k)
    ∗ (cellAt (F := F) d c s cc0_scoped4.sem ∗ cellAt (F := F) d c s cc0_scoped5.sem)
    ∗ bigSep (Finset.range (k - 1)) (fun i => outAt d c s (blk c s i) (picked A I))
    ∗ bigSep (Finset.Ico k 64) (fun i => outAt d c s (blk c s i) g))

theorem done_grow (k : Nat) (Φ : Nat → sProp 𝕄) :
    iprop(bigSep (Finset.range (k - 1)) Φ ∗ if 0 < k then Φ (k - 1) else emp) ⊢ bigSep (Finset.range k) Φ := by
  by_cases hk : 0 < k
  · obtain ⟨n, rfl⟩ : ∃ n, k = n + 1 := ⟨k - 1, by omega⟩
    rw [if_pos hk, Nat.add_sub_cancel, Finset.range_add_one, SparseCore.bigSep_insert' Finset.notMem_range_self]
    iintro ⟨H, H'⟩; isplitl [H'] <;> iassumption
  · obtain rfl : k = 0 := by omega
    rw [if_neg hk]
    iintro ⟨H, -⟩; iexact H

theorem trip_runs (hI : ∀ x, (I x).toNat < 392704) (k : Nat) (hk : k < 64) :
    iprop(Await (F := F) d c s O ∗ Inv (F := F) d c s O W A I g qa qi k) ⊢ runs d c s (trip c s k) (Inv (F := F) d c s O W A I g qa qi (k + 1)) := by
  have e2 : sl (k + 1 + 1) = sl k := Ring.sl_add 2 k
  unfold Inv trip
  rw [show Finset.Ico k 64 = insert k (Finset.Ico (k + 1) 64) from (Finset.insert_Ico_add_one_left_eq_Ico hk).symm,
    SparseCore.bigSep_insert' (by simp)]
  iintro ⟨#Hmw, HO, ⟨Hn, Ho⟩, Ha, ⟨Hf, Hp⟩, ⟨H4, H5⟩, Hd, Hg, Ht⟩
  iapply (step_then d c s (fetchStep_runs d c s I qi k) _ _) $$ Ho
  iintro Hn'
  ihave Hn := (Entails.of_eq (show IdxNext (F := F) d c s I qi k = _ from if_pos hk)) $$ Hn
  iapply (step_then d c s (await_step d c s O W I _ _ _) _ _) $$ [HO Hn]
  · isplitr; · iexact Hmw
    isplitl [HO]; · iexact HO
    iexact Hn
  iintro ⟨HO, Hi, Hc, Hr⟩
  iapply (gathers_runs d c s O W A I qa hI (blk c s k) (sl k) _ _) $$ [HO Hi Ha Hf H4 H5]
  · isplitr; · iexact Hmw
    isplitl [HO]; · iexact HO
    isplitl [Hi]; · iexact Hi
    isplitl [Ha]; · iexact Ha
    isplitl [Hf]; · iexact Hf
    isplitl [H4]; · iexact H4
    iexact H5
  iintro ⟨HO, Hi, Ha, Hh, Hrc, H4, H5⟩
  iapply (step_then d c s (send_step d c s A I g (blk c s k) (sl k)) _ _) $$ [Hh Hrc Hg]
  · isplitl [Hh]; · iexact Hh
    isplitl [Hrc]; · iexact Hrc
    iexact Hg
  iintro Hfl
  iapply (step_last d c s (doneStep_runs d c s O W A I k) _) $$ [HO Hp]
  · isplitr; · iexact Hmw
    isplitl [HO]; · iexact HO
    iexact Hp
  iintro ⟨HO, Hf, Hout⟩
  isplitl [HO]; · iexact HO
  isplitl [Hn' Hi Hc Hr]
  · isplitl [Hn']; · iexact Hn'
    unfold IdxOther IdxFree IdxHeld
    rw [e2]
    icases Hi with ⟨%f, -, Hi⟩
    isplitl [Hi Hc]
    · isplitl [Hi]
      · iexists f; iexact Hi
      iexact Hc
    iexact Hr
  isplitl [Ha]; · iexact Ha
  isplitl [Hf Hfl]
  · isplitl [Hf]; · iexact Hf
    unfold RowPrev
    rw [if_pos (Nat.succ_pos k), e2]
    iexact Hfl
  isplitl [H4 H5]
  · isplitl [H4] <;> iassumption
  isplitl [Hd Hout]
  · iapply (done_grow k (fun i => outAt d c s (blk c s i) (picked A I)))
    isplitl [Hd] <;> iassumption
  iexact Ht

/-! ## The whole tile -/

/-- What a tile holds of its scratch between tasks: both index slots, both row slots and the gathers' cells. -/
def Scratch : sProp 𝕄 :=
  iprop((IdxFree (F := F) d c s 0 ∗ IdxFree (F := F) d c s 1) ∗ (RowFree (F := F) d c s 0 ∗ RowFree (F := F) d c s 1)
    ∗ cellAt (F := F) d c s cc0_scoped4.sem ∗ cellAt (F := F) d c s cc0_scoped5.sem)

/-- The tile's blocks of the result, at contents `f`. -/
abbrev Blocks (f : S262144x256.Idx → Elt F .i32) : sProp 𝕄 := bigSep (Finset.range 64) (fun i => outAt d c s (blk c s i) f)

/-- A check at the head of a program, where it holds. -/
theorem check_then {P : Prop} (dP : Decidable P) (hP : P) {α : Type} (k : PLift P → TileProg F c s α) (R : α → sProp 𝕄) :
    (wp frame (wpE (defs₀ (F := F)) 𝒱₀ (tile d c s) none) Set.univ (k ⟨hP⟩) R : sProp 𝕄)
      ⊢ wp frame (wpE (defs₀ (F := F)) 𝒱₀ (tile d c s) none) Set.univ (Prog.lift (TpuEff.assume P dP) >>= k) R :=
  wp_assume 𝒱₀ (tile d c s) none Set.univ hP

/-- The printed trip keeps the invariant and carries the next words. -/
theorem body_runs (hI : ∀ x, (I x).toNat < 392704) (k : Fin k0_t1_loop.trips) (acc : BitVec 32 × BitVec 32 × BitVec 32 × BitVec 32 × BitVec 32) :
    iprop(⌜acc = words k.val⌝ ∗ Await (F := F) d c s O ∗ Inv (F := F) d c s O W A I g qa qi k.val)
      ⊢ wp frame (wpE (defs₀ (F := F)) 𝒱₀ (tile d c s) none) Set.univ (bodyAt (F := F) c s (tileWord c s) k acc)
        fun acc' => iprop(⌜acc' = words (k.val + 1)⌝ ∗ Await (F := F) d c s O ∗ Inv (F := F) d c s O W A I g qa qi (k.val + 1)) := by
  iintro ⟨%h, #Hmw, H⟩
  subst h
  rw [body_eq]
  iapply (check_then d c s _ (check_read k) _ _)
  iapply (check_then d c s _ (check_sent k) _ _)
  iapply (check_then d c s _ (check_trip c s k) _ _)
  iapply (step_then d c s (trip_runs d c s O W A I g qa qi hI k.val (trips_eq ▸ k.isLt)) _ _) $$ [H]
  · isplitr; · iexact Hmw
    iexact H
  iintro H
  sl_step
  isplitr; · ipureintro; rfl
  isplitr; · iexact Hmw
  iexact H

theorem half_left : half qi (sl 0) = qi.left := if_pos rfl
theorem half_right : half qi (sl 1) = qi.right := if_neg (by decide)

theorem first_next : IdxFlight (F := F) d c s I qi.left (blk c s 0) 0 = IdxNext (F := F) d c s I qi 0 := by
  rw [← half_left]; exact (if_pos (by decide)).symm
theorem first_other : iprop(IdxFree (F := F) d c s 1 ∗ idxsAt d c s I qi.right Finset.univ) = IdxOther (F := F) d c s I qi 0 := by
  rw [← half_right]; rfl
theorem first_prev : RowFree (F := F) d c s 1 = RowPrev (F := F) d c s A I 0 := (if_neg (by decide)).symm
theorem last_next : IdxNext (F := F) d c s I qi 64 = iprop(IdxFree (F := F) d c s 0 ∗ idxsAt d c s I qi.left Finset.univ) := by
  rw [← half_left]; exact if_neg (by decide)
theorem last_other : IdxOther (F := F) d c s I qi 64 = iprop(IdxFree (F := F) d c s 1 ∗ idxsAt d c s I qi.right Finset.univ) := by
  rw [← half_right]; rfl
theorem last_prev : RowPrev (F := F) d c s A I 64 = RowFlight (F := F) d c s A I (blk c s 63) 1 := if_pos (by decide)

theorem tile_runs (hI : ∀ x, (I x).toNat < 392704) :
    iprop(Await (F := F) d c s O ∗ Owing d c s O W ∗ rowsAt d c s A qa ∗ idxsAt d c s I qi Finset.univ ∗ Blocks (F := F) d c s g ∗ Scratch (F := F) d c s)
      ⊢ runs d c s (cc0_gather (F := F) (at2 c s) rowsV (Memref.isWhole_whole _) idxV (Memref.isWhole_whole _) outV (Memref.isWhole_whole _)
          idxB (Memref.isWhole_whole _) cc0_scoped1 rowB (Memref.isWhole_whole _) cc0_scoped3 cc0_scoped4 cc0_scoped5)
        iprop(Owing d c s O W ∗ rowsAt d c s A qa ∗ idxsAt d c s I qi Finset.univ ∗ Blocks (F := F) d c s (picked A I) ∗ Scratch (F := F) d c s) := by
  have oF := offFirst_src c s
  have oL := offLast_dst c s
  rw [← blk_val c s (k := 0) (by omega)] at oF
  rw [← blk_val c s (k := 63) (by omega)] at oL
  rw [cc0_gather_eq_skeleton]; unfold cc0_gather_skel
  rw [k0_part4_eq_skeleton, k0_part5_eq_skeleton]; unfold k0_part4_skel k0_part5_skel runs
  simp only [bind_assoc, pure_bind, tileWord_eq]
  simp only [idxBlk_of oF, idxSlot_of (j := 0) offFirst_slot, idxCell_of (j := 0) offFirst_cell]
  unfold Scratch
  iintro ⟨#Hmw, HO, Ha, Hi, Hg, ⟨Hi0, Hi1⟩, ⟨Hr0, Hr1⟩, H4, H5⟩
  ihave Hi := (pointsTo_share (PosShare.mem_left_op_right qi)).1 $$ Hi
  icases Hi with ⟨Hl, Hr⟩
  iapply (step_then d c s (fetch_step d c s I qi.left (blk c s 0) 0) _ _) $$ [Hi0 Hl]
  · isplitl [Hi0] <;> iassumption
  iintro Hfl
  iapply (Scf.wp_for_bind frame _ _ _ _ _ k0_t1_ok (words 0) (bodyAt (F := F) c s (tileWord c s))
    (fun k acc => iprop(⌜acc = words k⌝ ∗ Await (F := F) d c s O ∗ Inv (F := F) d c s O W A I g qa qi k))
    (body_runs d c s O W A I g qa qi hI)) $$ [HO Ha Hfl Hi1 Hr Hr0 Hr1 H4 H5 Hg]
  · isplitr; · ipureintro; rfl
    isplitr; · iexact Hmw
    unfold Inv
    isplitl [HO]; · iexact HO
    isplitl [Hfl Hi1 Hr]
    · isplitl [Hfl]
      · iapply (Entails.of_eq (first_next d c s I qi)); iexact Hfl
      iapply (Entails.of_eq (first_other d c s I qi))
      isplitl [Hi1] <;> iassumption
    isplitl [Ha]; · iexact Ha
    isplitl [Hr0 Hr1]
    · isplitl [Hr0]; · iexact Hr0
      iapply (Entails.of_eq (first_prev d c s A I)); iexact Hr1
    isplitl [H4 H5]
    · isplitl [H4] <;> iassumption
    isplitr
    · rw [show Finset.range (0 - 1) = ∅ from rfl]; iempintro
    iexact Hg
  iintro %acc ⟨%hacc, -, H⟩
  rw [show Scf.trips _ _ _ = 64 from trips_eq] at hacc ⊢
  subst hacc
  iapply (check_then d c s _ (check_lastBlock c s) _ _)
  iapply (check_then d c s _ check_lastSlot _ _)
  simp only [outBlk_of oL, rowSlot_of (j := 1) offLast_slot, rowCell_of (j := 1) offLast_cell]
  unfold Inv
  rw [last_next, last_other, last_prev, Finset.Ico_self]
  icases H with ⟨HO, ⟨⟨Hi0, Hl⟩, Hi1, Hr⟩, Ha, ⟨Hr0, Hfl⟩, ⟨H4, H5⟩, Hd, -⟩
  iapply (step_then d c s (done_step d c s O W A I (blk c s 63) 1) _ _) $$ [HO Hfl]
  · isplitr; · iexact Hmw
    isplitl [HO] <;> iassumption
  iintro ⟨HO, Hr1, Hg⟩
  sl_step
  isplitl [HO]; · iexact HO
  isplitl [Ha]; · iexact Ha
  isplitl [Hl Hr]
  · iapply (pointsTo_share (PosShare.mem_left_op_right qi)).2
    isplitl [Hl] <;> iassumption
  isplitl [Hd Hg]
  · iapply (done_grow 64 (fun i => outAt d c s (blk c s i) (picked A I)))
    isplitl [Hd]; · iexact Hd
    iapply (Entails.of_eq (if_pos (show 0 < 64 by decide)).symm); iexact Hg
  isplitl [Hi0 Hi1]; · isplitl [Hi0] <;> iassumption
  isplitl [Hr0 Hr1]
  · isplitl [Hr0]; · iexact Hr0
    iexact Hr1
  isplitl [H4] <;> iassumption

end

end Cert.Proof.Gather
-- ==== Proof.Banks.lean ====
/-
  How the launch's memory is cut for the 32 tiles and put together again: a tile's two scratch buffers into their two
  slots each, the result into the tiles' 64 blocks each, and the rows and the row numbers into one share for every tile.
-/
module

public import proofs.«01_k».proof.Proof.Tile

@[expose] public section

noncomputable section

namespace Cert.Proof.Gather

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slots of a scratch buffer -/

theorem set_idxSlot (j : Fin 2) : (idxSlot j).view.set = (Rect.unit (s := S2x1x128) ![j.val, 0, 0] S1x1x128.size (inb_idxSlot j)).set := by
  show ((idxB.view.slice (Rect.unit (s := S2x1x128) ![j.val, 0, 0] S1x1x128.size (inb_idxSlot j))).reshape S1x128 squeezes_S1x1x128_S1x128.numel_eq).set = _
  rw [View.set_reshape]; exact View.set_slice_whole _ _
theorem set_rowSlot (j : Fin 2) : (rowSlot j).view.set = (Rect.unit (s := S2x128x256) ![j.val, 0, 0] S1x128x256.size (inb_rowSlot j)).set := by
  show ((rowB.view.slice (Rect.unit (s := S2x128x256) ![j.val, 0, 0] S1x128x256.size (inb_rowSlot j))).reshape S128x256 squeezes_S1x128x256_S128x256.numel_eq).set = _
  rw [View.set_reshape]; exact View.set_slice_whole _ _

/-- The elements of the index slots and of the row slots, in the scratch buffer that holds them. -/
def idxPart (j : Fin 2) : Finset S2x1x128.Idx := (Rect.unit (s := S2x1x128) ![j.val, 0, 0] S1x1x128.size (inb_idxSlot j)).set
def rowPart (j : Fin 2) : Finset S2x128x256.Idx := (Rect.unit (s := S2x128x256) ![j.val, 0, 0] S1x128x256.size (inb_rowSlot j)).set

theorem idxPart_disjoint (j j' : Fin 2) (h : j ≠ j') : Disjoint (idxPart j) (idxPart j') := by
  refine Rect.unit_disjoint (0 : Fin 3) ?_
  have : j.val ≠ j'.val := fun e => h (Fin.ext e)
  show j.val + 1 ≤ j'.val ∨ j'.val + 1 ≤ j.val
  omega
theorem rowPart_disjoint (j j' : Fin 2) (h : j ≠ j') : Disjoint (rowPart j) (rowPart j') := by
  refine Rect.unit_disjoint (0 : Fin 3) ?_
  have : j.val ≠ j'.val := fun e => h (Fin.ext e)
  show j.val + 1 ≤ j'.val ∨ j'.val + 1 ≤ j.val
  omega
theorem idxPart_cover : Finset.univ.biUnion idxPart = Finset.univ := by
  ext x
  simp only [Finset.mem_biUnion, Finset.mem_univ, true_and, iff_true]
  refine ⟨x 0, Rect.mem_set_unit.mpr fun a => ?_⟩
  have ha := (x a).isLt
  match a with
  | 0 => exact ⟨le_rfl, Nat.lt_succ_self _⟩
  | 1 => exact ⟨Nat.zero_le _, ha.trans_eq (Nat.zero_add _).symm⟩
  | 2 => exact ⟨Nat.zero_le _, ha.trans_eq (Nat.zero_add _).symm⟩
theorem rowPart_cover : Finset.univ.biUnion rowPart = Finset.univ := by
  ext x
  simp only [Finset.mem_biUnion, Finset.mem_univ, true_and, iff_true]
  refine ⟨x 0, Rect.mem_set_unit.mpr fun a => ?_⟩
  have ha := (x a).isLt
  match a with
  | 0 => exact ⟨le_rfl, Nat.lt_succ_self _⟩
  | 1 => exact ⟨Nat.zero_le _, ha.trans_eq (Nat.zero_add _).symm⟩
  | 2 => exact ⟨Nat.zero_le _, ha.trans_eq (Nat.zero_add _).symm⟩

section
variable (d : Dev nD) (c : Fin 2) (s : Fin 16)

theorem idxAt_eq (j : Fin 2) (f : Buf (Elt F) ((tile d c s).loc cc0_scoped0)) :
    (idxAt (F := F) d c s j f : sProp 𝕄) = ((tile d c s).loc cc0_scoped0 ↦[idxPart j]{fullShare} f) := by
  unfold idxAt; rw [set_idxSlot]; rfl
theorem rowAt_eq (j : Fin 2) (f : Buf (Elt F) ((tile d c s).loc cc0_scoped2)) :
    (rowAt (F := F) d c s j f : sProp 𝕄) = ((tile d c s).loc cc0_scoped2 ↦[rowPart j]{fullShare} f) := by
  unfold rowAt; rw [set_rowSlot]; rfl

/-- A tile's scratch as the launch hands it over: both buffers whole, and the six cells at zero. -/
def Raw : sProp 𝕄 :=
  iprop((∃ f, (tile d c s).loc cc0_scoped0 ↦{fullShare} f) ∗ (∃ f, (tile d c s).loc cc0_scoped2 ↦{fullShare} f)
    ∗ (cellAt (F := F) d c s (idxCell 0).sem ∗ cellAt (F := F) d c s (idxCell 1).sem
      ∗ cellAt (F := F) d c s (rowCell 0).sem ∗ cellAt (F := F) d c s (rowCell 1).sem
      ∗ cellAt (F := F) d c s cc0_scoped4.sem ∗ cellAt (F := F) d c s cc0_scoped5.sem))

/-- The scratch handed over is the scratch the tile's program uses. -/
theorem scratch_of_raw : Raw (F := F) d c s ⊢ Scratch (F := F) d c s := by
  unfold Raw Scratch IdxFree RowFree
  iintro ⟨Hi, Hr, C0, C1, C2, C3, C4, C5⟩
  ihave Hi := (Ring.slots2_split (ℓ := (tile d c s).loc cc0_scoped0) (q := fullShare) idxPart idxPart_disjoint idxPart_cover
    (idxAt (F := F) d c s 0) (idxAt (F := F) d c s 1) (idxAt_eq d c s 0) (idxAt_eq d c s 1)) $$ Hi
  icases Hi with ⟨I0, I1⟩
  ihave Hr := (Ring.slots2_split (ℓ := (tile d c s).loc cc0_scoped2) (q := fullShare) rowPart rowPart_disjoint rowPart_cover
    (rowAt (F := F) d c s 0) (rowAt (F := F) d c s 1) (rowAt_eq d c s 0) (rowAt_eq d c s 1)) $$ Hr
  icases Hr with ⟨R0, R1⟩
  isplitl [I0 I1 C0 C1]
  · isplitl [I0 C0]
    · isplitl [I0]; · iexact I0
      iexact C0
    · isplitl [I1]; · iexact I1
      iexact C1
  isplitl [R0 R1 C2 C3]
  · isplitl [R0 C2]
    · isplitl [R0]; · iexact R0
      iexact C2
    · isplitl [R1]; · iexact R1
      iexact C3
  isplitl [C4] <;> iassumption

/-- And it is handed back whole. -/
theorem raw_of_scratch : Scratch (F := F) d c s ⊢ Raw (F := F) d c s := by
  unfold Raw Scratch IdxFree RowFree
  iintro ⟨⟨⟨I0, C0⟩, I1, C1⟩, ⟨⟨R0, C2⟩, R1, C3⟩, C4, C5⟩
  isplitl [I0 I1]
  · iapply (Ring.slots2_join (ℓ := (tile d c s).loc cc0_scoped0) (q := fullShare) idxPart idxPart_disjoint idxPart_cover
      (idxAt (F := F) d c s 0) (idxAt (F := F) d c s 1) (idxAt_eq d c s 0) (idxAt_eq d c s 1))
    isplitl [I0]; · iexact I0
    iexact I1
  isplitl [R0 R1]
  · iapply (Ring.slots2_join (ℓ := (tile d c s).loc cc0_scoped2) (q := fullShare) rowPart rowPart_disjoint rowPart_cover
      (rowAt (F := F) d c s 0) (rowAt (F := F) d c s 1) (rowAt_eq d c s 0) (rowAt_eq d c s 1))
    isplitl [R0]; · iexact R0
    iexact R1
  isplitl [C0]; · iexact C0
  isplitl [C1]; · iexact C1
  isplitl [C2]; · iexact C2
  isplitl [C3]; · iexact C3
  isplitl [C4] <;> iassumption

end

/-! ## The blocks of the result -/

/-- The elements of block `n` of the result. -/
def outPart (n : Fin 2048) : Finset S262144x256.Idx := (Rect.unit (s := S262144x256) ![128 * n.val, 0] S128x256.size (inb_outBlk n)).set

theorem set_outBlk (n : Fin 2048) : (outBlk n).view.set = outPart n := View.set_slice_whole _ _

theorem outPart_disjoint (n n' : Fin 2048) (h : n ≠ n') : Disjoint (outPart n) (outPart n') := by
  refine Rect.unit_disjoint (0 : Fin 2) ?_
  have : n.val ≠ n'.val := fun e => h (Fin.ext e)
  show 128 * n.val + 128 ≤ 128 * n'.val ∨ 128 * n'.val + 128 ≤ 128 * n.val
  omega
theorem outPart_cover : Finset.univ.biUnion outPart = Finset.univ := by
  ext x
  simp only [Finset.mem_biUnion, Finset.mem_univ, true_and, iff_true]
  have hx : (x 0).val < 262144 := (x 0).isLt
  refine ⟨⟨(x 0).val / 128, by omega⟩, Rect.mem_set_unit.mpr fun a => ?_⟩
  match a with
  | 0 =>
    show 128 * ((x 0).val / 128) ≤ (x 0).val ∧ (x 0).val < 128 * ((x 0).val / 128) + 128
    omega
  | 1 => exact ⟨Nat.zero_le _, (x 1).isLt.trans_eq (Nat.zero_add _).symm⟩

/-- Core, tile and step name a block. -/
def blkEquiv : Fin 2 × Fin 16 × Fin 64 ≃ Fin 2048 :=
  ((Equiv.refl (Fin 2)).prodCongr (finProdFinEquiv (m := 16) (n := 64))).trans (finProdFinEquiv (m := 2) (n := 16 * 64))

theorem blkEquiv_eq (c : Fin 2) (s : Fin 16) (i : Fin 64) : blkEquiv (c, s, i) = blk c s i.val := by
  apply Fin.ext
  show (i.val + 64 * s.val) + 16 * 64 * c.val = (64 * (s.val + 16 * c.val) + i.val) % 2048
  omega

theorem range_fin (n : Nat) (Φ : Nat → sProp 𝕄) : bigSep (Finset.range n) Φ = bigSep Finset.univ fun i : Fin n => Φ i.val := by
  rw [show Finset.range n = (Finset.univ : Finset (Fin n)).map Fin.valEmbedding from by ext x; simp [Fin.exists_iff], bigSep_map]; rfl

/-- The result's place on device `d`, and the rows' and the row numbers'. -/
abbrev outLoc (d : Dev nD) : Loc nD τ sig := (SparseCore.T d).loc main_v9
abbrev rowsLoc (d : Dev nD) : Loc nD τ sig := (SparseCore.T d).loc main_v7
abbrev idxLoc (d : Dev nD) : Loc nD τ sig := (SparseCore.T d).loc main_v8

/-- The result is every tile's blocks of it. -/
theorem out_tiles (d : Dev nD) (g : S262144x256.Idx → Elt F .i32) :
    (outLoc d ↦{fullShare} (show Buf (Elt F) (outLoc d) from g) : sProp 𝕄)
      = bigSep Finset.univ fun c : Fin 2 => bigSep Finset.univ fun s : Fin 16 => Blocks (F := F) d c s g := by
  rw [Ring.pointsTo_blocks (ℓ := outLoc d) outPart outPart_disjoint outPart_cover, bigSep_univ_equiv blkEquiv, bigSep_univ_prod]
  refine bigSep_congr fun c _ => ?_
  rw [bigSep_univ_prod]
  refine bigSep_congr fun s _ => ?_
  unfold Blocks
  rw [range_fin]
  refine bigSep_congr fun i _ => ?_
  unfold outAt
  rw [set_outBlk]
  show _ = (outLoc d ↦[outPart (blk c s i.val)]{fullShare} _ : sProp 𝕄)
  rw [← blkEquiv_eq]

/-! ## The shares of what every tile reads -/

/-- Tile `(c, s)`'s share. -/
def shareOf (c : Fin 2) (s : Fin 16) : PosShare TreeShare :=
  pieceOf (pieceOf fullShare 2 (by decide) c) 16 (by decide) s

/-- An array read by all is every tile's share of it. -/
theorem shared_tiles {ℓ : Loc nD τ sig} (f : Buf (Elt F) ℓ) :
    (ℓ ↦{fullShare} f : sProp 𝕄) = bigSep Finset.univ fun c : Fin 2 => bigSep Finset.univ fun s : Fin 16 => ℓ ↦{shareOf c s} f := by
  rw [pointsTo_piecesOf Finset.univ f (show 0 < 2 by decide) fullShare]
  refine bigSep_congr fun c _ => ?_
  rw [pointsTo_piecesOf Finset.univ f (show 0 < 16 by decide)]
  rfl

end Cert.Proof.Gather
-- ==== Proof.Launch.lean ====
/-
  The launch: the host's operations before the call, the two SparseCores' start, each of the 32 tiles' tasks, and the end,
  where the result holds the picked rows and the arguments are what they were. For any float values.
-/
module

public import proofs.«01_k».proof.Proof.Banks
public import proofs.«01_k».proof.Defs
public import proofs.«01_k».proof.Proof.Gen.KernelIdeal

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (seq after held launchContents tcRefs wp_seq held_sub_split)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none
theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## A tile's scratch among what it owns -/

section
variable (d : Dev nD) (c : Fin 2) (s : Fin 16)

/-- The six cells the tile's program uses. -/
def six : Fin 6 → DmaSem sig := ![(idxCell 0).sem, (idxCell 1).sem, (rowCell 0).sem, (rowCell 1).sem, cc0_scoped4.sem, cc0_scoped5.sem]

theorem six_injective : Function.Injective six := by unfold six; decide
theorem six_scoped : ∀ k, (SemLoc.dma (six k) : SemLoc sig).isScoped .scVector = true := by unfold six; decide

def sixCells : Fin 6 ↪ GSem nD τ sig :=
  ⟨fun k => (tile d c s, .dma (six k)), fun k l h => six_injective (by injection h with _ h; injection h)⟩

theorem ownSems_tile : (ownSems0 (tile d c s) : sProp 𝕄)
    = iprop((cellAt (F := F) d c s (idxCell 0).sem ∗ cellAt (F := F) d c s (idxCell 1).sem
      ∗ cellAt (F := F) d c s (rowCell 0).sem ∗ cellAt (F := F) d c s (rowCell 1).sem
      ∗ cellAt (F := F) d c s cc0_scoped4.sem ∗ cellAt (F := F) d c s cc0_scoped5.sem)
      ∗ bigSep (ownCells (tile d c s) \ Finset.univ.map (sixCells d c s)) fun g => semVal g 0) := by
  have hsub : Finset.univ.map (sixCells d c s) ⊆ ownCells (tile d c s) := fun g hg => by
    obtain ⟨k, -, rfl⟩ := Finset.mem_map.mp hg
    exact mem_ownCells.mpr ⟨rfl, six_scoped k⟩
  unfold SparseCore.Cfg.ownSems0
  conv_lhs => rw [← Finset.union_sdiff_of_subset hsub]
  rw [bigSep_union Finset.disjoint_sdiff, bigSep_map,
    show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

theorem ownBufs_tile : (ownBufs (tile d c s) : sProp 𝕄)
    = iprop((∃ f, (tile d c s).loc cc0_scoped0 ↦{fullShare} f) ∗ (∃ f, (tile d c s).loc cc0_scoped2 ↦{fullShare} f)
      ∗ bigSep (((ownRefs (τ := τ) (tile d c s).2).erase ((tile d c s).2.devRef cc0_scoped0)).erase ((tile d c s).2.devRef cc0_scoped2))
          fun b => iprop(∃ f, ((d, b) : Loc nD τ sig) ↦{fullShare} f)) := by
  unfold SparseCore.Cfg.ownBufs
  refine (SparseCore.bigSep_erase' (SparseCore.Cfg.mem_ownRefs_of_owner (p := (tile d c s).2) (b := (tile d c s).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (tile d c s).2) (b := (tile d c s).2.devRef cc0_scoped2) rfl⟩)]

end

variable [FloatOps F]

/-! ## The host's operations, and what they leave in the call's operands -/

/-- The operations before the call, in order. -/
abbrev hostOps : List (HloOp τ sig (Elt F)) :=
  [ StableHlo.unary main_arg1 main_v0 ((transpose S8x2x8192 [1, 0, 2] · transposes_S2x8x8192_S8x2x8192_1_0_2) : (⟨S2x8x8192, .i32⟩ : BufTy).Contents (Elt F) → (⟨S8x2x8192, .i32⟩ : BufTy).Contents (Elt F)),
    StableHlo.reshape main_v0 main_v1 (rfl : (.i32 : EltTy) = .i32) shapeCasts_S8x2x8192_S8x16384,
    StableHlo.reshape main_v1 main_v2 (rfl : (.i32 : EltTy) = .i32) shapeCasts_S8x16384_S131072,
    StableHlo.nullary main_c (constantI S_ 32 196352#32),
    StableHlo.unary main_c main_v3 (broadcastInDim S8x16384 ![] bcast_S_S8x16384 : (⟨S_, .i32⟩ : BufTy).Contents (Elt F) → (⟨S8x16384, .i32⟩ : BufTy).Contents (Elt F)),
    StableHlo.binary main_v1 main_v3 main_v4 (addi : (⟨S8x16384, .i32⟩ : BufTy).Contents (Elt F) → (⟨S8x16384, .i32⟩ : BufTy).Contents (Elt F) → (⟨S8x16384, .i32⟩ : BufTy).Contents (Elt F)),
    StableHlo.reshape main_v4 main_v5 (rfl : (.i32 : EltTy) = .i32) shapeCasts_S8x16384_S131072,
    StableHlo.binary main_v2 main_v5 main_v6 ((fun a b => concatenate S262144 0 [⟨S131072, a⟩, ⟨S131072, b⟩] concatenates_S131072_S131072_S262144_d0) : (⟨S131072, .i32⟩ : BufTy).Contents (Elt F) → (⟨S131072, .i32⟩ : BufTy).Contents (Elt F) → (⟨S262144, .i32⟩ : BufTy).Contents (Elt F)),
    StableHlo.reshape main_arg0 main_v7 (rfl : (.i32 : EltTy) = .i32) shapeCasts_S2x196352x256_S392704x256,
    StableHlo.reshape main_v6 main_v8 (rfl : (.i32 : EltTy) = .i32) shapeCasts_S262144_S1x262144 ]

theorem main_eq (d : Dev nD) : main (F := F) d = seq (hostOps (F := F)) >>= fun _ => (sc.run d 0 >>= fun _ => pure ⟨⟩) := rfl

theorem hostOps_sub : (hostOps : List (HloOp τ sig (Elt F))).Forall fun op => op.bufs ⊆ tcRefs τ sig :=
  ⟨StableHlo.unary_bufs_sub .., StableHlo.reshape_bufs_sub .., StableHlo.reshape_bufs_sub .., StableHlo.nullary_bufs_sub .., StableHlo.unary_bufs_sub ..,
    StableHlo.binary_bufs_sub .., StableHlo.reshape_bufs_sub .., StableHlo.binary_bufs_sub .., StableHlo.reshape_bufs_sub .., StableHlo.reshape_bufs_sub ..⟩
theorem hostOps_fresh : ∀ op ∈ (hostOps : List (HloOp τ sig (Elt F))), op.fresh = ∅ :=
  List.forall_iff_forall_mem.1 (show (hostOps : List (HloOp τ sig (Elt F))).Forall fun op => op.fresh = ∅ from
    ⟨rfl, rfl, rfl, rfl, rfl, rfl, rfl, rfl, rfl, rfl⟩)

section
variable (A : Dev nD → S392704x256.Idx → Elt F .i32) (I : Dev nD → S1x262144.Idx → BitVec 32) (G : Dev nD → S262144x256.Idx → Elt F .i32)

/-- What a tile takes and brings back: its shares of the rows and of the row numbers, and its blocks of the result. -/
def Piece (d : Dev nD) (c : Fin 2) (s : Fin 16) (g : S262144x256.Idx → Elt F .i32) : sProp 𝕄 :=
  iprop(rowsAt (F := F) d c s (A d) (shareOf c s) ∗ idxsAt (F := F) d c s (I d) (shareOf c s) Finset.univ ∗ Blocks (F := F) d c s g)
/-- What a core takes and brings back: its tiles'. -/
def CorePiece (d : Dev nD) (c : Fin 2) (g : S262144x256.Idx → Elt F .i32) : sProp 𝕄 :=
  bigSep Finset.univ fun s : Fin 16 => Piece A I d c s g
instance Piece_storable (d : Dev nD) (c : Fin 2) (s : Fin 16) (g : S262144x256.Idx → Elt F .i32) : BI.Storable (upEmb : UEmb _ 𝕄) (Piece A I d c s g) := by
  unfold Piece; infer_instance
instance CorePiece_storable (d : Dev nD) (c : Fin 2) (g : S262144x256.Idx → Elt F .i32) : BI.Storable (upEmb : UEmb _ 𝕄) (CorePiece A I d c g) := by
  unfold CorePiece; infer_instance

def P : (K (F := F)).Pay (nD := nD) (Val := Elt F) (Name := ℕ) (U := UU) where
  st := fun q d c => match q with | 0 => CorePiece A I d (Fin.cast nCore_zero c) (G d)
  dn := fun q d c => match q with | 0 => CorePiece A I d (Fin.cast nCore_zero c) (picked (A d) (I d))
  go := fun q d c i => match q with | 0 => Piece A I d (Fin.cast nCore_zero c) (Fin.cast nSub_zero i) (G d)
  td := fun q d c i => match q with | 0 => Piece A I d (Fin.cast nCore_zero c) (Fin.cast nSub_zero i) (picked (A d) (I d))
  x := fun _ _ => iprop(emp)

instance P_storable : (P (F := F) A I G).IsStorable where
  st q d c := match q with
    | 0 => CorePiece_storable A I d _ _
  dn q d c := match q with
    | 0 => CorePiece_storable A I d _ _
  go q d c i := match q with
    | 0 => Piece_storable A I d _ _ _
  td q d c i := match q with
    | 0 => Piece_storable A I d _ _ _

theorem P_st (d : Dev nD) (c : Fin ((K (F := F)).nCore 0)) : (P A I G).st 0 d c = CorePiece A I d (Fin.cast nCore_zero c) (G d) := by
  unfold P; dsimp only
theorem P_dn (d : Dev nD) (c : Fin ((K (F := F)).nCore 0)) : (P A I G).dn 0 d c = CorePiece A I d (Fin.cast nCore_zero c) (picked (A d) (I d)) := by
  unfold P; dsimp only
theorem P_go (d : Dev nD) (c : Fin ((K (F := F)).nCore 0)) (i : Fin ((K (F := F)).nSub 0)) : (P A I G).go 0 d c i = Piece A I d (Fin.cast nCore_zero c) (Fin.cast nSub_zero i) (G d) := by
  unfold P; dsimp only
theorem P_td (d : Dev nD) (c : Fin ((K (F := F)).nCore 0)) (i : Fin ((K (F := F)).nSub 0)) : (P A I G).td 0 d c i = Piece A I d (Fin.cast nCore_zero c) (Fin.cast nSub_zero i) (picked (A d) (I d)) := by
  unfold P; dsimp only

/-- Every row number names a row. -/
def InRange : Prop := ∀ (d : Dev nD) (x : S1x262144.Idx), (I d x).toNat < 392704

/-! ## The task -/

theorem task_runs (hF : (K (F := F)).Facts) (hin : InRange I) (d : Dev nD) (c : Fin 2) (s : Fin 16)
    (O : CellTallies nD τ sig (HIx 1)) (W : Waits sig (HIx 1)) (hO : ∀ g, O g none = 0) :
    iprop(levAts (K (F := F)).L (K (F := F)).lev ∗ emp ∗ Piece A I d c s (G d)
        ∗ scopedBufs (tile d c s) ∗ scopedSems0 (tile d c s) ∗ owes (tile d c s) O W)
      ⊢ wp frame (wpE (defs₀ (F := F)) 𝒱₀ (tile d c s) none) Set.univ
          (cc0_gather (at2 c s) rowsV (Memref.isWhole_whole _) idxV (Memref.isWhole_whole _) outV (Memref.isWhole_whole _)
            idxB (Memref.isWhole_whole _) cc0_scoped1 rowB (Memref.isWhole_whole _) cc0_scoped3 cc0_scoped4 cc0_scoped5)
          fun _ => iprop(Piece A I d c s (picked (A d) (I d)) ∗ scopedBufs (tile d c s) ∗ scopedSems0 (tile d c s)
            ∗ ∃ W', ⌜∀ p ∈ W', p ∈ W ∨ p.2 = none ∨ p.2 = some (0 : Fin 1)⌝ ∗ owes (tile d c s) O W') := by
  rw [(K (F := F)).scopedBufs_V hF d _ _, SparseCore.Cfg.scopedSems0_V (Val := Elt F) d _ _, ownSems_tile, ownBufs_tile]
  unfold Piece
  iintro ⟨#Hlv, -, ⟨Ha, Hi, Hg⟩, ⟨Hb0, Hb2, Hbufs⟩, ⟨Hc, Hsems⟩, HO⟩
  ihave Hmw := (show levAts (K (F := F)).L (K (F := F)).lev ⊢ Await (F := F) d c s O from
    (K (F := F)).mayWaits_none (thr := tile d c s) hO) $$ Hlv
  ihave Hs := (scratch_of_raw (F := F) d c s) $$ [Hb0 Hb2 Hc]
  · unfold Raw
    isplitl [Hb0]; · iexact Hb0
    isplitl [Hb2]; · iexact Hb2
    iexact Hc
  iapply (wp_wand_r frame _ _)
  isplitl [Hmw HO Ha Hi Hg Hs]
  · iapply (tile_runs d c s O W (A d) (I d) (G d) (shareOf c s) (shareOf c s) (hin d))
    isplitl [Hmw]; · iexact Hmw
    isplitl [HO]
    · unfold Owing
      iexists W; isplitr
      · ipureintro; exact fun p hp => .inl hp
      iexact HO
    isplitl [Ha]; · iexact Ha
    isplitl [Hi]; · iexact Hi
    isplitl [Hg]; · iexact Hg
    iexact Hs
  iintro %_ ⟨HO, Ha, Hi, Hg, Hs⟩
  ihave Hs := (raw_of_scratch (F := F) d c s) $$ Hs
  unfold Raw Owing
  icases Hs with ⟨Hb0, Hb2, Hc⟩
  icases HO with ⟨%W', %hW, HO⟩
  isplitl [Ha Hi Hg]
  · isplitl [Ha]; · iexact Ha
    isplitl [Hi]; · iexact Hi
    iexact Hg
  isplitl [Hb0 Hb2 Hbufs]
  · isplitl [Hb0]; · iexact Hb0
    isplitl [Hb2]; · iexact Hb2
    iexact Hbufs
  isplitl [Hc Hsems]
  · isplitl [Hc]; · iexact Hc
    iexact Hsems
  iexists W'; isplitr
  · ipureintro; exact fun p hp => (hW p hp).imp_right Or.inl
  iexact HO

theorem defs₀_vector (c : Fin τ.nSC) (s : Fin τ.nSub) :
    defs₀ (F := F) (.scVector c s) 0 ()
      = SparseCore.onTile hcore0 hsub0 (fun c s => cc0_gather (at2 c s) rowsV (Memref.isWhole_whole _) idxV (Memref.isWhole_whole _)
          outV (Memref.isWhole_whole _) idxB (Memref.isWhole_whole _) cc0_scoped1 rowB (Memref.isWhole_whole _) cc0_scoped3 cc0_scoped4 cc0_scoped5) ⟨⟩ c s := rfl

set_option maxRecDepth 16384 in
theorem tileObl (hF : (K (F := F)).Facts) (hin : InRange I) : (K (F := F)).TileObl (D (F := F)) 𝒱 (P A I G) v₀ 0 := by
  intro d c i O W hO _ _
  simp only [show (P A I G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_runs A I G hF hin d (Fin.cast nCore_zero c) (Fin.cast nSub_zero i) O W hO

theorem over_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P A I G) 0 := by
  intro d c
  have e (g : S262144x256.Idx → Elt F .i32) :
      (bigSep Finset.univ fun i : Fin ((K (F := F)).nSub 0) => Piece A I d (Fin.cast nCore_zero c) (Fin.cast nSub_zero i) g : sProp 𝕄)
        = CorePiece A I d (Fin.cast nCore_zero c) g := by
    unfold CorePiece; exact over_tiles (fun i => Piece A I d (Fin.cast nCore_zero c) i g)
  simp only [P_st, P_dn, P_go, P_td]
  rw [e, e]
  iintro H; imodintro
  isplitl [H]; · iexact H
  iintro H; iexact H

/-! ## The launch element of the ghost state -/

theorem bigSep_none {J : Type} (s : Finset J) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A I G).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) A I G).x q thr) = bigSep Finset.univ fun _ => iprop(emp) from
    bigSep_congr fun _ _ => bigSep_univ_of_subsingleton (0 : Fin 1), bigSep_none]
  iempintro

/-! ## The operands, cut for the cores -/

/-- The operands and the result whole are both cores' pieces. -/
theorem cores_eq (d : Dev nD) (g : S262144x256.Idx → Elt F .i32) :
    iprop((rowsLoc d ↦{fullShare} (show Buf (Elt F) (rowsLoc d) from A d)) ∗ (idxLoc d ↦{fullShare} (show Buf (Elt F) (idxLoc d) from I d))
        ∗ (outLoc d ↦{fullShare} (show Buf (Elt F) (outLoc d) from g)))
      = (bigSep Finset.univ fun c : Fin 2 => CorePiece A I d c g : sProp 𝕄) := by
  have h (c : Fin 2) : (CorePiece A I d c g : sProp 𝕄)
      = iprop((bigSep Finset.univ fun s : Fin 16 => rowsAt (F := F) d c s (A d) (shareOf c s))
          ∗ (bigSep Finset.univ fun s : Fin 16 => idxsAt (F := F) d c s (I d) (shareOf c s) Finset.univ)
          ∗ bigSep Finset.univ fun s : Fin 16 => Blocks (F := F) d c s g) := by
    unfold CorePiece Piece; rw [bigSep_sep', bigSep_sep']
  rw [bigSep_congr fun c _ => h c, bigSep_sep', bigSep_sep', out_tiles, shared_tiles (ℓ := rowsLoc d), shared_tiles (ℓ := idxLoc d)]

theorem st0_eq (d : Dev nD) : (bigSep Finset.univ fun c : Fin ((K (F := F)).nCore 0) => (P A I G).st 0 d c)
    = (bigSep Finset.univ fun c : Fin 2 => CorePiece A I d c (G d) : sProp 𝕄) := by
  simp only [P_st]; exact over_cores (fun c => CorePiece A I d c (G d))
theorem dn0_eq (d : Dev nD) : (bigSep Finset.univ fun c : Fin ((K (F := F)).nCore 0) => (P A I G).dn 0 d c)
    = (bigSep Finset.univ fun c : Fin 2 => CorePiece A I d c (picked (A d) (I d)) : sProp 𝕄) := by
  simp only [P_dn]; exact over_cores (fun c => CorePiece A I d c (picked (A d) (I d)))

end

/-! ## @main on the TensorCore -/

variable (m : (ℓ : Loc nD τ sig) → Buf (Elt F) ℓ) (ρ : Dev nD → PrngReg)

/-- Device `d`'s buffers after the host's operations. -/
abbrev prepared (d : Dev nD) : Valuation τ sig (Elt F) := after (hostOps (F := F)) (launchContents m d)
/-- The rows gathered from, the row numbers, and what the result held before. -/
abbrev rowsOf (d : Dev nD) : S392704x256.Idx → Elt F .i32 := prepared m d (Proc.devRef .tc main_v7)
abbrev numsOf (d : Dev nD) : S1x262144.Idx → BitVec 32 := prepared m d (Proc.devRef .tc main_v8)
abbrev priorOf (d : Dev nD) : S262144x256.Idx → Elt F .i32 := prepared m d (Proc.devRef .tc main_v9)

/-- The result: the picked rows. -/
abbrev resultOf (d : Dev nD) : S262144x256.Idx → Elt F .i32 := picked (rowsOf m d) (numsOf m d)
/-- What the launch's handshakes carry. -/
abbrev carried : (K (F := F)).Pay (nD := nD) (Val := Elt F) (Name := ℕ) (U := UU) := P (rowsOf m) (numsOf m) (priorOf m)

abbrev argLoc0 (d : Dev nD) : Loc nD τ sig := (SparseCore.T d).loc main_arg0
abbrev argLoc1 (d : Dev nD) : Loc nD τ sig := (SparseCore.T d).loc main_arg1

/-- The call's operands and result, and the arguments. -/
abbrev five : Finset (DevRef τ sig) :=
  {Proc.devRef .tc main_v7, Proc.devRef .tc main_v8, Proc.devRef .tc main_v9, Proc.devRef .tc main_arg0, Proc.devRef .tc main_arg1}

theorem five_sub : five ⊆ tcRefs τ sig := by
  intro b hb
  simp only [five, Finset.mem_insert, Finset.mem_singleton] at hb
  rcases hb with rfl | rfl | rfl | rfl | rfl <;> exact StableHlo.devRef_mem_tcRefs _

theorem held_five (d : Dev nD) (W : Valuation τ sig (Elt F)) :
    (held (T d) five W : sProp 𝕄)
      = iprop((rowsLoc d ↦{fullShare} W (Proc.devRef .tc main_v7)) ∗ (idxLoc d ↦{fullShare} W (Proc.devRef .tc main_v8))
          ∗ (outLoc d ↦{fullShare} W (Proc.devRef .tc main_v9)) ∗ (argLoc0 d ↦{fullShare} W (Proc.devRef .tc main_arg0))
          ∗ argLoc1 d ↦{fullShare} W (Proc.devRef .tc main_arg1)) := by
  unfold held five
  rw [SparseCore.bigSep_insert' (by decide), SparseCore.bigSep_insert' (by decide), SparseCore.bigSep_insert' (by decide),
    SparseCore.bigSep_insert' (by decide), bigSep_singleton]

theorem launch_held (d : Dev nD) : (unscopedBufs d (fun b => m ((SparseCore.T d).loc b)) : sProp 𝕄) = held (T d) (tcRefs τ sig) (launchContents m d) := by
  unfold unscopedBufs held tcRefs
  rw [bigSep_map, show (Finset.univ.filter fun b : Ref sig .tc => ¬ b.isScoped) = Finset.univ by decide]
  rfl

theorem prepared_arg0 (d : Dev nD) : prepared m d (Proc.devRef .tc main_arg0) = m (argLoc0 d) := by
  after_results <;> rfl
theorem prepared_arg1 (d : Dev nD) : prepared m d (Proc.devRef .tc main_arg1) = m (argLoc1 d) := by
  after_results <;> rfl

/-- What @main leaves: the result at the picked rows, the arguments as they were. -/
abbrev FIN (d : Dev nD) : sProp 𝕄 :=
  iprop((outLoc d ↦{fullShare} (show Buf (Elt F) (outLoc d) from resultOf m d)) ∗ (argLoc0 d ↦{fullShare} m (argLoc0 d)) ∗ argLoc1 d ↦{fullShare} m (argLoc1 d))

theorem hmain (κ : GSem nD τ sig → ℕ) (d : Dev nD) :
    iprop((K (F := F)).ctx EH (carried m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hheld, Hts, -⟩, -⟩
  iapply (wp_seq 𝒱 none Set.univ d (tcRefs τ sig) _ (hostOps (F := F)) (List.forall_iff_forall_mem.1 hostOps_sub) hostOps_fresh (launchContents m d)) $$ [Hb Hheld]
  · isplitl [Hb]; · iexact Hb
    iexact Hheld
  iintro ⟨Hb, Hheld⟩
  ihave Hh := (Entails.of_eq ((held_sub_split (T d) five_sub (prepared m d)).trans (congrArg (fun X => iprop(X ∗ _)) (held_five d (prepared m d))))) $$ Hheld
  icases Hh with ⟨⟨Ha, Hi, Ho, H0, H1⟩, -⟩
  rw [wp_bind]
  iapply ((K (F := F)).wp_run (D (F := F)) 𝒱 (EH := EH) (P := carried m) κ d 0) $$ [Hst Ha Hi Ho H0 H1 Hb Hts]
  isplitr; · iexact Hctx
  isplitl [Hst]; · iexact Hst
  isplitl [Ha Hi Ho]
  · iapply (Entails.of_eq ((st0_eq (rowsOf m) (numsOf m) (priorOf m) d).trans (cores_eq (rowsOf m) (numsOf m) d (priorOf m d)).symm).symm)
    isplitl [Ha]; · iexact Ha
    isplitl [Hi]; · iexact Hi
    iexact Ho
  iintro ⟨Hst, Hdn⟩
  ihave Hdn' := (Entails.of_eq ((dn0_eq (rowsOf m) (numsOf m) (priorOf m) d).trans (cores_eq (rowsOf m) (numsOf m) d (resultOf m d)).symm)) $$ Hdn
  icases Hdn' with ⟨-, -, Ho⟩
  rw [wp_pure]; imodintro
  isplitl [Hst]; · iexact Hst
  isplitr [Hb Hts]
  · isplitl [Ho]; · iexact Ho
    isplitl [H0]
    · iapply (Entails.of_eq (congrArg (fun X => (argLoc0 d ↦{fullShare} X : sProp 𝕄)) (prepared_arg0 m d))); iexact H0
    · iapply (Entails.of_eq (congrArg (fun X => (argLoc1 d ↦{fullShare} X : sProp 𝕄)) (prepared_arg1 m d))); iexact H1
  isplitl [Hb] <;> iassumption

def fq (d : Dev nD) (s' : Phys nD τ sig (Elt F)) : Prop :=
  s'.mem.mem (outLoc d) = resultOf m d ∧ s'.mem.mem (argLoc0 d) = m (argLoc0 d) ∧ s'.mem.mem (argLoc1 d) = m (argLoc1 d)

set_option maxRecDepth 16384 in
theorem hfin (d : Dev nD) (s' : Phys nD τ sig (Elt F)) : iprop(FIN m d ∗ SI s') ⊢ (⌜fq m d s'⌝ : sProp 𝕄) := by
  iintro ⟨⟨Ho, H0, H1⟩, HSI⟩
  ihave H := (persistent_entails_right (SI_pointsTo_agree (st := s') (ℓ := outLoc d) (I := Finset.univ) (q := fullShare) (f := resultOf m d))) $$ [HSI Ho]
  · isplitl [HSI] <;> iassumption
  icases H with ⟨%ho, HSI, -⟩
  ihave H := (persistent_entails_right (SI_pointsTo_agree (st := s') (ℓ := argLoc0 d) (I := Finset.univ) (q := fullShare) (f := m (argLoc0 d)))) $$ [HSI H0]
  · isplitl [HSI] <;> iassumption
  icases H with ⟨%h0, HSI, -⟩
  ihave H := (SI_pointsTo_agree (st := s') (ℓ := argLoc1 d) (I := Finset.univ) (q := fullShare) (f := m (argLoc1 d))) $$ [HSI H1]
  · isplitl [HSI] <;> iassumption
  icases H with %h1
  ipureintro
  exact ⟨funext fun i => ho i (Finset.mem_univ i), funext fun i => h0 i (Finset.mem_univ i), funext fun i => h1 i (Finset.mem_univ i)⟩

/-! ## The run -/

def QC : PUnit × MemSt nD τ sig (Elt F) → Prop := fun r =>
  (∀ c : Dev nD, r.2.mem (outLoc c) = resultOf m c ∧ r.2.mem (argLoc0 c) = m (argLoc0 c) ∧ r.2.mem (argLoc1 c) = m (argLoc1 c))
    ∧ r.2.sem = fun _ => 0

/-- Every weakly fair execution ends with the result at the picked rows, the arguments unchanged and the counters at zero,
    where the prepared row numbers name rows. -/
theorem run_main [∀ e, Nonempty (Elt F e)] (hin : InRange (numsOf m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := carried m) (A := ∅) facts v₀
    (fun q hq => match q with | 0 => nomatch hq)
    (fun q _ => match q with | 0 => tileObl (rowsOf m) (numsOf m) (priorOf m) facts hin)
    (fun q _ => match q with | 0 => SparseCore.Cfg.VecSplit.of_plain (vecSplit (rowsOf m) (numsOf m) (priorOf m)))
    m ρ main (fun _ => iprop(emp)) (FIN m) (u₀ (F := F)) (sep_elim_left.trans (hu₀ (rowsOf m) (numsOf m) (priorOf m))) (hmain m ρ) (fq m) (hfin m) (QC m) (fun _ h hz => ⟨h, hz⟩)

end Cert.Proof.Gather
-- ==== Proof.Host.lean ====
/-
  What the host prepares for the call, element by element, and that the picked rows are the reference's: result row
  `h · 131072 + k · 16384 + b · 8192 + s` is row `dest[b, k, s]` of half `h` of the experts' output. For any float values.
-/
module

public import proofs.«01_k».proof.Proof.Launch
public import proofs.«01_k».proof.Proof.Gen.ReferenceIdeal.Run
public import proofs.«01_k».proof.Proof.Gen.Reference.Run
public import proofs.«01_k».proof.Proof.Gen.Pre_dest_in_rows
public import Idealize.ShloMosaic.Lib.Pipeline.Value

@[expose] public section

noncomputable section

namespace Cert.Proof.Gather

open Cert.KernelIdeal Cert.KernelIdeal.Gen
open Idealize.ShloMosaic
open Idealize.ShloMosaic.StableHlo
open Idealize.ShloMosaic.ValueIdx

variable {F : FTy → Type}

/-! ## Where a result row comes from -/

/-- The half, the choice, the sequence and the position a result row stands for. -/
def side (r : Fin 262144) : Fin 2 := ⟨r.val / 131072, by omega⟩
def choice (r : Fin 262144) : Fin 8 := ⟨r.val / 16384 % 8, by omega⟩
def seqn (r : Fin 262144) : Fin 2 := ⟨r.val / 8192 % 2, by omega⟩
def posn (r : Fin 262144) : Fin 8192 := ⟨r.val % 8192, by omega⟩

/-- The row number the routing gives result row `r`. -/
def destOf (J : S2x8x8192.Idx → BitVec 32) (r : Fin 262144) : BitVec 32 := J (ix3 (seqn r) (choice r) (posn r))

/-- The rows the reference collects: row `destOf J r` of half `side r`. -/
def collected (X : S2x196352x256.Idx → Elt F .i32) (J : S2x8x8192.Idx → BitVec 32) : S262144x256.Idx → Elt F .i32 := fun x =>
  X (ix3 (side (x 0)) ⟨(destOf J (x 0)).toNat % 196352, Nat.mod_lt _ (by decide)⟩ (x 1))

/-! ## The prepared row numbers and rows -/

/-- The routing's destinations with the choice first. -/
abbrev turned (J : S2x8x8192.Idx → BitVec 32) : S8x2x8192.Idx → BitVec 32 :=
  transpose S8x2x8192 [1, 0, 2] J transposes_S2x8x8192_S8x2x8192_1_0_2

/-- The row numbers the call is given. -/
def numbers (J : S2x8x8192.Idx → BitVec 32) : S1x262144.Idx → BitVec 32 :=
  shapeCast S1x262144 (concatenate S262144 0
    [⟨S131072, shapeCast S131072 (shapeCast S8x16384 (turned J) shapeCasts_S8x2x8192_S8x16384) shapeCasts_S8x16384_S131072⟩,
     ⟨S131072, shapeCast S131072 (addi (shapeCast S8x16384 (turned J) shapeCasts_S8x2x8192_S8x16384)
        (broadcastInDim S8x16384 ![] bcast_S_S8x16384 (constantI S_ 32 196352#32))) shapeCasts_S8x16384_S131072⟩]
    concatenates_S131072_S131072_S262144_d0) shapeCasts_S262144_S1x262144

theorem turned_apply (J : S2x8x8192.Idx → BitVec 32) (k : Fin 8) (b : Fin 2) (s : Fin 8192) : turned J (ix3 k b s) = J (ix3 b k s) :=
  transpose_apply _ _ _ _ (ix3 b k s) (by intro a; fin_cases a <;> rfl)

/-- Both parts of the row numbers read the same destination at a position `r` of either half. -/
theorem flat_apply (J : S2x8x8192.Idx → BitVec 32) (r : Fin 262144) :
    shapeCast S8x16384 (turned J) shapeCasts_S8x2x8192_S8x16384 (ix2 (choice r) ⟨r.val % 16384, by omega⟩) = destOf J r := by
  rw [shapeCast_apply _ _ _ (ix3 (choice r) (seqn r) (posn r)), turned_apply]
  · rfl
  · rw [Shape.rowMajor_val_two, Shape.rowMajor_val_three]
    simp [choice, seqn, posn]
    omega

theorem numbers_apply (J : S2x8x8192.Idx → BitVec 32) (r : Fin 262144) :
    numbers J (ix2 0 r) = if r.val < 131072 then destOf J r else destOf J r + 196352#32 := by
  unfold numbers
  rw [shapeCast_apply _ _ _ (ix1 r) (by rw [Shape.rowMajor_val_two, Shape.rowMajor_val_one]; simp)]
  split
  · next h =>
    refine (concatenate_pair_apply_left (t := S262144) (s₁ := S131072) (s₂ := S131072) 0 _ _ concatenates_S131072_S131072_S262144_d0 (ix1 r) rfl
      (ix1 (n := 131072) ⟨r.val, h⟩) (by intro b; fin_cases b; rfl)).trans ?_
    rw [shapeCast_apply _ _ _ (ix2 (choice r) ⟨r.val % 16384, by omega⟩), flat_apply]
    rw [Shape.rowMajor_val_two, Shape.rowMajor_val_one]
    simp [choice]
    omega
  · next h =>
    have hr := r.isLt
    refine (concatenate_pair_apply_right (t := S262144) (s₁ := S131072) (s₂ := S131072) 0 _ _ concatenates_S131072_S131072_S262144_d0 (ix1 r) rfl rfl
      (ix1 (n := 131072) ⟨r.val - 131072, by omega⟩) (by intro b hb; fin_cases b; exact absurd rfl hb)
      (by show r.val - 131072 + 131072 = r.val; omega)).trans ?_
    rw [shapeCast_apply _ _ _ (ix2 (choice r) ⟨r.val % 16384, by omega⟩)]
    · show shapeCast S8x16384 (turned J) shapeCasts_S8x2x8192_S8x16384 (ix2 (choice r) ⟨r.val % 16384, by omega⟩) + 196352#32 = _
      rw [flat_apply]
    · rw [Shape.rowMajor_val_two, Shape.rowMajor_val_one]
      simp [choice]
      omega

theorem rows_apply (X : S2x196352x256.Idx → Elt F .i32) (h : Fin 2) (v : Fin 196352) (q : Fin 256) (n : Fin 392704)
    (hn : n.val = h.val * 196352 + v.val) :
    shapeCast S392704x256 X shapeCasts_S2x196352x256_S392704x256 (ix2 n q) = X (ix3 h v q) := by
  refine shapeCast_apply _ _ _ _ ?_
  rw [Shape.rowMajor_val_two, Shape.rowMajor_val_three]
  simp
  exact hn.symm

/-- Every destination names a row of a half. -/
def Within (J : S2x8x8192.Idx → BitVec 32) : Prop := ∀ j, (J j).toNat < 196352

theorem number_toNat (J : S2x8x8192.Idx → BitVec 32) (hJ : Within J) (r : Fin 262144) :
    (numbers J (ix2 0 r)).toNat = (side r).val * 196352 + (destOf J r).toNat := by
  have hr := r.isLt
  have hd : (destOf J r).toNat < 196352 := hJ _
  rw [numbers_apply]
  split
  · have : (side r).val = 0 := by simp only [side]; omega
    omega
  · have : (side r).val = 1 := by simp only [side]; omega
    rw [BitVec.toNat_add, this]
    simp only [BitVec.toNat_ofNat]
    omega

theorem picked_eq_collected (X : S2x196352x256.Idx → Elt F .i32) (J : S2x8x8192.Idx → BitVec 32) (hJ : Within J) :
    picked (F := F) (shapeCast S392704x256 X shapeCasts_S2x196352x256_S392704x256) (numbers J) = collected X J := by
  funext x
  have hd : (destOf J (x 0)).toNat < 196352 := hJ _
  have hn := number_toNat J hJ (x 0)
  have hh := (side (x 0)).isLt
  unfold picked collected
  refine rows_apply X _ _ _ _ ?_
  show (numbers J (ix2 0 (x 0))).toNat % 392704 = (side (x 0)).val * 196352 + (destOf J (x 0)).toNat % 196352
  rw [hn]; omega

/-! ## The reference's term -/

/-- The reference's row numbers: a destination below zero counted from the end, the others as they are. -/
abbrev wrapped (J : S2x8x8192.Idx → BitVec 32) : S8x2x8192.Idx → BitVec 32 :=
  select (cmpi .slt (turned J) (broadcastInDim S8x2x8192 ![] Cert.ReferenceIdeal.Facts₀.bcast_S_S8x2x8192 (constantI S_ 32 0#32)))
    (addi (turned J) (broadcastInDim S8x2x8192 ![] Cert.ReferenceIdeal.Facts₀.bcast_S_S8x2x8192 (constantI S_ 32 196352#32))) (turned J)

theorem wrapped_apply (J : S2x8x8192.Idx → BitVec 32) (hJ : Within J) (k : Fin 8) (b : Fin 2) (s : Fin 8192) :
    wrapped J (ix3 k b s) = J (ix3 b k s) := by
  have ht := turned_apply J k b s
  have hlt := hJ (ix3 b k s)
  have hc : IntOp.cmpi .slt (J (ix3 b k s)) 0#32 = 0#1 := by
    have : (J (ix3 b k s)).slt 0#32 = false := by
      rw [BitVec.slt_eq_decide, decide_eq_false_iff_not, BitVec.toInt_eq_toNat_cond]
      simp only [BitVec.toInt_zero]
      split <;> omega
    simp [IntOp.cmpi, this]
  show (if IntOp.cmpi .slt (turned J (ix3 k b s)) 0#32 = 1#1 then _ else turned J (ix3 k b s)) = _
  rw [ht, hc, if_neg (by decide)]

abbrev gd := Cert.ReferenceIdeal.gather_S2x196352x256_S8x2x8192x1_S2x8x2x8192x256_04_1_n_n_1_3_21256

/-- A taken row: the operand's, at the row number read. -/
theorem gather_apply (X : S2x196352x256.Idx → Elt F .i32) (I : IVec Cert.ReferenceIdeal.S8x2x8192x1 32) (h : Fin 2) (k : Fin 8) (b : Fin 2)
    (s : Fin 8192) (q : Fin 256) (v : Fin 196352) (hv : (I (ix4 k b s 0)).toInt.toNat = v.val) :
    Host.gather gd X I (ix5 h k b s q) = X (ix3 h v q) := by
  unfold Host.gather
  refine congrArg X (funext fun a => Fin.ext ?_)
  have hi : gd.siIdx (ix5 h k b s q) ⟨0, by decide⟩ = ix4 k b s 0 := by
    funext e; fin_cases e <;> rfl
  match a with
  | ⟨0, _⟩ => show 0 + 0 + h.val = h.val; omega
  | ⟨1, _⟩ =>
    show min (I (gd.siIdx (ix5 h k b s q) ⟨0, by decide⟩)).toInt.toNat (196352 - 1) + 0 + 0 = v.val
    rw [hi, hv]; have := v.isLt; omega
  | ⟨2, _⟩ => show 0 + 0 + q.val = q.val; omega

/-- The reference's result is the collected rows, where every destination names a row. -/
theorem reference_eq (X : S2x196352x256.Idx → Elt F .i32) (J : S2x8x8192.Idx → BitVec 32) (hJ : Within J) :
    shapeCast Cert.ReferenceIdeal.S262144x256 (Host.gather gd X
      (broadcastInDim Cert.ReferenceIdeal.S8x2x8192x1 ![0, 1, 2] Cert.ReferenceIdeal.Facts₀.bcast_S8x2x8192_S8x2x8192x1_0_1_2 (wrapped J)))
      Cert.ReferenceIdeal.Facts₀.shapeCasts_S2x8x2x8192x256_S262144x256 = collected X J := by
  funext x
  have hd : (destOf J (x 0)).toNat < 196352 := hJ _
  have hr : (x 0).val < 262144 := (x 0).isLt
  refine (shapeCast_apply (s := Cert.ReferenceIdeal.S2x8x2x8192x256) (t := Cert.ReferenceIdeal.S262144x256) _ _ x
    (ix5 (side (x 0)) (choice (x 0)) (seqn (x 0)) (posn (x 0)) (x 1)) ?_).trans ?_
  rotate_left
  · rw [gather_apply X _ (side (x 0)) (choice (x 0)) (seqn (x 0)) (posn (x 0)) (x 1) ⟨(destOf J (x 0)).toNat % 196352, Nat.mod_lt _ (by decide)⟩]
    · rfl
    · show (wrapped J _).toInt.toNat = (destOf J (x 0)).toNat % 196352
      have e := wrapped_apply J hJ (choice (x 0)) (seqn (x 0)) (posn (x 0))
      refine (congrArg (fun v : BitVec 32 => v.toInt.toNat) (show _ = destOf J (x 0) from Eq.trans (congrArg (wrapped J) ?_) e)).trans ?_
      · funext a; fin_cases a <;> rfl
      · show (destOf J (x 0)).toInt.toNat = _
        rw [BitVec.toInt_eq_toNat_cond]
        split <;> omega
  · rw [Shape.rowMajor_val_two, Shape.rowMajor_val_five]
    simp [side, choice, seqn, posn]
    omega

/-! ## What the run's arrays hold -/

variable [FloatOps F] (m : (ℓ : Loc nD τ sig) → Buf (Elt F) ℓ)

theorem rowsOf_eq (d : Dev nD) : rowsOf m d = shapeCast S392704x256 (m (argLoc0 d)) shapeCasts_S2x196352x256_S392704x256 := by
  unfold rowsOf prepared hostOps
  after_results <;> rfl

theorem numsOf_eq (d : Dev nD) : numsOf m d = numbers (m (argLoc1 d)) := by
  unfold numsOf prepared hostOps numbers
  after_results <;> rfl

theorem resultOf_eq (hJ : ∀ d, Within (m (argLoc1 d))) (d : Dev nD) : resultOf m d = collected (m (argLoc0 d)) (m (argLoc1 d)) := by
  unfold resultOf
  rw [rowsOf_eq, numsOf_eq]
  exact picked_eq_collected _ _ (hJ d)

theorem nums_inRange (hJ : ∀ d, Within (m (argLoc1 d))) : InRange (numsOf m) := by
  intro d x
  have e : x = ix2 (0 : Fin 1) (x 1) := by
    funext a
    match a with
    | ⟨0, _⟩ => exact Subsingleton.elim (α := Fin 1) _ _
    | ⟨1, _⟩ => rfl
  rw [numsOf_eq, e]
  have hn := number_toNat (m (argLoc1 d)) (hJ d) (x 1)
  have hd : (destOf (m (argLoc1 d)) (x 1)).toNat < 196352 := hJ d _
  have hh := (side (x 1)).isLt
  exact hn ▸ (by omega)

/-! ## The precondition -/

theorem and_bits (a b : Bool) : IntOp.andi (BitVec.ofBool a) (BitVec.ofBool b) = BitVec.ofBool (a && b) := by cases a <;> cases b <;> decide
theorem bit_true (a : Bool) : BitVec.ofBool a = 1#1 ↔ a = true := by cases a <;> decide

/-- A word that is at least zero and below the number of rows, as signed words are compared, is below it as a natural number. -/
theorem word_within (v : BitVec 32) (e : IntOp.andi (IntOp.cmpi .sge v 0#32) (IntOp.cmpi .slt v 196352#32) = 1#1) : v.toNat < 196352 := by
  simp only [IntOp.cmpi, and_bits, bit_true, Bool.and_eq_true, BitVec.sle_eq_decide, BitVec.slt_eq_decide, decide_eq_true_eq,
    BitVec.toInt_eq_toNat_cond, BitVec.toNat_ofNat, Nat.reducePow, Nat.reduceMod] at e
  omega

theorem within_of_pre (X : S2x196352x256.Idx → BitVec 32) (J : S2x8x8192.Idx → BitVec 32)
    (h : Cert.Pre_dest_in_rows.fn (F := F) X J = fun _ => 1#1) : Within J := by
  intro j
  have e := congrFun h j
  exact word_within (J j) e

end Cert.Proof.Gather
-- ==== Proof.AttnInputs.lean ====
/-
  What the precondition says of the argument arrays, entry by entry: the queries, keys and values, and the four rows that
  the weight of the second softmax is made of, are real numbers.
-/
module

public import proofs.«01_k».proof.Proof.Gen.Pre_finite_inputs
public import proofs.«01_k».proof.Defs
public import Idealize.ShloMosaic.Lib.Pointwise

@[expose] public section

noncomputable section

namespace Cert.Proof.AttentionInputs

open Cert.Pre_finite_inputs
open Idealize.ShloMosaic
open Idealize.ShloMosaic.StableHlo

attribute [local instance] Cert.Pre_finite_inputs.Gen.facts

/-- Two bits whose conjunction is one are both one. -/
theorem both {x y : BitVec 1} (h : IntOp.andi x y = 1#1) : x = 1#1 ∧ y = 1#1 := by
  revert x y; decide

/-- Bits whose conjunction is one are all one. -/
theorem all_of_fold {ι : Type*} [DecidableEq ι] (s : Finset ι) (f : ι → BitVec 1) (h : s.fold IntOp.andi 1#1 f = 1#1) :
    ∀ i ∈ s, f i = 1#1 := by
  induction s using Finset.induction_on with
  | empty => intro i hi; simp at hi
  | insert a s ha ih =>
    rw [Finset.fold_insert ha] at h
    obtain ⟨h1, h2⟩ := both h
    intro i hi
    rcases Finset.mem_insert.1 hi with rfl | hi
    · exact h1
    · exact ih h2 i hi

theorem top_f32 : Ideal.ofBits .f32 0x7F800000#32 = (⊤ : EReal) := by
  simp [Ideal.ofBits, Ideal.ieee]

/-- An extended real whose absolute value is below the greatest one is a real number. -/
theorem real_of_test {x : EReal} (h : BitVec.ofBool (decide (FloatOps.absf (F := Ideal) (φ := .f32) x < Ideal.ofBits .f32 0x7F800000#32)) = 1#1) :
    ∃ r : ℝ, x = ((r : ℝ) : EReal) := by
  have h : max x (-x) < ⊤ := by
    rw [top_f32] at h
    by_contra hn
    rw [show decide (FloatOps.absf (F := Ideal) (φ := .f32) x < ⊤) = false from decide_eq_false hn] at h
    exact absurd h (by decide)
  induction x with
  | bot => simp at h
  | top => simp at h
  | coe r => exact ⟨r, rfl⟩

theorem reading (q k v : FVec Ideal S2x8192x512 .f32) (l1 l2 l3 l4 : FVec Ideal S64 .f32) (g : FVec Ideal S128 .f32)
    (h : fn (F := Ideal) q k v l1 l2 l3 l4 g = fun _ => 1#1) (b : Fin 2) (p : Fin 8192) (e : Fin 512) :
    ((∃ r : ℝ, q (ix3 b p e) = ((r : ℝ) : EReal)) ∧ (∃ r : ℝ, k (ix3 b p e) = ((r : ℝ) : EReal))
      ∧ (∃ r : ℝ, v (ix3 b p e) = ((r : ℝ) : EReal)))
    ∧ ∀ i : Fin 64, (∃ r : ℝ, l1 (ix1 i) = ((r : ℝ) : EReal)) ∧ (∃ r : ℝ, l2 (ix1 i) = ((r : ℝ) : EReal))
      ∧ (∃ r : ℝ, l3 (ix1 i) = ((r : ℝ) : EReal)) ∧ (∃ r : ℝ, l4 (ix1 i) = ((r : ℝ) : EReal)) := by
  have h := congrFun h (ix3 b p e)
  revert h
  pointwise [fn, fn_part1]
  intro h
  obtain ⟨h123, h4⟩ := both h
  obtain ⟨h12, h3⟩ := both h123
  obtain ⟨h1, h2⟩ := both h12
  refine ⟨⟨real_of_test h1, real_of_test h2, real_of_test h3⟩, fun i => ?_⟩
  obtain ⟨g123, g4⟩ := both (all_of_fold _ _ h4 i (Finset.mem_univ i))
  obtain ⟨g12, g3⟩ := both g123
  obtain ⟨g1, g2⟩ := both g12
  exact ⟨real_of_test g1, real_of_test g2, real_of_test g3, real_of_test g4⟩

end Cert.Proof.AttentionInputs
end
-- ==== Proof.AttnBody.lean ====
module

public import proofs.«01_k».proof.Proof.Gen.Kernel2Ideal.Frame
public import Idealize.ShloMosaic.Lib.VecWindow
public import Idealize.ShloMosaic.Lib.Pointwise
public import Idealize.ShloMosaic.Lib.Pipeline.Value

/-!
# What the attention's body leaves in its output block, as a function of its blocks

The body keeps three scratch buffers: the running maxima, the running lane sums and the running accumulator.
Every load of them reads the last store; so what they hold after the loop over pairs of key blocks, after the
odd block and after the two diagonal blocks are functions of the query, key and value blocks alone, and so is
the block the body stores.
-/

@[expose] public section
set_option maxRecDepth 16384
noncomputable section
namespace Cert.Proof.Attention
open Cert.Kernel2Ideal Cert.Kernel2Ideal.Gen
open Idealize.ShloMosaic Idealize.ShloMosaic.TcCoe Idealize.ShloMosaic.Tactic
open Idealize.SL.Sem
variable {F : FTy → Type} [FloatOps F] [Named F]

/-- The running maximum, the running lane sums and the running accumulator. -/
structure Scratch (F : FTy → Type) where
  m : Vec F S2048x128 .f32
  l : Vec F S2048x128 .f32
  a : Vec F S2048x128 .f32

/-- One unmasked block of 1024 keys. -/
def Scratch.full (q : FVec F S2048x128 .bf16) (kb vb : Vec F S1x1024x128 .bf16) (s : Scratch F) : Scratch F :=
  ⟨k0_pay9 (k0_pay4 q kb s.m), k0_pay7 q kb s.m s.l, k0_pay8 (k0_pay2 vb) (k0_pay5 q kb s.m) (k0_pay6 q kb s.m) s.a⟩

/-- Rows `1024 j ≤ … < 1024 j + 1024` of a head's keys or values. -/
def block (x : Vec F S1x8192x128 .bf16) (j : ℕ) : Vec F S1x1024x128 .bf16 := fun y =>
  x (ix3 (0 : Fin 1) (⟨(1024 * j + (y 1).val) % 8192, Nat.mod_lt _ (by decide)⟩ : Fin 8192) (y 2))

/-- Rows `1024 j ≤ … < 1024 j + 512` of a head's keys or values. -/
def halfBlock (x : Vec F S1x8192x128 .bf16) (j : ℕ) : Vec F S1x512x128 .bf16 := fun y =>
  x (ix3 (0 : Fin 1) (⟨(1024 * j + (y 1).val) % 8192, Nat.mod_lt _ (by decide)⟩ : Fin 8192) (y 2))

/-- The upper 1024 rows of a scratch buffer, and the lower ones. -/
def low (x : Vec F S2048x128 .f32) : Vec F S1024x128 .f32 := fun y =>
  x (ix2 (⟨(y 0).val, Nat.lt_of_lt_of_le (y 0).isLt (by decide)⟩ : Fin 2048) (y 1))

def high (x : Vec F S2048x128 .f32) : Vec F S1024x128 .f32 := fun y =>
  x (ix2 (⟨1024 + (y 0).val, Nat.add_lt_add_left (y 0).isLt 1024⟩ : Fin 2048) (y 1))

/-- Two halves of a scratch buffer, put together. -/
def glue (lo hi : Vec F S1024x128 .f32) : Vec F S2048x128 .f32 := fun y =>
  if h : (y 0).val < 1024 then lo (ix2 (⟨(y 0).val, h⟩ : Fin 1024) (y 1))
  else hi (ix2 (⟨(y 0).val - 1024, Nat.sub_lt_right_of_lt_add (Nat.le_of_not_lt h) (y 0).isLt⟩ : Fin 1024) (y 1))

/-- What the scratch buffers start with. -/
def start : Scratch F := ⟨k0_pay38, k0_pay39, k0_pay40⟩

/-- … and hold after the first `j` key blocks. -/
def after (q : FVec F S2048x128 .bf16) (x2 x3 : Vec F S1x8192x128 .bf16) : ℕ → Scratch F
  | 0 => start
  | j + 1 => Scratch.full q (block x2 j) (block x3 j) (after q x2 x3 j)

/-- The block the body stores at query block `i`. -/
def outBlock (i : ℕ) (x0 : Vec F S1 .f32) (x1 : Vec F S1x1024x128 .bf16) (x2 x3 : Vec F S1x8192x128 .bf16)
    (x4 : Vec F S1x128 .f32) : Vec F S1x1024x128 .bf16 :=
  let q := k0_pay37 x1
  let s := after q x2 x3 i
  let l := glue (k0_pay56 (k0_pay49 (halfBlock x2 i)) (k0_pay51 q) (low s.m) (low s.l))
    (k0_pay66 (k0_pay62 q (block x2 i) (high s.m)) (k0_pay64 q (block x2 i) (high s.m)) (k0_pay65 q (block x2 i) (high s.m)) (high s.l))
  let a := glue (k0_pay57 (k0_pay49 (halfBlock x2 i)) (k0_pay50 (halfBlock x3 i)) (k0_pay51 q) (low s.m) (low s.a))
    (k0_pay67 (k0_pay59 (block x3 i)) (k0_pay62 q (block x2 i) (high s.m)) (k0_pay63 q (block x2 i) (high s.m)) (high s.a))
  let lam := x0 (Shape.Idx.first (by decide))
  k0_pay1 (k0_pay69 a l lam) (k0_pay70 a l lam) k0_pay71 x4

/-- A load of a whole scratch buffer over a store of all of it reads what was stored. -/
theorem covered (v : View sig .tc .vmem S2048x128 .f32) (inb : ∀ a, ![0, 0] a + ![2048, 128] a ≤ S2048x128.size a)
    (inb' : ∀ a, ![0, 0] a + ![2048, 128] a ≤ S2048x128.size a) (w : S2048x128.Idx → Elt F .f32)
    (L : List (View.Piece (Elt F) S2048x128 .f32)) :
    v.readCov (⟨Rect.unit ![0, 0] ![2048, 128] inb', w⟩ :: L) (Rect.unit ![0, 0] ![2048, 128] inb).toLoadRect = w :=
  View.readCov_full v inb inb' w L

theorem whole (v : View sig .tc .vmem S2048x128 .f32) (inb : ∀ a, ![0, 0] a + ![2048, 128] a ≤ S2048x128.size a)
    (f : BufTy.Contents (Elt F) v.ty) :
    v.readAt (Elt F) (Rect.unit ![0, 0] ![2048, 128] inb).toLoadRect f = v.read (Elt F) f :=
  View.readAt_full v f inb

theorem trip_state (𝒱 : Variants) (c : Dev nD) (bd : Option 𝒱.V) (i : grid0.Coords) (arg3 : Memref sig .tc .smem S1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole)
  (arg2 : BitVec 32) (q : FVec F S2048x128 .bf16) (c2_i32 : BitVec 32) (v27 : BitVec 32) (v32 : BitVec 32) (v34 : BitVec 32) (X_arg5 : BufTy.Contents (Elt F) arg5.view.ty) (X_arg6 : BufTy.Contents (Elt F) arg6.view.ty) (k : Fin (k0_t1_loop i).trips) (f_arg9 : BufTy.Contents (Elt F) arg9.view.ty) (f_arg10 : BufTy.Contents (Elt F) arg10.view.ty) (f_arg11 : BufTy.Contents (Elt F) arg11.view.ty) :
  (⟨arg9.view.read (Elt F) (arg9.view.writes (Elt F) f_arg9 (tripL_k0_t1 (F := F) 𝒱 c bd i arg3 harg3 arg4 harg4 arg5 harg5 arg6 harg6 arg7 harg7 arg8 harg8 arg9 harg9 arg10 harg10 arg11 harg11 arg2 q c2_i32 v27 v32 v34 X_arg5 X_arg6 k f_arg9 f_arg10 f_arg11).1),
    arg10.view.read (Elt F) (arg10.view.writes (Elt F) f_arg10 (tripL_k0_t1 (F := F) 𝒱 c bd i arg3 harg3 arg4 harg4 arg5 harg5 arg6 harg6 arg7 harg7 arg8 harg8 arg9 harg9 arg10 harg10 arg11 harg11 arg2 q c2_i32 v27 v32 v34 X_arg5 X_arg6 k f_arg9 f_arg10 f_arg11).2.1),
    arg11.view.read (Elt F) (arg11.view.writes (Elt F) f_arg11 (tripL_k0_t1 (F := F) 𝒱 c bd i arg3 harg3 arg4 harg4 arg5 harg5 arg6 harg6 arg7 harg7 arg8 harg8 arg9 harg9 arg10 harg10 arg11 harg11 arg2 q c2_i32 v27 v32 v34 X_arg5 X_arg6 k f_arg9 f_arg10 f_arg11).2.2)⟩ : Scratch F) =
   Scratch.full q
      (View.readAt (Elt F) arg5.view (Rect.unit (s := S1x8192x128) (k0_off2 i k) S1x1024x128.size (k0_off2_inb i k)).toLoadRect X_arg5)
      (View.readAt (Elt F) arg6.view (Rect.unit (s := S1x8192x128) (k0_off2 i k) S1x1024x128.size (k0_off2_inb i k)).toLoadRect X_arg6)
      (Scratch.full q
        (View.readAt (Elt F) arg5.view (Rect.unit (s := S1x8192x128) (k0_off1 i k) S1x1024x128.size (k0_off1_inb i k)).toLoadRect X_arg5)
        (View.readAt (Elt F) arg6.view (Rect.unit (s := S1x8192x128) (k0_off1 i k) S1x1024x128.size (k0_off1_inb i k)).toLoadRect X_arg6)
        ⟨arg9.view.read (Elt F) f_arg9, arg10.view.read (Elt F) f_arg10, arg11.view.read (Elt F) f_arg11⟩) := by
  unfold tripL_k0_t1 trip_k0_t1
  dsimp only
  rw [View.read_writes_full, View.read_writes_full, View.read_writes_full]
  sl_unfold_run_names
  repeat rw [whole]
  repeat rw [covered]
  simp only [Scratch.full, k0_pay2, k0_pay3, k0_pay4, k0_pay5, k0_pay6, k0_pay7, k0_pay8, k0_pay9, k0_pay10, k0_pay11, k0_pay12, k0_pay13, k0_pay14, k0_pay15, k0_pay41, k0_pay42, k0_pay43]

theorem z2 : (![0, 0] : Fin 2 → ℕ) = fun _ => 0 := funext fun a => by fin_cases a <;> rfl
theorem z3 : (![0, 0, 0] : Fin 3 → ℕ) = fun _ => 0 := funext fun a => by fin_cases a <;> rfl
theorem z1 : (![0] : Fin 1 → ℕ) = fun _ => 0 := funext fun a => by fin_cases a <;> rfl

theorem off1_eq : ∀ (i : grid0.Coords) (k : Fin (k0_t1_loop i).trips), k0_off1 i k = ![0, 1024 * (2 * k.val), 0] := by
  decide +kernel
theorem off2_eq : ∀ (i : grid0.Coords) (k : Fin (k0_t1_loop i).trips), k0_off2 i k = ![0, 1024 * (2 * k.val + 1), 0] := by
  decide +kernel
theorem off5_eq : ∀ i : grid0.Coords, (i 2).val % 2 = 1 → k0_off5 i = ![0, 1024 * (2 * ((i 2).val / 2)), 0] := by
  decide +kernel
theorem trips1_eq : ∀ i : grid0.Coords, (k0_t1_loop i).trips = (i 2).val / 2 := by decide +kernel
theorem trips2_eq : ∀ i : grid0.Coords, (k0_t2_loop i).trips = 0 := by decide +kernel
theorem odd_iff : ∀ i : grid0.Coords, cond0_0 i ↔ (i 2).val % 2 = 1 := by decide +kernel

/-- A load of 1024 rows of the keys or of the values. -/
theorem readAt_block (v : Memref sig .tc .vmem S1x8192x128 .bf16) (hv : v.IsWhole) (x : Vec F S1x8192x128 .bf16)
    (off : Fin 3 → ℕ) (inb : ∀ a, off a + S1x1024x128.size a ≤ S1x8192x128.size a) (j : ℕ) (hoff : off = ![0, 1024 * j, 0]) :
    View.readAt (Elt F) v.view (Rect.unit (s := S1x8192x128) off S1x1024x128.size inb).toLoadRect (hv.unread x) = block x j := by
  subst hoff
  rw [View.readAt_eq_ld, hv.read_unread, View.ld_unit]
  funext y
  have h1 : 1024 * j + 1024 ≤ 8192 := inb 1
  have h2 : (y 1).val < 1024 := (y 1).isLt
  refine congrArg x (funext fun a => ?_)
  match a with
  | ⟨0, _⟩ => exact Fin.ext (by have : (y 0).val < 1 := (y 0).isLt; show 0 + (y 0).val = 0; omega)
  | ⟨1, _⟩ => exact Fin.ext (by show 1024 * j + (y 1).val = (1024 * j + (y 1).val) % 8192; omega)
  | ⟨2, _⟩ => exact Fin.ext (Nat.zero_add _)

theorem readAt_half (v : Memref sig .tc .vmem S1x8192x128 .bf16) (hv : v.IsWhole) (x : Vec F S1x8192x128 .bf16)
    (off : Fin 3 → ℕ) (inb : ∀ a, off a + S1x512x128.size a ≤ S1x8192x128.size a) (j : ℕ) (hoff : off = ![0, 1024 * j, 0]) :
    View.readAt (Elt F) v.view (Rect.unit (s := S1x8192x128) off S1x512x128.size inb).toLoadRect (hv.unread x) = halfBlock x j := by
  subst hoff
  rw [View.readAt_eq_ld, hv.read_unread, View.ld_unit]
  funext y
  have h1 : 1024 * j + 512 ≤ 8192 := inb 1
  have h2 : (y 1).val < 512 := (y 1).isLt
  refine congrArg x (funext fun a => ?_)
  match a with
  | ⟨0, _⟩ => exact Fin.ext (by have : (y 0).val < 1 := (y 0).isLt; show 0 + (y 0).val = 0; omega)
  | ⟨1, _⟩ => exact Fin.ext (by show 1024 * j + (y 1).val = (1024 * j + (y 1).val) % 8192; omega)
  | ⟨2, _⟩ => exact Fin.ext (Nat.zero_add _)

/-- A load of a whole scratch buffer reads what its stores left. -/
theorem cov_all (v : View sig .tc .vmem S2048x128 .f32) (L : List (View.Piece (Elt F) S2048x128 .f32))
    (inb : ∀ a, ![0, 0] a + ![2048, 128] a ≤ S2048x128.size a) :
    v.readCov L (Rect.unit (s := S2048x128) ![0, 0] ![2048, 128] inb).toLoadRect = View.canon L := by
  rw [View.readCov_eq_canon']
  funext j
  exact congrArg (View.canon L) (funext fun a => Fin.ext (by
    match a with
    | ⟨0, _⟩ => show 0 + 1 * (j 0).val = (j 0).val; omega
    | ⟨1, _⟩ => show 0 + 1 * (j 1).val = (j 1).val; omega))

/-- A load of its upper 1024 rows, and of its lower ones over a store of the upper ones. -/
theorem cov_low (v : View sig .tc .vmem S2048x128 .f32) (L : List (View.Piece (Elt F) S2048x128 .f32))
    (inb : ∀ a, ![0, 0] a + S1024x128.size a ≤ S2048x128.size a) :
    v.readCov L (Rect.unit (s := S2048x128) ![0, 0] S1024x128.size inb).toLoadRect = low (View.canon L) := by
  rw [View.readCov_eq_canon']
  funext j
  exact congrArg (View.canon L) (funext fun a => Fin.ext (by
    match a with
    | ⟨0, _⟩ => show 0 + 1 * (j 0).val = (j 0).val; omega
    | ⟨1, _⟩ => show 0 + 1 * (j 1).val = (j 1).val; omega))

theorem canon_at {s : Shape} {e : EltTy} (r : Rect s) (w : r.shape.Idx → Elt F e) (L : List (View.Piece (Elt F) s e)) (x : r.shape.Idx)
    (y : s.Idx) (h : ∀ a, (y a).val = r.off a + r.stride a * (x a).val) : View.canon (⟨r, w⟩ :: L) y = w x := by
  have hy : y = r.emb x := funext fun a => Fin.ext (h a)
  rw [hy]
  exact View.canon_cons_emb r w L x

theorem not_mem_low (inb : ∀ a, ![0, 0] a + S1024x128.size a ≤ S2048x128.size a) (y : S2048x128.Idx) (h : 1024 ≤ (y 0).val) :
    y ∉ (Rect.unit (s := S2048x128) ![0, 0] S1024x128.size inb).set := fun hy => by
  have e : (y 0).val < 0 + 1024 := (Rect.mem_set_unit.mp hy 0).2
  omega

theorem not_mem_high (inb : ∀ a, ![1024, 0] a + S1024x128.size a ≤ S2048x128.size a) (y : S2048x128.Idx) (h : (y 0).val < 1024) :
    y ∉ (Rect.unit (s := S2048x128) ![1024, 0] S1024x128.size inb).set := fun hy => by
  have e : 1024 ≤ (y 0).val := (Rect.mem_set_unit.mp hy 0).1
  omega

theorem idx_rows (off : Fin 2 → ℕ) (o : ℕ) (h0 : off 0 = o) (h1 : off 1 = 0) (inb : ∀ a, off a + S1024x128.size a ≤ S2048x128.size a)
    (j : S1024x128.Idx) (hj : o + (j 0).val < 2048) :
    (Rect.unit (s := S2048x128) off S1024x128.size inb).toLoadRect.idx j = ix2 (⟨o + (j 0).val, hj⟩ : Fin 2048) (j 1) :=
  funext fun a => Fin.ext (by
    match a with
    | ⟨0, _⟩ => show off 0 + 1 * (j 0).val = o + (j 0).val; omega
    | ⟨1, _⟩ => show off 1 + 1 * (j 1).val = (j 1).val; omega)

theorem canon_rows (off : Fin 2 → ℕ) (o : ℕ) (h0 : off 0 = o) (h1 : off 1 = 0) (inb : ∀ a, off a + S1024x128.size a ≤ S2048x128.size a)
    (w : S1024x128.Idx → Elt F .f32) (L : List (View.Piece (Elt F) S2048x128 .f32)) (x : S1024x128.Idx) (y : S2048x128.Idx)
    (e0 : (y 0).val = o + (x 0).val) (e1 : (y 1).val = (x 1).val) :
    View.canon (⟨Rect.unit (s := S2048x128) off S1024x128.size inb, w⟩ :: L) y = w x :=
  canon_at (Rect.unit (s := S2048x128) off S1024x128.size inb) w L x y fun a => by
    match a with
    | ⟨0, _⟩ => show (y 0).val = off 0 + 1 * (x 0).val; omega
    | ⟨1, _⟩ => show (y 1).val = off 1 + 1 * (x 1).val; omega

theorem cov_high (v : View sig .tc .vmem S2048x128 .f32) (L : List (View.Piece (Elt F) S2048x128 .f32))
    (inb : ∀ a, ![1024, 0] a + S1024x128.size a ≤ S2048x128.size a) (inb' : ∀ a, ![0, 0] a + S1024x128.size a ≤ S2048x128.size a)
    (w : S1024x128.Idx → Elt F .f32) :
    v.readCov (⟨Rect.unit (s := S2048x128) ![0, 0] S1024x128.size inb', w⟩ :: L)
      (Rect.unit (s := S2048x128) ![1024, 0] S1024x128.size inb).toLoadRect = high (View.canon L) := by
  rw [View.readCov_eq_canon']
  funext j
  beta_reduce
  rw [idx_rows ![1024, 0] 1024 rfl rfl inb j (Nat.add_lt_add_left (j 0).isLt 1024)]
  exact View.canon_cons_of_not_mem _ _ (not_mem_low inb' _ (Nat.le_add_right 1024 (j 0).val))

/-- After stores of both halves, the two halves. -/
theorem canon_halves (L : List (View.Piece (Elt F) S2048x128 .f32))
    (inb : ∀ a, ![1024, 0] a + S1024x128.size a ≤ S2048x128.size a) (inb' : ∀ a, ![0, 0] a + S1024x128.size a ≤ S2048x128.size a)
    (lo hi : S1024x128.Idx → Elt F .f32) :
    View.canon (⟨Rect.unit (s := S2048x128) ![1024, 0] S1024x128.size inb, hi⟩
      :: ⟨Rect.unit (s := S2048x128) ![0, 0] S1024x128.size inb', lo⟩ :: L) = glue lo hi := by
  funext y
  by_cases h : (y 0).val < 1024
  · refine (View.canon_cons_of_not_mem (⟨Rect.unit (s := S2048x128) ![1024, 0] S1024x128.size inb, hi⟩ : View.Piece (Elt F) S2048x128 .f32) _
      (not_mem_high inb y h)).trans ?_
    unfold glue; rw [dif_pos h]
    exact canon_rows ![0, 0] 0 rfl rfl inb' lo L (ix2 (⟨(y 0).val, h⟩ : Fin 1024) (y 1)) y (Nat.zero_add _).symm rfl
  · unfold glue; rw [dif_neg h]
    have y3 : (y 0).val < 2048 := (y 0).isLt
    have y2 : (y 0).val - 1024 < 1024 := by omega
    have y0 : (y 0).val = 1024 + ((y 0).val - 1024) := by omega
    exact canon_rows ![1024, 0] 1024 rfl rfl inb hi _
      (ix2 (⟨(y 0).val - 1024, y2⟩ : Fin 1024) (y 1)) y y0 rfl

section Loop
variable (c : Dev nD) (i : grid0.Coords) (arg3 : Memref sig .tc .smem S1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole)
  (arg2 : BitVec 32) (q : FVec F S2048x128 .bf16) (c2_i32 : BitVec 32) (v27 : BitVec 32) (v32 : BitVec 32) (v34 : BitVec 32)

/-- The loop over pairs of key blocks: after `n` trips the scratch buffers are `2 n` blocks further. -/
theorem loop_state (x2 x3 : Vec F S1x8192x128 .bf16) (G9 : BufTy.Contents (Elt F) arg9.view.ty) (G10 : BufTy.Contents (Elt F) arg10.view.ty)
    (G11 : BufTy.Contents (Elt F) arg11.view.ty)
    (h : (⟨arg9.view.read (Elt F) G9, arg10.view.read (Elt F) G10, arg11.view.read (Elt F) G11⟩ : Scratch F) = start) (n : ℕ) :
    n ≤ (k0_t1_loop i).trips →
    (⟨arg9.view.read (Elt F) (arg9.view.writes (Elt F) G9 (pb_k0_t1 (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) G9 G10 G11 n).1),
      arg10.view.read (Elt F) (arg10.view.writes (Elt F) G10 (pb_k0_t1 (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) G9 G10 G11 n).2.1),
      arg11.view.read (Elt F) (arg11.view.writes (Elt F) G11 (pb_k0_t1 (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) G9 G10 G11 n).2.2)⟩ : Scratch F)
      = after q x2 x3 (2 * n) := by
  induction n with
  | zero => intro _; exact h
  | succ n ih =>
    intro hn
    have e := pb_k0_t1_succ (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) G9 G10 G11 ⟨n, hn⟩
    rw [show n + 1 = (⟨n, hn⟩ : Fin (k0_t1_loop i).trips).val + 1 from rfl, e, View.writes_append, View.writes_append, View.writes_append]
    refine (trip_state ..).trans ?_
    rw [readAt_block arg5 harg5 x2 _ _ _ (off1_eq i _), readAt_block arg5 harg5 x2 _ _ _ (off2_eq i _),
      readAt_block arg6 harg6 x3 _ _ _ (off1_eq i _), readAt_block arg6 harg6 x3 _ _ _ (off2_eq i _), ih (Nat.le_of_succ_le hn)]
    rfl

/-- So after the loop they are at the even number of blocks below the query block. -/
theorem loop_end (x2 x3 : Vec F S1x8192x128 .bf16) (H9 H10 H11 : List (View.Piece (Elt F) S2048x128 .f32))
    (h : (⟨View.canon H9, View.canon H10, View.canon H11⟩ : Scratch F) = start) :
    (⟨View.canon ((pb_k0_t1 (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) (arg9.view.writes (Elt F) arg9.view.junk H9) (arg10.view.writes (Elt F) arg10.view.junk H10) (arg11.view.writes (Elt F) arg11.view.junk H11) (Scf.trips (k0_t1_loop i).lb (k0_t1_loop i).ub (k0_t1_loop i).st)).1 ++ H9),
      View.canon ((pb_k0_t1 (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) (arg9.view.writes (Elt F) arg9.view.junk H9) (arg10.view.writes (Elt F) arg10.view.junk H10) (arg11.view.writes (Elt F) arg11.view.junk H11) (Scf.trips (k0_t1_loop i).lb (k0_t1_loop i).ub (k0_t1_loop i).st)).2.1 ++ H10),
      View.canon ((pb_k0_t1 (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) (arg9.view.writes (Elt F) arg9.view.junk H9) (arg10.view.writes (Elt F) arg10.view.junk H10) (arg11.view.writes (Elt F) arg11.view.junk H11) (Scf.trips (k0_t1_loop i).lb (k0_t1_loop i).ub (k0_t1_loop i).st)).2.2 ++ H11)⟩ : Scratch F)
      = after q x2 x3 (2 * ((i 2).val / 2)) := by
  rw [← View.read_writes_junk_eq_canon arg9.view, ← View.read_writes_junk_eq_canon arg10.view, ← View.read_writes_junk_eq_canon arg11.view,
    View.writes_append, View.writes_append, View.writes_append, ← trips1_eq i]
  have e : (⟨arg9.view.read (Elt F) (arg9.view.writes (Elt F) arg9.view.junk H9), arg10.view.read (Elt F) (arg10.view.writes (Elt F) arg10.view.junk H10),
      arg11.view.read (Elt F) (arg11.view.writes (Elt F) arg11.view.junk H11)⟩ : Scratch F) = start := by
    rw [View.read_writes_junk_eq_canon, View.read_writes_junk_eq_canon, View.read_writes_junk_eq_canon]; exact h
  exact loop_state c i arg3 harg3 arg4 harg4 arg5 harg5 arg6 harg6 arg7 harg7 arg8 harg8 arg9 harg9 arg10 harg10 arg11 harg11 arg2 q c2_i32 v27 v32 v34 x2 x3 _ _ _ e _ (le_refl _)

/-- The second loop has no trip. -/
theorem loop2_end (v48 : BitVec 32) (X5 : BufTy.Contents (Elt F) arg5.view.ty) (X6 : BufTy.Contents (Elt F) arg6.view.ty)
    (G9 : BufTy.Contents (Elt F) arg9.view.ty) (G10 : BufTy.Contents (Elt F) arg10.view.ty) (G11 : BufTy.Contents (Elt F) arg11.view.ty) :
    pb_k0_t2 (F := F) Variants.none c none i arg3 harg3 arg4 harg4 arg5 harg5 arg6 harg6 arg7 harg7 arg8 harg8 arg9 harg9 arg10 harg10 arg11 harg11 arg2 q c2_i32 v27 v32 v34 v48 X5 X6 G9 G10 G11 (Scf.trips (k0_t2_loop i).lb (k0_t2_loop i).ub (k0_t2_loop i).st) = ([], [], []) := by
  rw [show Scf.trips (k0_t2_loop i).lb (k0_t2_loop i).ub (k0_t2_loop i).st = 0 from trips2_eq i]
  rfl
end Loop

end Cert.Proof.Attention
end
-- ==== Proof.AttnBlock.lean ====
module

public import proofs.«01_k».proof.Proof.AttnBody

/-!
# The attention's output block

In both of the body's cases, an even and an odd number of blocks below the query block, what it stores is
`outBlock` of its blocks.
-/

@[expose] public section
set_option maxRecDepth 16384
noncomputable section
namespace Cert.Proof.Attention
open Cert.Kernel2Ideal Cert.Kernel2Ideal.Gen
open Idealize.ShloMosaic Idealize.ShloMosaic.TcCoe Idealize.ShloMosaic.Tactic
open Idealize.SL.Sem
variable {F : FTy → Type} [FloatOps F] [Named F]

theorem whole3 (v : Memref sig .tc .vmem S1x1024x128 .bf16) (hv : v.IsWhole) (x : Vec F S1x1024x128 .bf16)
    (inb : ∀ a, ![0, 0, 0] a + S1x1024x128.size a ≤ S1x1024x128.size a) :
    View.readAt (Elt F) v.view (Rect.unit (s := S1x1024x128) ![0, 0, 0] S1x1024x128.size inb).toLoadRect (hv.unread x) = x := by
  rw [View.readAt_eq_ld, hv.read_unread, View.ld_unit_zero z3]

theorem whole2 (v : Memref sig .tc .vmem S1x128 .f32) (hv : v.IsWhole) (x : Vec F S1x128 .f32)
    (inb : ∀ a, ![0, 0] a + S1x128.size a ≤ S1x128.size a) :
    View.readAt (Elt F) v.view (Rect.unit (s := S1x128) ![0, 0] S1x128.size inb).toLoadRect (hv.unread x) = x := by
  rw [View.readAt_eq_ld, hv.read_unread, View.ld_unit_zero z2]

theorem whole1 (v : Memref sig .tc .smem S1 .f32) (hv : v.IsWhole) (x : Vec F S1 .f32)
    (inb : ∀ a, ![0] a + S1.size a ≤ S1.size a) :
    View.readAt (Elt F) v.view (Rect.unit (s := S1) ![0] S1.size inb).toLoadRect (hv.unread x) = x := by
  rw [View.readAt_eq_ld, hv.read_unread, View.ld_unit_zero z1]

theorem readAt_block' (v : Memref sig .tc .vmem S1x8192x128 .bf16) (hv : v.IsWhole) (x : Vec F S1x8192x128 .bf16)
    (off : Fin 3 → ℕ) (inb : ∀ a, off a + ![1, 1024, 128] a ≤ S1x8192x128.size a) (j : ℕ) (hoff : off = ![0, 1024 * j, 0]) :
    View.readAt (Elt F) v.view (Rect.unit (s := S1x8192x128) off ![1, 1024, 128] inb).toLoadRect (hv.unread x) = block x j :=
  readAt_block v hv x off inb j hoff

theorem canon_whole (inb : ∀ a, ![0, 0] a + ![2048, 128] a ≤ S2048x128.size a) (w : Vec F S2048x128 .f32)
    (L : List (View.Piece (Elt F) S2048x128 .f32)) :
    View.canon (⟨Rect.unit (s := S2048x128) ![0, 0] ![2048, 128] inb, w⟩ :: L) = w := View.canon_cons_unit_zero z2 inb w L

theorem start_eq : (⟨View.canon [⟨Rect.unit ![0, 0] ![2048, 128] inb_S2048x128_S2048x128_0_0, k0_pay38⟩],
    View.canon [⟨Rect.unit ![0, 0] ![2048, 128] inb_S2048x128_S2048x128_0_0, k0_pay39⟩],
    View.canon [⟨Rect.unit ![0, 0] ![2048, 128] inb_S2048x128_S2048x128_0_0, k0_pay40⟩]⟩ : Scratch F) = start := by
  rw [canon_whole, canon_whole, canon_whole]
  rfl

section LoopEnd
variable (c : Dev nD) (i : grid0.Coords) (arg3 : Memref sig .tc .smem S1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole)
  (arg2 : BitVec 32) (q : FVec F S2048x128 .bf16) (c2_i32 : BitVec 32) (v27 : BitVec 32) (v32 : BitVec 32) (v34 : BitVec 32) (x2 x3 : Vec F S1x8192x128 .bf16)

theorem loop_end_m : View.canon ((pb_k0_t1 (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) (arg9.view.writes (Elt F) arg9.view.junk [⟨Rect.unit ![0, 0] ![2048, 128] inb_S2048x128_S2048x128_0_0, k0_pay38⟩]) (arg10.view.writes (Elt F) arg10.view.junk [⟨Rect.unit ![0, 0] ![2048, 128] inb_S2048x128_S2048x128_0_0, k0_pay39⟩]) (arg11.view.writes (Elt F) arg11.view.junk [⟨Rect.unit ![0, 0] ![2048, 128] inb_S2048x128_S2048x128_0_0, k0_pay40⟩]) (Scf.trips (k0_t1_loop i).lb (k0_t1_loop i).ub (k0_t1_loop i).st)).1 ++ [⟨Rect.unit ![0, 0] ![2048, 128] inb_S2048x128_S2048x128_0_0, k0_pay38⟩])
    = (after q x2 x3 (2 * ((i 2).val / 2))).m :=
  congrArg Scratch.m (loop_end c i arg3 harg3 arg4 harg4 arg5 harg5 arg6 harg6 arg7 harg7 arg8 harg8 arg9 harg9 arg10 harg10 arg11 harg11 arg2 q c2_i32 v27 v32 v34 x2 x3 _ _ _ start_eq)

theorem loop_end_l : View.canon ((pb_k0_t1 (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) (arg9.view.writes (Elt F) arg9.view.junk [⟨Rect.unit ![0, 0] ![2048, 128] inb_S2048x128_S2048x128_0_0, k0_pay38⟩]) (arg10.view.writes (Elt F) arg10.view.junk [⟨Rect.unit ![0, 0] ![2048, 128] inb_S2048x128_S2048x128_0_0, k0_pay39⟩]) (arg11.view.writes (Elt F) arg11.view.junk [⟨Rect.unit ![0, 0] ![2048, 128] inb_S2048x128_S2048x128_0_0, k0_pay40⟩]) (Scf.trips (k0_t1_loop i).lb (k0_t1_loop i).ub (k0_t1_loop i).st)).2.1 ++ [⟨Rect.unit ![0, 0] ![2048, 128] inb_S2048x128_S2048x128_0_0, k0_pay39⟩])
    = (after q x2 x3 (2 * ((i 2).val / 2))).l :=
  congrArg Scratch.l (loop_end c i arg3 harg3 arg4 harg4 arg5 harg5 arg6 harg6 arg7 harg7 arg8 harg8 arg9 harg9 arg10 harg10 arg11 harg11 arg2 q c2_i32 v27 v32 v34 x2 x3 _ _ _ start_eq)

theorem loop_end_a : View.canon ((pb_k0_t1 (F := F) Variants.none c none i arg3 harg3 arg4 harg4 arg5 harg5 arg6 harg6 arg7 harg7 arg8 harg8 arg9 harg9 arg10 harg10 arg11 harg11 arg2 q c2_i32 v27 v32 v34 (harg5.unread x2) (harg6.unread x3) (arg9.view.writes (Elt F) arg9.view.junk [⟨Rect.unit ![0, 0] ![2048, 128] inb_S2048x128_S2048x128_0_0, k0_pay38⟩]) (arg10.view.writes (Elt F) arg10.view.junk [⟨Rect.unit ![0, 0] ![2048, 128] inb_S2048x128_S2048x128_0_0, k0_pay39⟩]) (arg11.view.writes (Elt F) arg11.view.junk [⟨Rect.unit ![0, 0] ![2048, 128] inb_S2048x128_S2048x128_0_0, k0_pay40⟩]) (Scf.trips (k0_t1_loop i).lb (k0_t1_loop i).ub (k0_t1_loop i).st)).2.2 ++ [⟨Rect.unit ![0, 0] ![2048, 128] inb_S2048x128_S2048x128_0_0, k0_pay40⟩])
    = (after q x2 x3 (2 * ((i 2).val / 2))).a :=
  congrArg Scratch.a (loop_end c i arg3 harg3 arg4 harg4 arg5 harg5 arg6 harg6 arg7 harg7 arg8 harg8 arg9 harg9 arg10 harg10 arg11 harg11 arg2 q c2_i32 v27 v32 v34 x2 x3 _ _ _ start_eq)
end LoopEnd

theorem out_A (c : Dev nD) (i : grid0.Coords) (arg3 : Memref sig .tc .smem S1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (h0 : ¬cond0_0 i)
    (x0 : Vec F S1 .f32) (x1 : Vec F S1x1024x128 .bf16) (x2 x3 : Vec F S1x8192x128 .bf16) (x4 : Vec F S1x128 .f32) :
    out0_A_5 (F := F) c i arg3 harg3 arg4 harg4 arg5 harg5 arg6 harg6 arg7 harg7 arg8 harg8 arg9 harg9 arg10 harg10 arg11 harg11 h0 x0 x1 x2 x3 x4 = outBlock (i 2).val x0 x1 x2 x3 x4 := by
  unfold out0_A_5
  rw [View.read_writes_eq_canon _ _ _ (cover0_A_5 c i arg3 harg3 arg4 harg4 arg5 harg5 arg6 harg6 arg7 harg7 arg8 harg8 arg9 harg9 arg10 harg10 arg11 harg11 h0 x0 x1 x2 x3 x4)]
  unfold kernelRun0_A
  dsimp only
  refine (View.canon_unit_zero z3 _ _).trans ?_
  sl_unfold_run_names
  repeat rw [loop2_end]
  simp only [List.nil_append]
  have odd : ¬ (i 2).val % 2 = 1 := fun h => h0 ((odd_iff i).mpr h)
  have hq : 2 * ((i 2).val / 2) = (i 2).val := by omega
  repeat rw [whole3]
  repeat rw [whole2]
  repeat rw [whole1]
  repeat rw [cov_all]
  repeat rw [canon_halves]
  repeat rw [cov_high]
  repeat rw [cov_low]
  repeat rw [readAt_block _ _ _ _ _ (i 2).val (k0_off7_eq i)]
  repeat rw [readAt_half _ _ _ _ _ (i 2).val (k0_off6_eq i)]
  repeat rw [loop_end_m]
  repeat rw [loop_end_l]
  repeat rw [loop_end_a]
  rw [hq]
  rfl

set_option maxHeartbeats 2000000 in
theorem out_B (c : Dev nD) (i : grid0.Coords) (arg3 : Memref sig .tc .smem S1 .f32) (harg3 : arg3.IsWhole) (arg4 : Memref sig .tc .vmem S1x1024x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x1024x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (h0 : cond0_0 i)
    (x0 : Vec F S1 .f32) (x1 : Vec F S1x1024x128 .bf16) (x2 x3 : Vec F S1x8192x128 .bf16) (x4 : Vec F S1x128 .f32) :
    out0_B_5 (F := F) c i arg3 harg3 arg4 harg4 arg5 harg5 arg6 harg6 arg7 harg7 arg8 harg8 arg9 harg9 arg10 harg10 arg11 harg11 h0 x0 x1 x2 x3 x4 = outBlock (i 2).val x0 x1 x2 x3 x4 := by
  unfold out0_B_5
  rw [View.read_writes_eq_canon _ _ _ (cover0_B_5 c i arg3 harg3 arg4 harg4 arg5 harg5 arg6 harg6 arg7 harg7 arg8 harg8 arg9 harg9 arg10 harg10 arg11 harg11 h0 x0 x1 x2 x3 x4)]
  unfold kernelRun0_B
  dsimp only
  refine (View.canon_unit_zero z3 _ _).trans ?_
  sl_unfold_run_names
  repeat rw [loop2_end]
  simp only [List.nil_append]
  have odd : (i 2).val % 2 = 1 := (odd_iff i).mp h0
  have hq : (i 2).val = 2 * ((i 2).val / 2) + 1 := by omega
  repeat rw [whole3]
  repeat rw [whole2]
  repeat rw [whole1]
  repeat rw [cov_all]
  repeat rw [canon_halves]
  repeat rw [cov_high]
  repeat rw [cov_low]
  repeat rw [readAt_block _ _ _ _ _ (i 2).val (k0_off7_eq i)]
  repeat rw [readAt_half _ _ _ _ _ (i 2).val (k0_off6_eq i)]
  repeat rw [canon_whole]
  repeat rw [loop_end_m]
  repeat rw [loop_end_l]
  repeat rw [loop_end_a]
  repeat rw [readAt_block' _ _ _ _ _ (2 * ((i 2).val / 2)) (off5_eq i odd)]
  have e : after (k0_pay37 x1) x2 x3 (i 2).val = Scratch.full (k0_pay37 x1) (block x2 (2 * ((i 2).val / 2))) (block x3 (2 * ((i 2).val / 2)))
      (after (k0_pay37 x1) x2 x3 (2 * ((i 2).val / 2))) := by
    conv_lhs => rw [hq]
    rfl
  unfold outBlock
  dsimp only
  rw [e]
  simp only [Scratch.full, k0_pay2, k0_pay3, k0_pay4, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay47, k0_pay48]

end Cert.Proof.Attention
end
-- ==== Proof.AttnMath.lean ====
module

public import Idealize.ShloMosaic.Lib.Pointwise

/-!
# The softmax, kept as a running maximum, a running sum and a running accumulator

A row's state after `N` keys: some real `μ` (the running maximum, or nothing yet), the sums over lanes of
`2 ^ (s c - μ)` and the sums of `2 ^ (s c - μ) · v c`. A block of further keys keeps that form whatever the new
maximum is, so long as it is real; and the quotient at the end is the softmax's, `μ` dropping out.
-/

@[expose] public section
noncomputable section
namespace Cert.Proof.Attention
open Idealize.ShloMosaic

/-- The weight of key `c` for the query at position `P`: keys above `P` are masked. -/
def wt (s : ℕ → ℝ) (P : ℕ) (μ : ℝ) (c : ℕ) : ℝ := if c ≤ P then Real.rpow 2 (s c - μ) else 0

/-- The masked score. -/
def score (s : ℕ → ℝ) (P c : ℕ) : EReal := if c ≤ P then ((s c : ℝ) : EReal) else ⊥

/-- The weighted mean of the values up to `P`. -/
def soft (E : ℕ → ℝ) (v : ℕ → ℝ) (P : ℕ) : ℝ :=
  (∑ c ∈ Finset.range (P + 1), E c * v c) / ∑ c ∈ Finset.range (P + 1), E c

theorem coe_sum {ι : Type*} (S : Finset ι) (f : ι → ℝ) : ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

theorem coe_max (x y : ℝ) : max (x : EReal) (y : EReal) = ((max x y : ℝ) : EReal) :=
  (EReal.coe_strictMono.monotone.map_max).symm

theorem wt_rescale (s : ℕ → ℝ) (P : ℕ) (μ μ' : ℝ) (c : ℕ) : Real.rpow 2 (μ - μ') * wt s P μ c = wt s P μ' c := by
  unfold wt
  split
  · show (2 : ℝ) ^ (μ - μ') * (2 : ℝ) ^ (s c - μ) = (2 : ℝ) ^ (s c - μ')
    rw [← Real.rpow_add (by norm_num)]; congr 1; ring
  · simp

/-- The maximum of a block in which one key at least is visible is real. -/
theorem fold_max_real {n : ℕ} (t : Fin n → EReal) (htop : ∀ i, t i ≠ ⊤) (i₀ : Fin n) (x : ℝ) (h : t i₀ = (x : EReal)) :
    ∃ β : ℝ, Finset.univ.fold max (⊥ : EReal) t = (β : EReal) := by
  have h1 : Finset.univ.fold max (⊥ : EReal) t < ⊤ :=
    (Finset.fold_max_lt _).mpr ⟨bot_lt_top, fun i _ => lt_top_iff_ne_top.mpr (htop i)⟩
  have h2 : (x : EReal) ≤ Finset.univ.fold max (⊥ : EReal) t :=
    (Finset.le_fold_max _).mpr (Or.inr ⟨i₀, Finset.mem_univ _, h.ge⟩)
  have h3 : Finset.univ.fold max (⊥ : EReal) t ≠ ⊥ := fun e => by
    rw [e] at h2; exact absurd (le_bot_iff.mp h2) (EReal.coe_ne_bot x)
  exact ⟨_, (EReal.coe_toReal h1.ne h3).symm⟩

/-- A row's state after `N` keys. -/
def RowAt (s : ℕ → ℝ) (v : ℕ → Fin 128 → ℝ) (P N : ℕ) (m l a : Fin 128 → EReal) : Prop :=
  ∃ μ : ℝ, ((N = 0 ∧ ∀ j, m j = ⊥) ∨ ∀ j, m j = ((μ : ℝ) : EReal))
    ∧ (∀ j, l j = ((∑ u ∈ Finset.range (N / 128), wt s P μ (128 * u + j.val) : ℝ) : EReal))
    ∧ ∀ j, a j = ((∑ c ∈ Finset.range N, wt s P μ c * v c j : ℝ) : EReal)

theorem rowAt_zero (s : ℕ → ℝ) (v : ℕ → Fin 128 → ℝ) (P : ℕ) (m l a : Fin 128 → EReal) (hm : ∀ j, m j = ⊥) (hl : ∀ j, l j = 0)
    (ha : ∀ j, a j = 0) : RowAt s v P 0 m l a :=
  ⟨0, Or.inl ⟨rfl, hm⟩, fun j => by rw [hl]; simp, fun j => by rw [ha]; simp⟩

/-- One further block of `W = 128 G` keys. -/
theorem rowAt_step {s : ℕ → ℝ} {v : ℕ → Fin 128 → ℝ} {P N : ℕ} {m l a : Fin 128 → EReal} (h : RowAt s v P N m l a)
    (hN : N % 128 = 0) (hNP : N ≤ P) {W : ℕ} (G : ℕ) (hW : W = 128 * G) (hG : 0 < G)
    (t : Fin W → EReal) (ht : ∀ i, t i = score s P (N + i.val))
    (w : Fin W → Fin 128 → EReal) (hw : ∀ i j, w i j = ((v (N + i.val) j : ℝ) : EReal))
    (m' l' a' : Fin 128 → EReal) (p : Fin W → EReal)
    (hm : ∀ j, m' j = max (m j) (Finset.univ.fold max (⊥ : EReal) t))
    (hp : ∀ (i : Fin W) (j : Fin 128), i.val % 128 = j.val → p i = Ideal.exp2 (t i - m' j))
    (hl : ∀ j, l' j = Ideal.exp2 (m j - m' j) * l j + ∑ g : Fin G, p ⟨128 * g.val + j.val, by have := g.isLt; have := j.isLt; omega⟩)
    (ha : ∀ j, a' j = Ideal.exp2 (m j - m' j) * a j + ∑ i, p i * w i j) :
    RowAt s v P (N + W) m' l' a' := by
  obtain ⟨μ, hμ, hL, hA⟩ := h
  have hW0 : 0 < W := by omega
  obtain ⟨β, hβ⟩ := fold_max_real t (fun i => by rw [ht]; unfold score; split <;> simp) ⟨0, hW0⟩ (s N)
    (by rw [ht]; unfold score; rw [if_pos (by simpa using hNP)]; simp)
  -- the new maximum, and what the old sums are rescaled by
  obtain ⟨μ', α, hm', hα, hr⟩ : ∃ μ' α : ℝ, (∀ j, m' j = ((μ' : ℝ) : EReal)) ∧ (∀ j, Ideal.exp2 (m j - m' j) = ((α : ℝ) : EReal))
      ∧ ∀ c < N, α * wt s P μ c = wt s P μ' c := by
    rcases hμ with ⟨h0, hb⟩ | hr
    · refine ⟨β, 0, fun j => by rw [hm, hb, hβ]; simp, fun j => ?_, fun c hc => by omega⟩
      rw [hb, EReal.bot_sub]; simp
    · refine ⟨max μ β, Real.rpow 2 (μ - max μ β), fun j => by rw [hm, hr, hβ, coe_max], fun j => ?_, fun c _ => wt_rescale ..⟩
      rw [hm, hr, hβ, coe_max, ← EReal.coe_sub, Ideal.exp2_coe]
  have hp' : ∀ i : Fin W, p i = ((wt s P μ' (N + i.val) : ℝ) : EReal) := fun i => by
    rw [hp i ⟨i.val % 128, Nat.mod_lt _ (by norm_num)⟩ rfl, hm', ht]
    unfold score wt
    split
    · rw [← EReal.coe_sub, Ideal.exp2_coe]
    · rw [EReal.bot_sub]; simp
  refine ⟨μ', Or.inr hm', fun j => ?_, fun j => ?_⟩
  · rw [hl, hα, hL, ← EReal.coe_mul]
    have e : (N + W) / 128 = N / 128 + G := by omega
    rw [e, Finset.sum_range_add, EReal.coe_add, Finset.mul_sum]
    congr 1
    · rw [EReal.coe_eq_coe_iff]
      refine Finset.sum_congr rfl fun u hu => hr _ ?_
      have := Finset.mem_range.mp hu; have := j.isLt; omega
    · rw [Finset.sum_range, coe_sum]
      refine Finset.sum_congr rfl fun g _ => ?_
      rw [hp']; congr 2; show N + (128 * g.val + j.val) = 128 * (N / 128 + g.val) + j.val; omega
  · rw [ha, hα, hA, ← EReal.coe_mul, Finset.sum_range_add, EReal.coe_add, Finset.mul_sum]
    congr 1
    · rw [EReal.coe_eq_coe_iff]
      refine Finset.sum_congr rfl fun c hc => ?_
      rw [← mul_assoc, hr c (Finset.mem_range.mp hc)]
    · rw [Finset.sum_range, coe_sum]
      refine Finset.sum_congr rfl fun i _ => ?_
      rw [hp', hw, EReal.coe_mul]

/-- A sum over lanes of sums over lane groups is the sum over everything. -/
theorem sum_lanes (f : ℕ → ℝ) (U : ℕ) :
    ∑ j : Fin 128, ∑ u ∈ Finset.range U, f (128 * u + j.val) = ∑ c ∈ Finset.range (128 * U), f c := by
  induction U with
  | zero => simp
  | succ U ih =>
    rw [Nat.mul_succ, Finset.sum_range_add, ← ih, Finset.sum_range, ← Finset.sum_add_distrib]
    exact Finset.sum_congr rfl fun j _ => Finset.sum_range_succ _ _

theorem sum_visible (f : ℕ → ℝ) {P N : ℕ} (h : P < N) :
    ∑ c ∈ Finset.range N, (if c ≤ P then f c else 0) = ∑ c ∈ Finset.range (P + 1), f c := by
  rw [← Finset.sum_filter]
  refine Finset.sum_congr (Finset.ext fun c => ?_) fun _ _ => rfl
  simp only [Finset.mem_filter, Finset.mem_range]; omega

/-- The quotient at the end is the weighted mean. -/
theorem rowAt_quot {s : ℕ → ℝ} {v : ℕ → Fin 128 → ℝ} {P N : ℕ} {m l a : Fin 128 → EReal} (h : RowAt s v P N m l a)
    (hN : N % 128 = 0) (hP : P < N) (j : Fin 128) :
    Ideal.div (a j) (∑ k, l k) = ((soft (fun c => Real.rpow 2 (s c)) (fun c => v c j) P : ℝ) : EReal) := by
  obtain ⟨μ, -, hL, hA⟩ := h
  have hN' : 128 * (N / 128) = N := by omega
  have e2 : ∀ c, Real.rpow 2 (s c - μ) = Real.rpow 2 (-μ) * Real.rpow 2 (s c) := fun c => by
    show (2 : ℝ) ^ (s c - μ) = (2 : ℝ) ^ (-μ) * (2 : ℝ) ^ (s c)
    rw [← Real.rpow_add (by norm_num)]; congr 1; ring
  have hsum : ∑ k, l k = ((Real.rpow 2 (-μ) * ∑ c ∈ Finset.range (P + 1), Real.rpow 2 (s c) : ℝ) : EReal) := by
    simp only [hL]
    rw [← coe_sum, sum_lanes, hN', EReal.coe_eq_coe_iff]
    unfold wt
    rw [sum_visible _ hP, Finset.mul_sum]
    exact Finset.sum_congr rfl fun c _ => e2 c
  have hacc : a j = ((Real.rpow 2 (-μ) * ∑ c ∈ Finset.range (P + 1), Real.rpow 2 (s c) * v c j : ℝ) : EReal) := by
    rw [hA, EReal.coe_eq_coe_iff]
    unfold wt
    simp only [ite_mul, zero_mul]
    rw [sum_visible (fun c => Real.rpow 2 (s c - μ) * v c j) hP, Finset.mul_sum]
    exact Finset.sum_congr rfl fun c _ => by rw [e2 c, mul_assoc]
  have hpos : 0 < ∑ c ∈ Finset.range (P + 1), Real.rpow 2 (s c) :=
    Finset.sum_pos (fun c _ => Real.rpow_pos_of_pos (by norm_num) _) ⟨0, by simp⟩
  have hpos' : 0 < Real.rpow 2 (-μ) := Real.rpow_pos_of_pos (by norm_num) _
  rw [hsum, hacc, Ideal.div_coe (mul_pos hpos' hpos).ne', ← EReal.coe_mul, EReal.coe_eq_coe_iff]
  unfold soft
  field_simp

/-- The reference's softmax, masked scores and all, is the weight over the sum of the visible weights. -/
theorem softmax_row {n : ℕ} (σ : ℕ → ℝ) {P : ℕ} (hP : P < n) (x : Fin n → EReal) (hx : ∀ i, x i = score σ P i.val) (M : EReal)
    (hM : M = max ⊥ (Finset.univ.fold max (⊥ : EReal) x)) (i : Fin n) :
    Ideal.div (Ideal.exp (x i - M)) (∑ k, Ideal.exp (x k - M))
      = (((if i.val ≤ P then Real.exp (σ i.val) / ∑ c ∈ Finset.range (P + 1), Real.exp (σ c) else 0) : ℝ) : EReal) := by
  obtain ⟨β, hβ⟩ := fold_max_real x (fun i => by rw [hx]; unfold score; split <;> simp) ⟨P, hP⟩ (σ P)
    (by rw [hx]; unfold score; rw [if_pos (le_refl _)])
  rw [hβ, max_eq_right bot_le] at hM
  have e : ∀ k : Fin n, Ideal.exp (x k - M) = (((if k.val ≤ P then Real.exp (σ k.val - β) else 0) : ℝ) : EReal) := fun k => by
    rw [hx, hM]; unfold score
    split
    · rw [← EReal.coe_sub, Ideal.exp_coe]
    · rw [EReal.bot_sub]; simp
  have e2 : ∀ c, Real.exp (σ c - β) = Real.exp (-β) * Real.exp (σ c) := fun c => by rw [← Real.exp_add]; congr 1; ring
  have hsum : ∑ k, Ideal.exp (x k - M) = ((Real.exp (-β) * ∑ c ∈ Finset.range (P + 1), Real.exp (σ c) : ℝ) : EReal) := by
    simp only [e]
    rw [← coe_sum, EReal.coe_eq_coe_iff, ← Finset.sum_range (fun c => if c ≤ P then Real.exp (σ c - β) else 0), sum_visible _ hP, Finset.mul_sum]
    exact Finset.sum_congr rfl fun c _ => e2 c
  have hpos : 0 < ∑ c ∈ Finset.range (P + 1), Real.exp (σ c) := Finset.sum_pos (fun c _ => Real.exp_pos _) ⟨0, by simp⟩
  have hpos' : 0 < Real.exp (-β) := Real.exp_pos _
  rw [hsum, e, Ideal.div_coe (mul_pos hpos' hpos).ne', ← EReal.coe_mul, EReal.coe_eq_coe_iff]
  split
  · rw [e2]; field_simp
  · simp

/-- Values weighted by the difference of two softmaxes: the difference of the weighted means. -/
theorem soft_difference {n : ℕ} (E₀ E₁ : ℕ → ℝ) (v : ℕ → ℝ) (lam : ℝ) {P : ℕ} (hP : P < n) :
    ∑ i : Fin n, v i.val * ((if i.val ≤ P then E₀ i.val / ∑ c ∈ Finset.range (P + 1), E₀ c else 0)
      - lam * (if i.val ≤ P then E₁ i.val / ∑ c ∈ Finset.range (P + 1), E₁ c else 0)) = soft E₀ v P - lam * soft E₁ v P := by
  rw [← Finset.sum_range (fun c => v c * ((if c ≤ P then E₀ c / ∑ c ∈ Finset.range (P + 1), E₀ c else 0)
      - lam * (if c ≤ P then E₁ c / ∑ c ∈ Finset.range (P + 1), E₁ c else 0)))]
  have e : ∀ c, v c * ((if c ≤ P then E₀ c / ∑ c ∈ Finset.range (P + 1), E₀ c else 0)
      - lam * (if c ≤ P then E₁ c / ∑ c ∈ Finset.range (P + 1), E₁ c else 0))
      = if c ≤ P then v c * (E₀ c / (∑ c ∈ Finset.range (P + 1), E₀ c) - lam * (E₁ c / ∑ c ∈ Finset.range (P + 1), E₁ c)) else 0 := fun c => by
    split <;> simp
  simp only [e]
  rw [sum_visible _ hP]
  unfold soft
  rw [Finset.sum_div, Finset.sum_div, Finset.mul_sum, ← Finset.sum_sub_distrib]
  exact Finset.sum_congr rfl fun c _ => by ring

end Cert.Proof.Attention
end
-- ==== Proof.AttnRows.lean ====
module

public import proofs.«01_k».proof.Proof.AttnBody
public import proofs.«01_k».proof.Proof.AttnMath

/-!
# The rows of the scratch buffers over the reals

Each step of the body is read at an index of its result; a row of the scratch buffers then follows the running
maximum, the lane sums and the accumulator of one query.
-/

@[expose] public section
set_option maxRecDepth 16384
noncomputable section
namespace Cert.Proof.Attention
open Cert.Kernel2Ideal Cert.Kernel2Ideal.Gen
open Idealize.ShloMosaic

theorem bot_f32 : Ideal.ofBits .f32 4286578688#32 = ⊥ := by simp [Ideal.ofBits, Ideal.ieee]

theorem mask_bot : (Named.named (F := Ideal) κ "mask" (φ := .f32) 4048155338#32 : EReal) = ⊥ := rfl

/-- A lane's number, out of a column's. -/
abbrev lane {n : ℕ} (c : Fin n) : Fin 128 := ⟨c.val % 128, Nat.mod_lt _ (by decide)⟩

/-! A row's maximum, put beside the running maximum. -/

theorem spread_2048 (x : FVec Ideal S2048 .f32) (h4 h5) (r : Fin 2048) (j : Fin 128) :
    broadcastTo S2048x128 (shapeCast S2048x1 x h4) h5 (ix2 r j) = x (ix1 r) := by
  pointwise []

theorem spread_1024 (x : FVec Ideal S1024 .f32) (h4 h5) (r : Fin 1024) (j : Fin 128) :
    broadcastTo S1024x128 (shapeCast S1024x1 x h4) h5 (ix2 r j) = x (ix1 r) := by
  pointwise []

theorem fold_row_full (x : FVec Ideal S2048x1024 .f32) (h1 h2 h3) (r : Fin 2048) :
    multiReduction .maximumf [1] S2048 x 0xFF800000#32 h1 h2 h3 (ix1 r) =
      Finset.univ.fold max (⊥ : EReal) fun c : Fin 1024 => x (ix2 r c) := by
  pointwise []
  rw [bot_f32]

theorem rowmax_full (x : FVec Ideal S2048x1024 .f32) (m : FVec Ideal S2048x128 .f32) (h1 h2 h3 h4 h5) (r : Fin 2048) (j : Fin 128) :
    maximumf m (broadcastTo S2048x128 (shapeCast S2048x1 (multiReduction .maximumf [1] S2048 x 0xFF800000#32 h1 h2 h3) h4) h5) (ix2 r j) =
      max (m (ix2 r j)) (Finset.univ.fold max (⊥ : EReal) fun c : Fin 1024 => x (ix2 r c)) := by
  show max (m (ix2 r j)) (broadcastTo S2048x128 (shapeCast S2048x1 (multiReduction .maximumf [1] S2048 x 0xFF800000#32 h1 h2 h3) h4) h5 (ix2 r j)) = _
  rw [spread_2048, fold_row_full]

theorem fold_row_low (x : FVec Ideal S1024x512 .f32) (h1 h2 h3) (r : Fin 1024) :
    multiReduction .maximumf [1] S1024 x 0xFF800000#32 h1 h2 h3 (ix1 r) =
      Finset.univ.fold max (⊥ : EReal) fun c : Fin 512 => x (ix2 r c) := by
  pointwise []
  rw [bot_f32]

theorem rowmax_low (x : FVec Ideal S1024x512 .f32) (m : FVec Ideal S1024x128 .f32) (h1 h2 h3 h4 h5) (r : Fin 1024) (j : Fin 128) :
    maximumf m (broadcastTo S1024x128 (shapeCast S1024x1 (multiReduction .maximumf [1] S1024 x 0xFF800000#32 h1 h2 h3) h4) h5) (ix2 r j) =
      max (m (ix2 r j)) (Finset.univ.fold max (⊥ : EReal) fun c : Fin 512 => x (ix2 r c)) := by
  show max (m (ix2 r j)) (broadcastTo S1024x128 (shapeCast S1024x1 (multiReduction .maximumf [1] S1024 x 0xFF800000#32 h1 h2 h3) h4) h5 (ix2 r j)) = _
  rw [spread_1024, fold_row_low]

theorem fold_row_high (x : FVec Ideal S1024x1024 .f32) (h1 h2 h3) (r : Fin 1024) :
    multiReduction .maximumf [1] S1024 x 0xFF800000#32 h1 h2 h3 (ix1 r) =
      Finset.univ.fold max (⊥ : EReal) fun c : Fin 1024 => x (ix2 r c) := by
  pointwise []
  rw [bot_f32]

theorem rowmax_high (x : FVec Ideal S1024x1024 .f32) (m : FVec Ideal S1024x128 .f32) (h1 h2 h3 h4 h5) (r : Fin 1024) (j : Fin 128) :
    maximumf m (broadcastTo S1024x128 (shapeCast S1024x1 (multiReduction .maximumf [1] S1024 x 0xFF800000#32 h1 h2 h3) h4) h5) (ix2 r j) =
      max (m (ix2 r j)) (Finset.univ.fold max (⊥ : EReal) fun c : Fin 1024 => x (ix2 r c)) := by
  show max (m (ix2 r j)) (broadcastTo S1024x128 (shapeCast S1024x1 (multiReduction .maximumf [1] S1024 x 0xFF800000#32 h1 h2 h3) h4) h5 (ix2 r j)) = _
  rw [spread_1024, fold_row_high]

section Full
variable (q : FVec Ideal S2048x128 .bf16) (kb : Vec Ideal S1x1024x128 .bf16) (m l : Vec Ideal S2048x128 .f32)

theorem pay3_apply (r : Fin 2048) (c : Fin 1024) :
    k0_pay3 (F := Ideal) q kb (ix2 r c) = ∑ d : Fin 128, q (ix2 r d) * kb (ix3 (0 : Fin 1) c d) := by
  pointwise [k0_pay3]

theorem pay4_apply (r : Fin 2048) (j : Fin 128) :
    k0_pay4 (F := Ideal) q kb m (ix2 r j) =
      max (m (ix2 r j)) (Finset.univ.fold max (⊥ : EReal) fun c : Fin 1024 => k0_pay3 (F := Ideal) q kb (ix2 r c)) :=
  rowmax_full (k0_pay3 (F := Ideal) q kb) m _ _ _ _ _ r j

theorem pay6_apply (r : Fin 2048) (c : Fin 1024) :
    k0_pay6 (F := Ideal) q kb m (ix2 r c) =
      Ideal.exp2 (k0_pay3 (F := Ideal) q kb (ix2 r c) - k0_pay4 (F := Ideal) q kb m (ix2 r (lane c))) := by
  have hc := c.isLt
  pointwise [k0_pay6]
  refine congrArg (fun z : EReal => Ideal.exp2 (_ - z)) ?_
  repeat' split
  all_goals first
    | exact congrArg (fun z => k0_pay4 (F := Ideal) q kb m (ix2 r z)) (Fin.ext (by show _ = c.val % 128; dsimp only; omega))
    | (exfalso; omega)

theorem pay7_apply (r : Fin 2048) (j : Fin 128) :
    k0_pay7 (F := Ideal) q kb m l (ix2 r j) =
      Ideal.exp2 (m (ix2 r j) - k0_pay4 (F := Ideal) q kb m (ix2 r j)) * l (ix2 r j)
        + ∑ g : Fin 8, k0_pay6 (F := Ideal) q kb m (ix2 r (⟨128 * g.val + j.val, by omega⟩ : Fin 1024)) := by
  pointwise [k0_pay7, k0_pay5]
  simp [Fin.sum_univ_eight]
  rfl

theorem pay8_apply (vb : Vec Ideal S1x1024x128 .bf16) (r : Fin 2048) (j : Fin 128) :
    k0_pay8 (F := Ideal) (k0_pay2 vb) (k0_pay5 q kb m) (k0_pay6 q kb m) l (ix2 r j) =
      Ideal.exp2 (m (ix2 r j) - k0_pay4 (F := Ideal) q kb m (ix2 r j)) * l (ix2 r j)
        + ∑ c : Fin 1024, k0_pay6 (F := Ideal) q kb m (ix2 r c) * vb (ix3 (0 : Fin 1) c j) := by
  pointwise [k0_pay8, k0_pay5, k0_pay2]
  rfl
end Full

theorem full_m (q : FVec Ideal S2048x128 .bf16) (kb vb : Vec Ideal S1x1024x128 .bf16) (S : Scratch Ideal) :
    (S.full q kb vb).m = k0_pay4 (F := Ideal) q kb S.m := by
  funext y
  idx_vars y
  show k0_pay9 (F := Ideal) (k0_pay4 (F := Ideal) q kb S.m) (ix2 y0 y1) = _
  pointwise [k0_pay9]

/-- One unmasked block, in one row. -/
theorem row_full {s : ℕ → ℝ} {v : ℕ → Fin 128 → ℝ} {P N : ℕ} (q : FVec Ideal S2048x128 .bf16)
    (kb vb : Vec Ideal S1x1024x128 .bf16) (S : Scratch Ideal) (R : Fin 2048)
    (h : RowAt s v P N (fun j => S.m (ix2 R j)) (fun j => S.l (ix2 R j)) (fun j => S.a (ix2 R j)))
    (hN : N % 128 = 0) (hNP : N ≤ P) (ht : ∀ i : Fin 1024, k0_pay3 (F := Ideal) q kb (ix2 R i) = score s P (N + i.val))
    (hw : ∀ (i : Fin 1024) (j : Fin 128), vb (ix3 (0 : Fin 1) i j) = ((v (N + i.val) j : ℝ) : EReal)) :
    RowAt s v P (N + 1024) (fun j => (S.full q kb vb).m (ix2 R j)) (fun j => (S.full q kb vb).l (ix2 R j))
      (fun j => (S.full q kb vb).a (ix2 R j)) := by
  rw [full_m q kb vb S]
  refine rowAt_step (W := 1024) h hN hNP 8 (by norm_num) (by decide) (fun i => k0_pay3 (F := Ideal) q kb (ix2 R i)) ht
    (fun i j => vb (ix3 (0 : Fin 1) i j)) hw (fun j => k0_pay4 (F := Ideal) q kb S.m (ix2 R j)) _ _
    (fun i => k0_pay6 (F := Ideal) q kb S.m (ix2 R i)) (pay4_apply q kb S.m R) ?_ (pay7_apply q kb S.m S.l R)
    (pay8_apply q kb S.m S.a vb R)
  intro i j hij
  have e : lane i = j := Fin.ext hij
  rw [pay6_apply, e]

end Cert.Proof.Attention
end
-- ==== Proof.AttnDiag.lean ====
module

public import proofs.«01_k».proof.Proof.AttnRows

/-!
# The two blocks on the diagonal, over the reals

The last 512 keys a query block sees are masked for the lower half of its rows, and the last 1024 for the upper
half. A masked row sees the keys up to its own position.
-/

@[expose] public section
set_option maxRecDepth 16384
noncomputable section
namespace Cert.Proof.Attention
open Cert.Kernel2Ideal Cert.Kernel2Ideal.Gen
open Idealize.ShloMosaic

theorem within_low : ∀ r : Fin 1024, IntOp.addi 0#32 (IntOp.andi (BitVec.ofNat 32 r.val) 511#32) = BitVec.ofNat 32 (r.val % 512) := by
  decide +kernel

theorem within_high : ∀ r : Fin 1024, IntOp.addi 512#32 (IntOp.andi (BitVec.ofNat 32 r.val) 511#32) = BitVec.ofNat 32 (512 + r.val % 512) := by
  decide +kernel

section Low
variable (kb : FVec Ideal S512x128 .bf16) (q : FVec Ideal S1024x128 .bf16) (m l : Vec Ideal S1024x128 .f32)

theorem pay52_apply (r : Fin 1024) (c : Fin 512) :
    k0_pay52 (F := Ideal) kb q (ix2 r c) =
      if c.val ≤ r.val % 512 then ∑ d : Fin 128, q (ix2 r d) * kb (ix2 c d) else ⊥ := by
  have hc := c.isLt
  pointwise [k0_pay52]
  rw [within_low r, WordCmp.cmpi_sle_ofNat (by omega) (by omega), WordCmp.select_ofBool, mask_bot]
  simp only [decide_eq_true_eq]

theorem pay53_apply (r : Fin 1024) (j : Fin 128) :
    k0_pay53 (F := Ideal) kb q m (ix2 r j) =
      max (m (ix2 r j)) (Finset.univ.fold max (⊥ : EReal) fun c : Fin 512 => k0_pay52 (F := Ideal) kb q (ix2 r c)) :=
  rowmax_low (k0_pay52 (F := Ideal) kb q) m _ _ _ _ _ r j

theorem pay55_apply (r : Fin 1024) (c : Fin 512) :
    k0_pay55 (F := Ideal) kb q m (ix2 r c) =
      Ideal.exp2 (k0_pay52 (F := Ideal) kb q (ix2 r c) - k0_pay53 (F := Ideal) kb q m (ix2 r (lane c))) := by
  have hc := c.isLt
  pointwise [k0_pay55]
  refine congrArg (fun z : EReal => Ideal.exp2 (_ - z)) ?_
  repeat' split
  all_goals first
    | exact congrArg (fun z => k0_pay53 (F := Ideal) kb q m (ix2 r z)) (Fin.ext (by show _ = c.val % 128; dsimp only; omega))
    | (exfalso; omega)

theorem pay56_apply (r : Fin 1024) (j : Fin 128) :
    k0_pay56 (F := Ideal) kb q m l (ix2 r j) =
      Ideal.exp2 (m (ix2 r j) - k0_pay53 (F := Ideal) kb q m (ix2 r j)) * l (ix2 r j)
        + ∑ g : Fin 4, k0_pay55 (F := Ideal) kb q m (ix2 r (⟨128 * g.val + j.val, by omega⟩ : Fin 512)) := by
  pointwise [k0_pay56, k0_pay54]
  simp [Fin.sum_univ_four]
  rfl

theorem pay57_apply (vb : FVec Ideal S512x128 .bf16) (r : Fin 1024) (j : Fin 128) :
    k0_pay57 (F := Ideal) kb vb q m l (ix2 r j) =
      Ideal.exp2 (m (ix2 r j) - k0_pay53 (F := Ideal) kb q m (ix2 r j)) * l (ix2 r j)
        + ∑ c : Fin 512, k0_pay55 (F := Ideal) kb q m (ix2 r c) * vb (ix2 c j) := by
  pointwise [k0_pay57, k0_pay54]
  rfl
end Low

/-- The masked block of 512 keys, in one row. -/
theorem row_low {s : ℕ → ℝ} {v : ℕ → Fin 128 → ℝ} {P N : ℕ} (kb vb : FVec Ideal S512x128 .bf16)
    (q : FVec Ideal S1024x128 .bf16) (m l a : Vec Ideal S1024x128 .f32) (r : Fin 1024)
    (h : RowAt s v P N (fun j => m (ix2 r j)) (fun j => l (ix2 r j)) (fun j => a (ix2 r j)))
    (hN : N % 128 = 0) (hP : P = N + r.val % 512)
    (ht : ∀ i : Fin 512, ∑ d : Fin 128, q (ix2 r d) * kb (ix2 i d) = ((s (N + i.val) : ℝ) : EReal))
    (hw : ∀ (i : Fin 512) (j : Fin 128), vb (ix2 i j) = ((v (N + i.val) j : ℝ) : EReal)) (j : Fin 128) :
    Ideal.div (k0_pay57 (F := Ideal) kb vb q m a (ix2 r j)) (∑ k : Fin 128, k0_pay56 (F := Ideal) kb q m l (ix2 r k))
      = ((soft (fun c => Real.rpow 2 (s c)) (fun c => v c j) P : ℝ) : EReal) := by
  have step : RowAt s v P (N + 512) (fun j => k0_pay53 (F := Ideal) kb q m (ix2 r j))
      (fun j => k0_pay56 (F := Ideal) kb q m l (ix2 r j)) (fun j => k0_pay57 (F := Ideal) kb vb q m a (ix2 r j)) := by
    refine rowAt_step (W := 512) h hN (by omega) 4 (by norm_num) (by decide) (fun i => k0_pay52 (F := Ideal) kb q (ix2 r i)) ?_
      (fun i j => vb (ix2 i j)) hw _ _ _
      (fun i => k0_pay55 (F := Ideal) kb q m (ix2 r i)) (pay53_apply kb q m r) ?_ (pay56_apply kb q m l r)
      (pay57_apply kb q m a vb r)
    · intro i
      rw [pay52_apply, ht]
      unfold score
      exact if_congr (by omega) rfl rfl
    · intro i j hij
      have e : lane i = j := Fin.ext hij
      rw [pay55_apply, e]
  exact rowAt_quot step (by omega) (by omega) j

section High
variable (q : FVec Ideal S2048x128 .bf16) (kb : Vec Ideal S1x1024x128 .bf16) (m l : Vec Ideal S1024x128 .f32)

theorem pay60_apply (r : Fin 1024) (c : Fin 1024) :
    k0_pay60 (F := Ideal) q kb (ix2 r c) =
      if c.val ≤ 512 + r.val % 512 then
        ∑ d : Fin 128, q (ix2 (⟨1024 + r.val, by omega⟩ : Fin 2048) d) * kb (ix3 (0 : Fin 1) c d) else ⊥ := by
  have hc := c.isLt
  pointwise [k0_pay60]
  rw [within_high r, WordCmp.cmpi_sle_ofNat (by omega) (by omega), WordCmp.select_ofBool, mask_bot]
  simp only [decide_eq_true_eq]

theorem pay61_apply (r : Fin 1024) (j : Fin 128) :
    k0_pay61 (F := Ideal) q kb m (ix2 r j) =
      max (m (ix2 r j)) (Finset.univ.fold max (⊥ : EReal) fun c : Fin 1024 => k0_pay60 (F := Ideal) q kb (ix2 r c)) :=
  rowmax_high (k0_pay60 (F := Ideal) q kb) m _ _ _ _ _ r j

theorem pay63_apply (r : Fin 1024) (c : Fin 1024) :
    k0_pay63 (F := Ideal) q kb m (ix2 r c) =
      Ideal.exp2 (k0_pay60 (F := Ideal) q kb (ix2 r c) - k0_pay61 (F := Ideal) q kb m (ix2 r (lane c))) := by
  have hc := c.isLt
  pointwise [k0_pay63]
  refine congrArg (fun z : EReal => Ideal.exp2 (_ - z)) ?_
  repeat' split
  all_goals first
    | exact congrArg (fun z => k0_pay61 (F := Ideal) q kb m (ix2 r z)) (Fin.ext (by show _ = c.val % 128; dsimp only; omega))
    | (exfalso; omega)

theorem pay66_apply (r : Fin 1024) (j : Fin 128) :
    k0_pay66 (F := Ideal) (k0_pay62 q kb m) (k0_pay64 q kb m) (k0_pay65 q kb m) l (ix2 r j) =
      Ideal.exp2 (m (ix2 r j) - k0_pay61 (F := Ideal) q kb m (ix2 r j)) * l (ix2 r j)
        + ∑ g : Fin 8, k0_pay63 (F := Ideal) q kb m (ix2 r (⟨128 * g.val + j.val, by omega⟩ : Fin 1024)) := by
  pointwise [k0_pay66, k0_pay62, k0_pay64, k0_pay65]
  simp [Fin.sum_univ_eight]
  rfl

theorem pay67_apply (vb : Vec Ideal S1x1024x128 .bf16) (r : Fin 1024) (j : Fin 128) :
    k0_pay67 (F := Ideal) (k0_pay59 vb) (k0_pay62 q kb m) (k0_pay63 q kb m) l (ix2 r j) =
      Ideal.exp2 (m (ix2 r j) - k0_pay61 (F := Ideal) q kb m (ix2 r j)) * l (ix2 r j)
        + ∑ c : Fin 1024, k0_pay63 (F := Ideal) q kb m (ix2 r c) * vb (ix3 (0 : Fin 1) c j) := by
  pointwise [k0_pay67, k0_pay62, k0_pay59]
  rfl
end High

/-- The masked block of 1024 keys, in one row. -/
theorem row_high {s : ℕ → ℝ} {v : ℕ → Fin 128 → ℝ} {P N : ℕ} (q : FVec Ideal S2048x128 .bf16)
    (kb vb : Vec Ideal S1x1024x128 .bf16) (m l a : Vec Ideal S1024x128 .f32) (r : Fin 1024)
    (h : RowAt s v P N (fun j => m (ix2 r j)) (fun j => l (ix2 r j)) (fun j => a (ix2 r j)))
    (hN : N % 128 = 0) (hP : P = N + (512 + r.val % 512))
    (ht : ∀ i : Fin 1024, ∑ d : Fin 128, q (ix2 (⟨1024 + r.val, by omega⟩ : Fin 2048) d) * kb (ix3 (0 : Fin 1) i d)
      = ((s (N + i.val) : ℝ) : EReal))
    (hw : ∀ (i : Fin 1024) (j : Fin 128), vb (ix3 (0 : Fin 1) i j) = ((v (N + i.val) j : ℝ) : EReal)) (j : Fin 128) :
    Ideal.div (k0_pay67 (F := Ideal) (k0_pay59 vb) (k0_pay62 q kb m) (k0_pay63 q kb m) a (ix2 r j))
        (∑ k : Fin 128, k0_pay66 (F := Ideal) (k0_pay62 q kb m) (k0_pay64 q kb m) (k0_pay65 q kb m) l (ix2 r k))
      = ((soft (fun c => Real.rpow 2 (s c)) (fun c => v c j) P : ℝ) : EReal) := by
  have step : RowAt s v P (N + 1024) (fun j => k0_pay61 (F := Ideal) q kb m (ix2 r j))
      (fun j => k0_pay66 (F := Ideal) (k0_pay62 q kb m) (k0_pay64 q kb m) (k0_pay65 q kb m) l (ix2 r j))
      (fun j => k0_pay67 (F := Ideal) (k0_pay59 vb) (k0_pay62 q kb m) (k0_pay63 q kb m) a (ix2 r j)) := by
    refine rowAt_step (W := 1024) h hN (by omega) 8 (by norm_num) (by decide) (fun i => k0_pay60 (F := Ideal) q kb (ix2 r i)) ?_
      (fun i j => vb (ix3 (0 : Fin 1) i j)) hw _ _ _
      (fun i => k0_pay63 (F := Ideal) q kb m (ix2 r i)) (pay61_apply q kb m r) ?_ (pay66_apply q kb m l r)
      (pay67_apply q kb m a vb r)
    · intro i
      rw [pay60_apply, ht]
      unfold score
      exact if_congr (by omega) rfl rfl
    · intro i j hij
      have e : lane i = j := Fin.ext hij
      rw [pay63_apply, e]
  exact rowAt_quot step (by omega) (by omega) j

end Cert.Proof.Attention
end
-- ==== Proof.AttnOut.lean ====
module

public import proofs.«01_k».proof.Proof.AttnDiag

/-!
# The attention's output block, over the reals

The two halves of a head's queries are kept one below the other, 512 rows of each at a time; each is put beside
zeros, so that a row's score is the product of one half of the query with the same half of the key. An output
row is the difference of the two softmax averages, normed over its 128 entries.
-/

@[expose] public section
set_option maxRecDepth 16384
noncomputable section
namespace Cert.Proof.Attention
open Cert.Kernel2Ideal Cert.Kernel2Ideal.Gen
open Idealize.ShloMosaic

/-- The query's row in its block, and its half, out of the scratch buffers' row. -/
def row (R : ℕ) : ℕ := R % 512 + 512 * (R / 1024)
def half (R : ℕ) : ℕ := R / 512 % 2

/-- A query beside zeros. -/
def beside (qr : ℕ → Fin 128 → ℝ) (R : ℕ) (d : Fin 128) : ℝ := if d.val / 64 = half R then qr (row R) d else 0

/-- A scratch row's scores. -/
def scoreRow (qr kr : ℕ → Fin 128 → ℝ) (R c : ℕ) : ℝ := ∑ d : Fin 128, beside qr R d * kr c d

theorem first_half : ∀ d : Fin 128, IntOp.cmpi .slt (BitVec.ofNat 32 d.val) 64#32 = BitVec.ofBool (decide (d.val / 64 = 0)) := by
  decide +kernel
theorem second_half : ∀ d : Fin 128, IntOp.cmpi .sge (BitVec.ofNat 32 d.val) 64#32 = BitVec.ofBool (decide (d.val / 64 = 1)) := by
  decide +kernel

section
variable (x : Vec Ideal S1x1024x128 .bf16) (qr : ℕ → Fin 128 → ℝ)
  (hx : ∀ (r : Fin 1024) (d : Fin 128), x (ix3 (0 : Fin 1) r d) = ((qr r.val d : ℝ) : EReal))

theorem piece (w : BitVec 1) (t h n : ℕ) (d : Fin 128) (hw : w = BitVec.ofBool (decide (d.val / 64 = t))) (ht : h = t) (r : Fin 1024) (hr : r.val = n)
    (hx : ∀ (r : Fin 1024) (d : Fin 128), x (ix3 (0 : Fin 1) r d) = ((qr r.val d : ℝ) : EReal)) :
    Scalar.select w (x (ix3 (0 : Fin 1) r d)) (0 : EReal) = ((if d.val / 64 = h then qr n d else 0 : ℝ) : EReal) := by
  rw [hw, WordCmp.select_ofBool, hx, hr, ht]
  by_cases e : d.val / 64 = t <;> simp [e]

include hx in
theorem pay37_apply (R : Fin 2048) (d : Fin 128) : k0_pay37 (F := Ideal) x (ix2 R d) = ((beside qr R.val d : ℝ) : EReal) := by
  have hR := R.isLt
  pointwise [k0_pay37]
  unfold beside half row
  split
  · exact piece x qr _ 0 _ _ d (first_half d) (by omega) _ (by dsimp only; omega) hx
  · split
    · exact piece x qr _ 1 _ _ d (second_half d) (by omega) _ (by dsimp only; omega) hx
    · split
      · exact piece x qr _ 0 _ _ d (first_half d) (by omega) _ (by dsimp only; omega) hx
      · exact piece x qr _ 1 _ _ d (second_half d) (by omega) _ (by dsimp only; omega) hx
end

section
variable (x1 : Vec Ideal S1x1024x128 .bf16) (x2 x3 : Vec Ideal S1x8192x128 .bf16) (qr kr vr : ℕ → Fin 128 → ℝ)
  (h1 : ∀ (r : Fin 1024) (d : Fin 128), x1 (ix3 (0 : Fin 1) r d) = ((qr r.val d : ℝ) : EReal))
  (h2 : ∀ (c : Fin 8192) (d : Fin 128), x2 (ix3 (0 : Fin 1) c d) = ((kr c.val d : ℝ) : EReal))
  (h3 : ∀ (c : Fin 8192) (d : Fin 128), x3 (ix3 (0 : Fin 1) c d) = ((vr c.val d : ℝ) : EReal))

theorem block_apply (z : Vec Ideal S1x8192x128 .bf16) (zr : ℕ → Fin 128 → ℝ)
    (hz : ∀ (c : Fin 8192) (d : Fin 128), z (ix3 (0 : Fin 1) c d) = ((zr c.val d : ℝ) : EReal)) (n : ℕ) (hn : n < 8)
    (c : Fin 1024) (d : Fin 128) : block z n (ix3 (0 : Fin 1) c d) = ((zr (1024 * n + c.val) d : ℝ) : EReal) := by
  have hc := c.isLt
  have e : (1024 * n + c.val) % 8192 = 1024 * n + c.val := Nat.mod_eq_of_lt (by omega)
  exact (hz ⟨(1024 * n + c.val) % 8192, Nat.mod_lt _ (by decide)⟩ d).trans (by dsimp only; rw [e])

theorem half_apply (z : Vec Ideal S1x8192x128 .bf16) (zr : ℕ → Fin 128 → ℝ)
    (hz : ∀ (c : Fin 8192) (d : Fin 128), z (ix3 (0 : Fin 1) c d) = ((zr c.val d : ℝ) : EReal)) (n : ℕ) (hn : n < 8)
    (c : Fin 512) (d : Fin 128) : halfBlock z n (ix3 (0 : Fin 1) c d) = ((zr (1024 * n + c.val) d : ℝ) : EReal) := by
  have hc := c.isLt
  have e : (1024 * n + c.val) % 8192 = 1024 * n + c.val := Nat.mod_eq_of_lt (by omega)
  exact (hz ⟨(1024 * n + c.val) % 8192, Nat.mod_lt _ (by decide)⟩ d).trans (by dsimp only; rw [e])

include h1 h2 h3 in
theorem after_row (i : ℕ) (hi : i < 8) (R : Fin 2048) (P : ℕ) (hP : 1024 * i ≤ P) : ∀ n, n ≤ i →
    RowAt (scoreRow qr kr R.val) vr P (1024 * n) (fun j => (after (k0_pay37 x1) x2 x3 n).m (ix2 R j))
      (fun j => (after (k0_pay37 x1) x2 x3 n).l (ix2 R j)) (fun j => (after (k0_pay37 x1) x2 x3 n).a (ix2 R j)) := by
  intro n
  induction n with
  | zero =>
    intro _
    refine rowAt_zero _ _ _ _ _ _ (fun j => ?_) (fun j => ?_) fun j => ?_
    · show k0_pay38 (F := Ideal) (ix2 R j) = _
      pointwise [k0_pay38]
      rfl
    · show k0_pay39 (F := Ideal) (ix2 R j) = _
      pointwise [k0_pay39]
    · show k0_pay40 (F := Ideal) (ix2 R j) = _
      pointwise [k0_pay40]
  | succ n ih =>
    intro hn
    have hn8 : n < 8 := by omega
    rw [show 1024 * (n + 1) = 1024 * n + 1024 by ring]
    refine row_full (N := 1024 * n) _ _ _ _ R (ih (by omega)) (by omega) (by omega) (fun c => ?_) fun c j => block_apply x3 vr h3 n hn8 c j
    have hc := c.isLt
    rw [pay3_apply]
    unfold score scoreRow
    rw [if_pos (by omega), coe_sum]
    refine Finset.sum_congr rfl fun d _ => ?_
    rw [pay37_apply x1 qr h1, block_apply x2 kr h2 n hn8, EReal.coe_mul]

/-- The running sums after the diagonal blocks. -/
def sums (i : ℕ) (q : FVec Ideal S2048x128 .bf16) (x2 x3 : Vec Ideal S1x8192x128 .bf16) : Vec Ideal S2048x128 .f32 :=
  glue (k0_pay56 (F := Ideal) (k0_pay49 (halfBlock x2 i)) (k0_pay51 q) (low (after q x2 x3 i).m) (low (after q x2 x3 i).l))
    (k0_pay66 (F := Ideal) (k0_pay62 q (block x2 i) (high (after q x2 x3 i).m)) (k0_pay64 q (block x2 i) (high (after q x2 x3 i).m))
      (k0_pay65 q (block x2 i) (high (after q x2 x3 i).m)) (high (after q x2 x3 i).l))

/-- The accumulator after the diagonal blocks. -/
def accs (i : ℕ) (q : FVec Ideal S2048x128 .bf16) (x2 x3 : Vec Ideal S1x8192x128 .bf16) : Vec Ideal S2048x128 .f32 :=
  glue (k0_pay57 (F := Ideal) (k0_pay49 (halfBlock x2 i)) (k0_pay50 (halfBlock x3 i)) (k0_pay51 q) (low (after q x2 x3 i).m) (low (after q x2 x3 i).a))
    (k0_pay67 (F := Ideal) (k0_pay59 (block x3 i)) (k0_pay62 q (block x2 i) (high (after q x2 x3 i).m))
      (k0_pay63 q (block x2 i) (high (after q x2 x3 i).m)) (high (after q x2 x3 i).a))

theorem glue_low (lo hi : Vec Ideal S1024x128 .f32) (R : Fin 2048) (hR : R.val < 1024) (j : Fin 128) :
    glue lo hi (ix2 R j) = lo (ix2 (⟨R.val, hR⟩ : Fin 1024) j) := dif_pos hR

theorem glue_high (lo hi : Vec Ideal S1024x128 .f32) (R : Fin 2048) (hR : ¬ R.val < 1024) (j : Fin 128) :
    glue lo hi (ix2 R j) = hi (ix2 (⟨R.val - 1024, by omega⟩ : Fin 1024) j) := dif_neg hR

theorem pay49_apply (z : Vec Ideal S1x512x128 .bf16) (c : Fin 512) (d : Fin 128) :
    k0_pay49 (F := Ideal) z (ix2 c d) = z (ix3 (0 : Fin 1) c d) := by
  pointwise [k0_pay49]
theorem pay50_apply (z : Vec Ideal S1x512x128 .bf16) (c : Fin 512) (d : Fin 128) :
    k0_pay50 (F := Ideal) z (ix2 c d) = z (ix3 (0 : Fin 1) c d) := by
  pointwise [k0_pay50]
theorem pay51_apply (z : FVec Ideal S2048x128 .bf16) (r : Fin 1024) (d : Fin 128) :
    k0_pay51 (F := Ideal) z (ix2 r d) = z (ix2 (⟨r.val, by omega⟩ : Fin 2048) d) := by
  pointwise [k0_pay51]

include h1 h2 h3 in
/-- A row's quotient is its softmax average. -/
theorem quot_row (i : ℕ) (hi : i < 8) (R : Fin 2048) (j : Fin 128) :
    Ideal.div (accs i (k0_pay37 x1) x2 x3 (ix2 R j)) (∑ k : Fin 128, sums i (k0_pay37 x1) x2 x3 (ix2 R k)) =
      ((soft (fun c => Real.rpow 2 (scoreRow qr kr R.val c)) (fun c => vr c j) (1024 * i + row R.val) : ℝ) : EReal) := by
  have hR2 := R.isLt
  have inv := after_row x1 x2 x3 qr kr vr h1 h2 h3 i hi R (1024 * i + row R.val) (by omega) i le_rfl
  unfold accs sums
  by_cases hR : R.val < 1024
  · simp only [glue_low _ _ R hR]
    refine row_low (N := 1024 * i) (s := scoreRow qr kr R.val) (v := vr) _ _ _ _ _ _ (⟨R.val, hR⟩ : Fin 1024) inv (by omega) (by unfold row; dsimp only; omega)
      (fun c => ?_) (fun c d => ?_) j
    · unfold scoreRow
      rw [coe_sum]
      refine Finset.sum_congr rfl fun d _ => ?_
      rw [pay51_apply, pay49_apply, pay37_apply x1 qr h1, half_apply x2 kr h2 i hi, EReal.coe_mul]
    · rw [pay50_apply, half_apply x3 vr h3 i hi]
  · have hR' : 1024 + (R.val - 1024) = R.val := by omega
    have e : (⟨1024 + (R.val - 1024), by omega⟩ : Fin 2048) = R := Fin.ext hR'
    have invH : RowAt (scoreRow qr kr R.val) vr (1024 * i + row R.val) (1024 * i)
        (fun j => high (after (k0_pay37 x1) x2 x3 i).m (ix2 (⟨R.val - 1024, by omega⟩ : Fin 1024) j))
        (fun j => high (after (k0_pay37 x1) x2 x3 i).l (ix2 (⟨R.val - 1024, by omega⟩ : Fin 1024) j))
        (fun j => high (after (k0_pay37 x1) x2 x3 i).a (ix2 (⟨R.val - 1024, by omega⟩ : Fin 1024) j)) := by
      have g : ∀ (z : Vec Ideal S2048x128 .f32) (j : Fin 128),
          high z (ix2 (⟨R.val - 1024, by omega⟩ : Fin 1024) j) = z (ix2 R j) := fun z j => by
        show z (ix2 (⟨1024 + (R.val - 1024), _⟩ : Fin 2048) j) = _
        exact congrArg (fun u => z (ix2 u j)) e
      simp only [g]
      exact inv
    simp only [glue_high _ _ R hR]
    refine row_high (N := 1024 * i) (s := scoreRow qr kr R.val) (v := vr) _ _ _ _ _ _ (⟨R.val - 1024, by omega⟩ : Fin 1024) invH (by omega) (by unfold row; dsimp only; omega)
      (fun c => ?_) (fun c d => block_apply x3 vr h3 i hi c d) j
    unfold scoreRow
    rw [coe_sum]
    refine Finset.sum_congr rfl fun d _ => ?_
    rw [block_apply x2 kr h2 i hi, EReal.coe_mul]
    refine congrArg (· * _) ?_
    exact (congrArg (fun u => k0_pay37 (F := Ideal) x1 (ix2 u d)) e).trans (pay37_apply x1 qr h1 R d)

/-- The score of one half of a query: the product of 64 entries. -/
def halfScore (qr kr : ℕ → Fin 128 → ℝ) (t : Fin 2) (r c : ℕ) : ℝ :=
  ∑ d : Fin 64, qr r ⟨64 * t.val + d.val, by omega⟩ * kr c ⟨64 * t.val + d.val, by omega⟩

theorem sum_half (f : Fin 128 → ℝ) (t : Fin 2) :
    ∑ d : Fin 128, (if d.val / 64 = t.val then f d else 0) = ∑ d : Fin 64, f ⟨64 * t.val + d.val, by omega⟩ := by
  rw [← Finset.sum_filter]
  symm
  refine Finset.sum_bij (fun d _ => (⟨64 * t.val + d.val, by omega⟩ : Fin 128)) (fun d _ => ?_) (fun a _ b _ h => ?_) (fun b hb => ?_) fun _ _ => rfl
  · have := d.isLt
    rw [Finset.mem_filter]
    exact ⟨Finset.mem_univ _, by dsimp only; omega⟩
  · have := congrArg Fin.val h
    exact Fin.ext (by dsimp only at this; omega)
  · have hb' := (Finset.mem_filter.mp hb).2
    exact ⟨⟨b.val - 64 * t.val, by omega⟩, Finset.mem_univ _, Fin.ext (by dsimp only; omega)⟩

theorem scoreRow_eq (qr kr : ℕ → Fin 128 → ℝ) (R c : ℕ) (t : Fin 2) (ht : half R = t.val) (r : ℕ) (hr : row R = r) :
    scoreRow qr kr R c = halfScore qr kr t r c := by
  unfold scoreRow halfScore
  rw [← sum_half (fun d => qr r d * kr c d) t]
  refine Finset.sum_congr rfl fun d _ => ?_
  unfold beside
  rw [ht, hr]
  split <;> simp

/-- The difference of the two averages a query's halves make of the values. -/
def att (qr kr vr : ℕ → Fin 128 → ℝ) (lam : ℝ) (r P : ℕ) (j : Fin 128) : ℝ :=
  soft (fun c => Real.rpow 2 (halfScore qr kr 0 r c)) (fun c => vr c j) P
    - lam * soft (fun c => Real.rpow 2 (halfScore qr kr 1 r c)) (fun c => vr c j) P

/-- A row of 128 entries over the root of its mean square, times a weight and 0.8. -/
def normed (o g : Fin 128 → EReal) (j : Fin 128) : EReal :=
  o j * Ideal.rsqrt (Ideal.div (∑ k, o k * o k) (Ideal.ofBits .f32 0x43000000#32) + Ideal.ofBits .f32 0x3727C5AC#32) * g j
    * Ideal.ofBits .f32 0x3F4CCCCD#32

theorem pay69_apply (a l : Vec Ideal S2048x128 .f32) (lam : EReal) (r : Fin 1024) (j : Fin 128) (R0 R1 : Fin 2048)
    (hR0 : R0.val = if r.val < 512 then r.val else r.val + 512) (hR1 : R1.val = R0.val + 512) :
    k0_pay69 (F := Ideal) a l lam (ix2 r j) =
      Ideal.div (a (ix2 R0 j)) (∑ k : Fin 128, l (ix2 R0 k)) - lam * Ideal.div (a (ix2 R1 j)) (∑ k : Fin 128, l (ix2 R1 k)) := by
  have hr := r.isLt
  pointwise [k0_pay69]
  by_cases h : r.val < 512
  · rw [if_pos h] at hR0
    have e0 : (⟨r.val, by omega⟩ : Fin 2048) = R0 := Fin.ext hR0.symm
    have e1 : (⟨512 + r.val, by omega⟩ : Fin 2048) = R1 := Fin.ext (by dsimp only; omega)
    rw [dif_pos h, dif_pos h, e0, e1]
  · rw [if_neg h] at hR0
    have e0 : (⟨1024 + (r.val - 512), by omega⟩ : Fin 2048) = R0 := Fin.ext (by dsimp only; omega)
    have e1 : (⟨1536 + (r.val - 512), by omega⟩ : Fin 2048) = R1 := Fin.ext (by dsimp only; omega)
    rw [dif_neg h, dif_neg h, e0, e1]

include h1 h2 h3 in
theorem att_row (i : ℕ) (hi : i < 8) (lam : ℝ) (r : Fin 1024) (j : Fin 128) :
    k0_pay69 (F := Ideal) (accs i (k0_pay37 x1) x2 x3) (sums i (k0_pay37 x1) x2 x3) ((lam : ℝ) : EReal) (ix2 r j) =
      ((att qr kr vr lam r.val (1024 * i + r.val) j : ℝ) : EReal) := by
  have hr := r.isLt
  have h0 : (if r.val < 512 then r.val else r.val + 512) < 2048 := by split <;> omega
  have h0' : (if r.val < 512 then r.val else r.val + 512) + 512 < 2048 := by split <;> omega
  have w0 : row (if r.val < 512 then r.val else r.val + 512) = r.val := by unfold row; split <;> omega
  have w1 : row ((if r.val < 512 then r.val else r.val + 512) + 512) = r.val := by unfold row; split <;> omega
  have t0 : half (if r.val < 512 then r.val else r.val + 512) = (0 : Fin 2).val := by unfold half; show _ = 0; split <;> omega
  have t1 : half ((if r.val < 512 then r.val else r.val + 512) + 512) = (1 : Fin 2).val := by unfold half; show _ = 1; split <;> omega
  rw [pay69_apply _ _ _ r j ⟨_, h0⟩ ⟨_, h0'⟩ rfl rfl, quot_row x1 x2 x3 qr kr vr h1 h2 h3 i hi, quot_row x1 x2 x3 qr kr vr h1 h2 h3 i hi]
  dsimp only
  rw [w0, w1]
  unfold att
  simp only [scoreRow_eq qr kr _ _ 0 t0 _ w0, scoreRow_eq qr kr _ _ 1 t1 _ w1]
  rw [EReal.coe_sub, EReal.coe_mul]

include h1 h2 h3 in
/-- The block the body stores, at an index. -/
theorem outBlock_apply (i : ℕ) (hi : i < 8) (x0 : Vec Ideal S1 .f32) (lam : ℝ) (h0 : x0 (ix1 (0 : Fin 1)) = ((lam : ℝ) : EReal))
    (x4 : Vec Ideal S1x128 .f32) (r : Fin 1024) (j : Fin 128) :
    outBlock i x0 x1 x2 x3 x4 (ix3 (0 : Fin 1) r j) =
      normed (fun k => ((att qr kr vr lam r.val (1024 * i + r.val) k : ℝ) : EReal)) (fun k => x4 (ix2 (0 : Fin 1) k)) j := by
  have e0 : x0 (Shape.Idx.first (by decide)) = ((lam : ℝ) : EReal) := by
    refine Eq.trans (congrArg x0 (funext fun a => ?_)) h0
    match a with
    | ⟨0, _⟩ => exact Subsingleton.elim (α := Fin 1) _ _
  show k0_pay1 (F := Ideal) (k0_pay69 (accs i (k0_pay37 x1) x2 x3) (sums i (k0_pay37 x1) x2 x3) (x0 (Shape.Idx.first (by decide))))
    (k0_pay70 (accs i (k0_pay37 x1) x2 x3) (sums i (k0_pay37 x1) x2 x3) (x0 (Shape.Idx.first (by decide)))) k0_pay71 x4 (ix3 (0 : Fin 1) r j) = _
  rw [e0]
  pointwise [k0_pay1, k0_pay71, k0_pay70]
  simp only [att_row x1 x2 x3 qr kr vr h1 h2 h3 i hi lam]
  rfl
end

end Cert.Proof.Attention
end
-- ==== Proof.AttnRef.lean ====
module

public import proofs.«01_k».proof.Proof.Gen.Reference2Ideal.Run
public import proofs.«01_k».proof.Proof.AttnOut
public import Idealize.ShloMosaic.Lib.Pointwise

/-!
# The attention's reference over the reals

The reference's result is read at an index, one step of it at a time.
-/

@[expose] public section
set_option maxRecDepth 16384
noncomputable section
namespace Cert.Proof.AttentionReference
open Cert.Reference2Ideal Cert.Reference2Ideal.Gen
open Idealize.ShloMosaic Idealize.ShloMosaic.TcCoe Idealize.SL.Sem

/-- The scaled products of queries and keys. -/
def products (q k : FVec Ideal S2x8192x512 .f32) : FVec Ideal S2x4x2x8192x8192 .f32 :=
  Host.dotGeneral dot_S2x8192x4x2x64_S2x8192x4x2x64_S2x4x2x8192x8192_4_4_1_1_023_023 none
    (shapeCast S2x8192x4x2x64 (mulf q (broadcastInDim S2x8192x512 ![] bcast_S_S2x8192x512 (constant (F := Ideal) S_ .f32 0x3E000000#32)))
      shapeCasts_S2x8192x512_S2x8192x4x2x64)
    (shapeCast S2x8192x4x2x64 k shapeCasts_S2x8192x512_S2x8192x4x2x64)

/-- The scores: a key after the query has −∞. -/
def masked (x : FVec Ideal S2x4x2x8192x8192 .f32) : FVec Ideal S2x4x2x8192x8192 .f32 :=
  select (broadcastInDim S2x4x2x8192x8192 ![3, 4] bcast_S8192x8192_S2x4x2x8192x8192_3_4
      (cmpi .sle
        (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    x (broadcastInDim S2x4x2x8192x8192 ![] bcast_S_S2x4x2x8192x8192 (id (constant (F := Ideal) S_ .f32 0xFF800000#32)))

/-- A row's greatest score. -/
def peak (x : FVec Ideal S2x4x2x8192x8192 .f32) : FVec Ideal S2x4x2x8192 .f32 :=
  maximumf (broadcastInDim S2x4x2x8192 ![] bcast_S_S2x4x2x8192 (constant (F := Ideal) S_ .f32 0xFF800000#32))
    (Host.reduce FloatOps.maximumf x (constant (F := Ideal) S_ .f32 0xFF800000#32) reducesTo_S2x4x2x8192x8192_S2x4x2x8192_d4 h_S_)

/-- A row's number, beside each of its entries. -/
def along (z : FVec Ideal S2x4x2x8192 .f32) : FVec Ideal S2x4x2x8192x8192 .f32 :=
  broadcastInDim S2x4x2x8192x8192 ![0, 1, 2, 3, 4] bcast_S2x4x2x8192x1_S2x4x2x8192x8192_0_1_2_3_4
    (broadcastInDim S2x4x2x8192x1 ![0, 1, 2, 3] bcast_S2x4x2x8192_S2x4x2x8192x1_0_1_2_3 z)

def expd (x : FVec Ideal S2x4x2x8192x8192 .f32) : FVec Ideal S2x4x2x8192x8192 .f32 := Host.exp (subf x (along (peak x)))

def total (e : FVec Ideal S2x4x2x8192x8192 .f32) : FVec Ideal S2x4x2x8192 .f32 :=
  Host.reduceAdd e (constant (F := Ideal) S_ .f32 0x00000000#32) reducesTo_S2x4x2x8192x8192_S2x4x2x8192_d4 h_S_

def weights (x : FVec Ideal S2x4x2x8192x8192 .f32) : FVec Ideal S2x4x2x8192x8192 .f32 :=
  Host.divf (expd x) (along (total (expd x)))

/-- The difference of the two softmaxes. -/
def difference (lam : FVec Ideal S_ .f32) (p : FVec Ideal S2x4x2x8192x8192 .f32) : FVec Ideal S2x4x8192x8192 .f32 :=
  subf (shapeCast S2x4x8192x8192 (extractStridedSlice S2x4x1x8192x8192 ![0, 0, 0, 0, 0] p slices_S2x4x2x8192x8192_S2x4x1x8192x8192_0_0_0_0_0) shapeCasts_S2x4x1x8192x8192_S2x4x8192x8192)
    (mulf (broadcastInDim S2x4x8192x8192 ![] bcast_S_S2x4x8192x8192 lam)
      (shapeCast S2x4x8192x8192 (extractStridedSlice S2x4x1x8192x8192 ![0, 0, 1, 0, 0] p slices_S2x4x2x8192x8192_S2x4x1x8192x8192_0_0_1_0_0) shapeCasts_S2x4x1x8192x8192_S2x4x8192x8192))

def averages (v : FVec Ideal S2x8192x512 .f32) (a : FVec Ideal S2x4x8192x8192 .f32) : FVec Ideal S2x8192x4x128 .f32 :=
  transpose S2x8192x4x128 [0, 3, 1, 2]
    (Host.dotGeneral dot_S2x8192x4x128_S2x4x8192x8192_S2x4x128x8192_1_3_3_2_02_01 none
      (shapeCast S2x8192x4x128 v shapeCasts_S2x8192x512_S2x8192x4x128) a) transposes_S2x4x128x8192_S2x8192x4x128_0_3_1_2

def squares (o : FVec Ideal S2x8192x4x128 .f32) : FVec Ideal S2x8192x4 .f32 :=
  Host.reduceAdd (mulf o o) (constant (F := Ideal) S_ .f32 0x00000000#32) reducesTo_S2x8192x4x128_S2x8192x4_d3 h_S_

def root (z : FVec Ideal S2x8192x4 .f32) : FVec Ideal S2x8192x4x128 .f32 :=
  broadcastInDim S2x8192x4x128 ![0, 1, 2, 3] bcast_S2x8192x4x1_S2x8192x4x128_0_1_2_3
    (Host.rsqrt (addf
      (Host.divf (broadcastInDim S2x8192x4x1 ![0, 1, 2] bcast_S2x8192x4_S2x8192x4x1_0_1_2 z)
        (broadcastInDim S2x8192x4x1 ![] bcast_S_S2x8192x4x1 (constant (F := Ideal) S_ .f32 0x43000000#32)))
      (broadcastInDim S2x8192x4x1 ![] bcast_S_S2x8192x4x1 (constant (F := Ideal) S_ .f32 0x3727C5AC#32))))

def weigh (o n : FVec Ideal S2x8192x4x128 .f32) (g : FVec Ideal S128 .f32) : FVec Ideal S2x8192x512 .bf16 :=
  truncf .bf16 (shapeCast S2x8192x512 (mulf (mulf (mulf o n)
      (broadcastInDim S2x8192x4x128 ![0, 1, 2, 3] bcast_S1x1x1x128_S2x8192x4x128_0_1_2_3 (broadcastInDim S1x1x1x128 ![3] bcast_S128_S1x1x1x128_3 g)))
      (broadcastInDim S2x8192x4x128 ![] bcast_S_S2x8192x4x128 (constant (F := Ideal) S_ .f32 0x3F4CCCCD#32)))
    shapeCasts_S2x8192x4x128_S2x8192x512) bitsLt_bf16_f32

def lambdaOf (a b c d : FVec Ideal S64 .f32) : FVec Ideal S_ .f32 :=
  addf (subf (Host.exp (Host.reduceAdd (mulf a b) (constant (F := Ideal) S_ .f32 0x00000000#32) reducesTo_S64_S_d0 h_S_))
    (Host.exp (Host.reduceAdd (mulf c d) (constant (F := Ideal) S_ .f32 0x00000000#32) reducesTo_S64_S_d0 h_S_)))
    (constant (F := Ideal) S_ .f32 0x3E4CCCCD#32)

def result (q k v : FVec Ideal S2x8192x512 .f32) (lam : FVec Ideal S_ .f32) (g : FVec Ideal S128 .f32) : FVec Ideal S2x8192x512 .bf16 :=
  let o := averages v (difference lam (weights (masked (products q k))))
  weigh o (root (squares o)) g

theorem result_eq (m : (ℓ : Loc nD τ sig) → Buf (Elt Ideal) ℓ) (c : Dev nD) :
    Value.res_main_v57 m c = result (m ((c.tc : Thread nD τ).loc main_arg0)) (m ((c.tc : Thread nD τ).loc main_arg1))
      (m ((c.tc : Thread nD τ).loc main_arg2))
      (lambdaOf (m ((c.tc : Thread nD τ).loc main_arg3)) (m ((c.tc : Thread nD τ).loc main_arg4))
        (m ((c.tc : Thread nD τ).loc main_arg5)) (m ((c.tc : Thread nD τ).loc main_arg6)))
      (m ((c.tc : Thread nD τ).loc main_arg7)) := rfl

theorem products_apply (q k : FVec Ideal S2x8192x512 .f32) (b : Fin 2) (h : Fin 4) (t : Fin 2) (p c : Fin 8192) :
    products q k (ix5 b h t p c) = ∑ d : Fin 64, q (ix3 b p (⟨h.val * 128 + t.val * 64 + d.val, by omega⟩ : Fin 512))
      * Ideal.ofBits .f32 0x3E000000#32 * k (ix3 b c (⟨h.val * 128 + t.val * 64 + d.val, by omega⟩ : Fin 512)) := by
  pointwise [products]

theorem masked_apply (x : FVec Ideal S2x4x2x8192x8192 .f32) (b : Fin 2) (h : Fin 4) (t : Fin 2) (p c : Fin 8192) :
    masked x (ix5 b h t p c) = if c.val ≤ p.val then x (ix5 b h t p c) else ⊥ := by
  pointwise [masked]
  rw [WordCmp.cmpi_sle_ofNat (by omega) (by omega), WordCmp.select_ofBool]
  simp only [decide_eq_true_eq]
  exact congrArg (fun z : EReal => if c.val ≤ p.val then x (ix5 b h t p c) else z) Attention.bot_f32

/-- A maximum along the last of five axes, of any sizes. -/
theorem fold_last {n0 n1 n2 n3 n4 : ℕ} (x : (⟨5, ![n0, n1, n2, n3, n4]⟩ : Shape).Idx → EReal) (v : EReal)
    (h : (⟨5, ![n0, n1, n2, n3, n4]⟩ : Shape).ReducesTo [4] ⟨4, ![n0, n1, n2, n3]⟩) (hu : 0 < S_.numel)
    (b : Fin n0) (hd : Fin n1) (t : Fin n2) (p : Fin n3) :
    Host.reduce (FloatOps.maximumf (F := Ideal) (φ := .f32)) x (fun _ : S_.Idx => v) h hu (ix4 b hd t p) =
      Finset.univ.fold max v fun c : Fin n4 => x (ix5 b hd t p c) := by
  rw [Host.reduce_eq_fold, Shape.ReducesTo.fold_fiber_r5_a4]
  rfl

theorem fold_row (x : FVec Ideal S2x4x2x8192x8192 .f32) (b : Fin 2) (h : Fin 4) (t : Fin 2) (p : Fin 8192) :
    Host.reduce FloatOps.maximumf x (constant (F := Ideal) S_ .f32 0xFF800000#32) reducesTo_S2x4x2x8192x8192_S2x4x2x8192_d4 h_S_ (ix4 b h t p) =
      Finset.univ.fold max (⊥ : EReal) fun c : Fin 8192 => x (ix5 b h t p c) := by
  rw [← Attention.bot_f32]
  exact fold_last x (Ideal.ofBits .f32 4286578688#32) _ _ b h t p

theorem low_bound (b : Fin 2) (h : Fin 4) (t : Fin 2) (p : Fin 8192) :
    broadcastInDim S2x4x2x8192 ![] bcast_S_S2x4x2x8192 (constant (F := Ideal) S_ .f32 0xFF800000#32) (ix4 b h t p) = (⊥ : EReal) := by
  pointwise []
  rw [Attention.bot_f32]

/-- The larger of two arrays at an index. -/
theorem max_at {s : Shape} (x y : FVec Ideal s .f32) (i : s.Idx) : maximumf x y i = max (x i) (y i) := rfl

theorem peak_apply (x : FVec Ideal S2x4x2x8192x8192 .f32) (b : Fin 2) (h : Fin 4) (t : Fin 2) (p : Fin 8192) :
    peak x (ix4 b h t p) = max ⊥ (Finset.univ.fold max (⊥ : EReal) fun c : Fin 8192 => x (ix5 b h t p c)) := by
  unfold peak
  rw [max_at, low_bound, fold_row]

theorem along_apply (z : FVec Ideal S2x4x2x8192 .f32) (b : Fin 2) (h : Fin 4) (t : Fin 2) (p c : Fin 8192) :
    along z (ix5 b h t p c) = z (ix4 b h t p) := by
  pointwise [along]

theorem expd_apply (x : FVec Ideal S2x4x2x8192x8192 .f32) (b : Fin 2) (h : Fin 4) (t : Fin 2) (p c : Fin 8192) :
    expd x (ix5 b h t p c) = Ideal.exp (x (ix5 b h t p c) - peak x (ix4 b h t p)) := by
  show Ideal.exp (x (ix5 b h t p c) - along (peak x) (ix5 b h t p c)) = _
  rw [along_apply]

theorem total_apply (x : FVec Ideal S2x4x2x8192x8192 .f32) (b : Fin 2) (h : Fin 4) (t : Fin 2) (p : Fin 8192) :
    total x (ix4 b h t p) = ∑ c : Fin 8192, x (ix5 b h t p c) := by
  pointwise [total]

theorem weights_apply (x : FVec Ideal S2x4x2x8192x8192 .f32) (b : Fin 2) (h : Fin 4) (t : Fin 2) (p c : Fin 8192) :
    weights x (ix5 b h t p c) = Ideal.div (Ideal.exp (x (ix5 b h t p c) - peak x (ix4 b h t p)))
      (∑ k : Fin 8192, Ideal.exp (x (ix5 b h t p k) - peak x (ix4 b h t p))) := by
  show Ideal.div (expd x (ix5 b h t p c)) (along (total (expd x)) (ix5 b h t p c)) = _
  rw [along_apply, total_apply, expd_apply]
  simp only [expd_apply]

theorem difference_apply (lam : FVec Ideal S_ .f32) (x : FVec Ideal S2x4x2x8192x8192 .f32) (b : Fin 2) (h : Fin 4) (p c : Fin 8192) :
    difference lam x (ix4 b h p c) = x (ix5 b h (0 : Fin 2) p c) - lam ix0 * x (ix5 b h (1 : Fin 2) p c) := by
  pointwise [difference]

theorem averages_apply (v : FVec Ideal S2x8192x512 .f32) (a : FVec Ideal S2x4x8192x8192 .f32) (b : Fin 2) (h : Fin 4) (e : Fin 128) (p : Fin 8192) :
    averages v a (ix4 b p h e) = ∑ c : Fin 8192, v (ix3 b c (⟨h.val * 128 + e.val, by omega⟩ : Fin 512)) * a (ix4 b h p c) := by
  pointwise [averages]

theorem squares_apply (o : FVec Ideal S2x8192x4x128 .f32) (b : Fin 2) (h : Fin 4) (p : Fin 8192) :
    squares o (ix3 b p h) = ∑ e : Fin 128, o (ix4 b p h e) * o (ix4 b p h e) := by
  pointwise [squares]

theorem root_apply (z : FVec Ideal S2x8192x4 .f32) (b : Fin 2) (h : Fin 4) (e : Fin 128) (p : Fin 8192) :
    root z (ix4 b p h e) = Ideal.rsqrt (Ideal.div (z (ix3 b p h)) (Ideal.ofBits .f32 0x43000000#32) + Ideal.ofBits .f32 0x3727C5AC#32) := by
  pointwise [root]

theorem weigh_apply (o n : FVec Ideal S2x8192x4x128 .f32) (g : FVec Ideal S128 .f32) (b : Fin 2) (p : Fin 8192) (h : Fin 4) (e : Fin 128) :
    weigh o n g (ix3 b p (⟨h.val * 128 + e.val, by omega⟩ : Fin 512)) =
      o (ix4 b p h e) * n (ix4 b p h e) * g (ix1 e) * Ideal.ofBits .f32 0x3F4CCCCD#32 := by
  pointwise [weigh]

theorem lambdaOf_apply (x y z w : FVec Ideal S64 .f32) :
    lambdaOf x y z w ix0 = Ideal.exp (∑ i : Fin 64, x (ix1 i) * y (ix1 i)) - Ideal.exp (∑ i : Fin 64, z (ix1 i) * w (ix1 i))
      + Ideal.ofBits .f32 0x3E4CCCCD#32 := by
  pointwise [lambdaOf]

/-- Of finite inputs the weight of the second softmax is finite. -/
theorem lambdaOf_real (x y z w : FVec Ideal S64 .f32) (X Y Z W : Fin 64 → ℝ) (hx : ∀ i, x (ix1 i) = ((X i : ℝ) : EReal))
    (hy : ∀ i, y (ix1 i) = ((Y i : ℝ) : EReal)) (hz : ∀ i, z (ix1 i) = ((Z i : ℝ) : EReal)) (hw : ∀ i, w (ix1 i) = ((W i : ℝ) : EReal)) :
    ∃ lam : ℝ, lambdaOf x y z w ix0 = ((lam : ℝ) : EReal) := by
  have hc : ∃ r : ℝ, Ideal.ofBits .f32 0x3E4CCCCD#32 = ((r : ℝ) : EReal) := by
    refine ⟨13421773 / 67108864, ?_⟩
    simp [Ideal.ofBits, Ideal.ieee, -EReal.coe_mul]; norm_num
  obtain ⟨r, hr⟩ := hc
  refine ⟨Real.exp (∑ i, X i * Y i) - Real.exp (∑ i, Z i * W i) + r, ?_⟩
  rw [lambdaOf_apply, hr]
  simp only [hx, hy, hz, hw, ← EReal.coe_mul, ← Attention.coe_sum, Ideal.exp_coe, ← EReal.coe_sub, ← EReal.coe_add]

theorem eighth : Ideal.ofBits .f32 0x3E000000#32 = (((1 / 8 : ℝ)) : EReal) := by
  simp [Ideal.ofBits, Ideal.ieee, -EReal.coe_mul]; norm_num

/-- The rows of one head of one batch. -/
def headRows (Q : Fin 2 → Fin 8192 → Fin 512 → ℝ) (b : Fin 2) (h : Fin 4) (p : ℕ) (d : Fin 128) : ℝ :=
  Q b ⟨p % 8192, Nat.mod_lt _ (by decide)⟩ ⟨h.val * 128 + d.val, by omega⟩

theorem headRows_val (Q : Fin 2 → Fin 8192 → Fin 512 → ℝ) (b : Fin 2) (h : Fin 4) (p : Fin 8192) (d : Fin 128) :
    headRows Q b h p.val d = Q b p ⟨h.val * 128 + d.val, by omega⟩ := by
  unfold headRows
  rw [show (⟨p.val % 8192, Nat.mod_lt _ (by decide)⟩ : Fin 8192) = p from Fin.ext (Nat.mod_eq_of_lt p.isLt)]

/-- The difference of the two softmax averages of one head, at one query. -/
def attE (q k v : ℕ → Fin 128 → ℝ) (lam : ℝ) (p : ℕ) (j : Fin 128) : ℝ :=
  Attention.soft (fun c => Real.exp (1 / 8 * Attention.halfScore q k 0 p c)) (fun c => v c j) p
    - lam * Attention.soft (fun c => Real.exp (1 / 8 * Attention.halfScore q k 1 p c)) (fun c => v c j) p

section
variable (q k v : FVec Ideal S2x8192x512 .f32) (Q K V : Fin 2 → Fin 8192 → Fin 512 → ℝ)
  (hq : ∀ b p e, q (ix3 b p e) = ((Q b p e : ℝ) : EReal)) (hk : ∀ b p e, k (ix3 b p e) = ((K b p e : ℝ) : EReal))
  (hv : ∀ b p e, v (ix3 b p e) = ((V b p e : ℝ) : EReal))

include hq hk in
theorem score_apply (b : Fin 2) (h : Fin 4) (t : Fin 2) (p c : Fin 8192) :
    masked (products q k) (ix5 b h t p c) =
      Attention.score (fun c => 1 / 8 * Attention.halfScore (headRows Q b h) (headRows K b h) t p.val c) p.val c.val := by
  rw [masked_apply, products_apply]
  unfold Attention.score
  refine if_congr Iff.rfl ?_ rfl
  unfold Attention.halfScore
  dsimp only
  rw [Finset.mul_sum, Attention.coe_sum]
  refine Finset.sum_congr rfl fun d _ => ?_
  rw [hq, hk, eighth, ← EReal.coe_mul, ← EReal.coe_mul, EReal.coe_eq_coe_iff, headRows_val, headRows_val]
  have e : (⟨h.val * 128 + t.val * 64 + d.val, by omega⟩ : Fin 512) = ⟨h.val * 128 + (64 * t.val + d.val), by omega⟩ :=
    Fin.ext (by dsimp only; omega)
  rw [e]
  ring

include hq hk hv in
theorem averages_real (lam : FVec Ideal S_ .f32) (lamR : ℝ) (hl : lam ix0 = ((lamR : ℝ) : EReal)) (b : Fin 2) (h : Fin 4) (p : Fin 8192) (e : Fin 128) :
    averages v (difference lam (weights (masked (products q k)))) (ix4 b p h e) =
      ((attE (headRows Q b h) (headRows K b h) (headRows V b h) lamR p.val e : ℝ) : EReal) := by
  have w : ∀ (t : Fin 2) (c : Fin 8192), weights (masked (products q k)) (ix5 b h t p c) = _ := fun t c =>
    (weights_apply _ b h t p c).trans
      (Attention.softmax_row (fun c => 1 / 8 * Attention.halfScore (headRows Q b h) (headRows K b h) t p.val c) p.isLt
        (fun c => masked (products q k) (ix5 b h t p c)) (fun c => score_apply q k Q K hq hk b h t p c) _ (peak_apply _ b h t p) c)
  unfold attE
  rw [averages_apply, ← Attention.soft_difference _ _ _ _ p.isLt, Attention.coe_sum]
  refine Finset.sum_congr rfl fun c _ => ?_
  rw [difference_apply, w, w, hv, hl, headRows_val, EReal.coe_mul, EReal.coe_sub, EReal.coe_mul]

include hq hk hv in
/-- The reference's result at an index. -/
theorem result_apply (lam : FVec Ideal S_ .f32) (lamR : ℝ) (hl : lam ix0 = ((lamR : ℝ) : EReal)) (g : FVec Ideal S128 .f32)
    (b : Fin 2) (h : Fin 4) (p : Fin 8192) (e : Fin 128) :
    result q k v lam g (ix3 b p (⟨h.val * 128 + e.val, by omega⟩ : Fin 512)) =
      Attention.normed (fun j => ((attE (headRows Q b h) (headRows K b h) (headRows V b h) lamR p.val j : ℝ) : EReal)) (fun j => g (ix1 j)) e := by
  unfold result Attention.normed
  dsimp only
  rw [weigh_apply, root_apply, squares_apply]
  simp only [averages_real q k v Q K V hq hk hv lam lamR hl]
end

end Cert.Proof.AttentionReference
end
-- ==== Proof.AttnLaunch.lean ====
/-
  The attention call's launch, read as real arithmetic: what the host code hands the call, which entries of its operands a
  grid point's blocks hold, and the result array as one function of the arguments.
-/
module

public import proofs.«01_k».proof.Proof.Gen.Kernel2Ideal.Value
public import proofs.«01_k».proof.Proof.AttnBlock
public import proofs.«01_k».proof.Proof.AttnRef
public import Idealize.ShloMosaic.Lib.Pipeline.ValueKit
public import Idealize.ShloMosaic.Lib.Claim

@[expose] public section

noncomputable section

namespace Cert.Proof.AttentionLaunch

open Cert.Kernel2Ideal Cert.Kernel2Ideal.Gen Cert.Kernel2Ideal.Value
open Idealize.ShloMosaic Idealize.ShloMosaic.TcCoe
open Idealize.SL.Sem

variable (m : (ℓ : Loc nD τ sig) → Buf (Elt Ideal) ℓ)

/-! ## What the host code hands the call -/

theorem query_entry (c : Dev nD) (q : FVec Ideal S2x8192x512 .f32) (hq : m ((c : Thread nD τ).loc main_arg0) = q)
    (b : Fin 2) (p : Fin 8192) (e : Fin 512) :
    V m c main_v13 (ix3 b p e) = q (ix3 b p e)
      * Ideal.div (Ideal.ofBits .f32 0x3E000000#32) (Ideal.log (Ideal.ofBits .f32 0x40000000#32)) := by
  entry_read
  rw [hq]
  pointwise []

theorem key_entry (c : Dev nD) (b : Fin 2) (p : Fin 8192) (e : Fin 512) :
    V m c main_v14 (ix3 b p e) = m ((c : Thread nD τ).loc main_arg1) (ix3 b p e) := by
  entry_read
  pointwise []

theorem value_entry (c : Dev nD) (b : Fin 2) (p : Fin 8192) (e : Fin 512) :
    V m c main_v15 (ix3 b p e) = m ((c : Thread nD τ).loc main_arg2) (ix3 b p e) := by
  entry_read
  pointwise []

theorem weight_entry (c : Dev nD) (j : Fin 128) :
    V m c main_v16 (ix2 0 j) = m ((c : Thread nD τ).loc main_arg7) (ix1 j) := by
  entry_read
  pointwise []

theorem lambda_entry (c : Dev nD) :
    V m c main_v8 (ix1 0) = AttentionReference.lambdaOf (m ((c : Thread nD τ).loc main_arg3)) (m ((c : Thread nD τ).loc main_arg4))
      (m ((c : Thread nD τ).loc main_arg5)) (m ((c : Thread nD τ).loc main_arg6)) ix0 := by
  rw [AttentionReference.lambdaOf_apply]
  entry_read
  pointwise []

/-! ## The scale: an eighth over the logarithm of two -/

theorem scale_real : Ideal.div (Ideal.ofBits .f32 0x3E000000#32) (Ideal.log (Ideal.ofBits .f32 0x40000000#32)) =
    ((1 / 8 * (1 / Real.log 2) : ℝ) : EReal) := by
  have h2 : Ideal.ofBits .f32 0x40000000#32 = ((2 : ℝ) : EReal) := by
    simp [Ideal.ofBits, Ideal.ieee, -EReal.coe_mul]; norm_num
  rw [AttentionReference.eighth, h2, Ideal.log_coe, if_neg (by norm_num), Ideal.div_coe (Real.log_pos (by norm_num)).ne', ← EReal.coe_mul]

theorem rpow_exp (x : ℝ) : Real.rpow 2 (1 / Real.log 2 * x) = Real.exp x := by
  show (2 : ℝ) ^ (1 / Real.log 2 * x) = _
  have h : Real.log 2 ≠ 0 := (Real.log_pos (by norm_num)).ne'
  rw [Real.rpow_def_of_pos (by norm_num)]
  congr 1
  field_simp

/-- Scores in base two, of queries scaled by the base's logarithm, average as the plain scores do. -/
theorem att_eq (Q K W : ℕ → Fin 128 → ℝ) (lam : ℝ) (o r : ℕ) (j : Fin 128) :
    Attention.att (fun r d => Q (o + r) d * (1 / 8 * (1 / Real.log 2))) K W lam r (o + r) j =
      AttentionReference.attE Q K W lam (o + r) j := by
  have hs : ∀ (t : Fin 2) (c : ℕ), Attention.halfScore (fun r d => Q (o + r) d * (1 / 8 * (1 / Real.log 2))) K t r c =
      1 / Real.log 2 * (1 / 8 * Attention.halfScore Q K t (o + r) c) := by
    intro t c
    unfold Attention.halfScore
    rw [Finset.mul_sum, Finset.mul_sum]
    refine Finset.sum_congr rfl fun d _ => ?_
    ring
  unfold Attention.att AttentionReference.attE
  simp only [hs, rpow_exp]

/-! ## The blocks of a grid point -/

/-- Batch, head and query block of a grid point. -/
def batch (t : Fin cfg0.N) : Fin 2 := grid0.coords t 0
def head (t : Fin cfg0.N) : Fin 4 := grid0.coords t 1
def qblock (t : Fin cfg0.N) : Fin 8 := grid0.coords t 2

theorem idx : ∀ t : Fin cfg0.N, win0_0.index t = ![0] ∧ win0_1.index t = ![(batch t).val, (qblock t).val, (head t).val]
    ∧ win0_2.index t = ![(batch t).val, 0, (head t).val] ∧ win0_3.index t = ![(batch t).val, 0, (head t).val]
    ∧ win0_4.index t = ![0, 0] ∧ win0_5.index t = ![(batch t).val, (qblock t).val, (head t).val] :=
  (by decide +kernel : ∀ t : Fin grid0.N, _)

theorem block0 (c : Dev nD) (t : Fin cfg0.N) : (iblk m c 0 t : Vec Ideal S1 .f32) (ix1 0) = V m c main_v8 (ix1 0) := by
  blk_ext [iblk, idx t]

theorem block1 (c : Dev nD) (t : Fin cfg0.N) (r : Fin 1024) (d : Fin 128) :
    (iblk m c 1 t : Vec Ideal S1x1024x128 .bf16) (ix3 0 r d) =
      V m c main_v13 (ix3 (batch t) (⟨1024 * (qblock t).val + r.val, by have := (qblock t).isLt; omega⟩ : Fin 8192)
        (⟨(head t).val * 128 + d.val, by have := (head t).isLt; omega⟩ : Fin 512)) := by
  blk_ext [iblk, idx t]

theorem block2 (c : Dev nD) (t : Fin cfg0.N) (r : Fin 8192) (d : Fin 128) :
    (iblk m c 2 t : Vec Ideal S1x8192x128 .bf16) (ix3 0 r d) =
      V m c main_v14 (ix3 (batch t) r (⟨(head t).val * 128 + d.val, by have := (head t).isLt; omega⟩ : Fin 512)) := by
  blk_ext [iblk, idx t]

theorem block3 (c : Dev nD) (t : Fin cfg0.N) (r : Fin 8192) (d : Fin 128) :
    (iblk m c 3 t : Vec Ideal S1x8192x128 .bf16) (ix3 0 r d) =
      V m c main_v15 (ix3 (batch t) r (⟨(head t).val * 128 + d.val, by have := (head t).isLt; omega⟩ : Fin 512)) := by
  blk_ext [iblk, idx t]

theorem block4 (c : Dev nD) (t : Fin cfg0.N) (d : Fin 128) :
    (iblk m c 4 t : Vec Ideal S1x128 .f32) (ix2 0 d) = V m c main_v16 (ix2 0 d) := by
  blk_ext [iblk, idx t]

theorem place5 (t : Fin cfg0.N) (r : Fin 1024) (d : Fin 128) :
    ((cfg0.win 5).blk t).view.emb (ix3 0 r d : S1x1024x128.Idx) =
      (ix3 (batch t) (⟨1024 * (qblock t).val + r.val, by have := (qblock t).isLt; omega⟩ : Fin 8192)
        (⟨(head t).val * 128 + d.val, by have := (head t).isLt; omega⟩ : Fin 512) : S2x8192x512.Idx) := by
  blk_ext [idx t]

/-! ## The result array -/

/-- What a grid point writes back. -/
theorem flushed_eq (c : Dev nD) (t : Fin cfg0.N) :
    (dats m 0 c).flushed 5 t = (cfg0.win 5).cut (grid0.coords t)
      (Attention.outBlock (qblock t).val (iblk m c 0 t) (iblk m c 1 t) (iblk m c 2 t) (iblk m c 3 t) (iblk m c 4 t)) := by
  by_cases h0 : t.val % 2 = 1
  · rw [flushed5_B m c t h0, Attention.out_B]
    rfl
  · rw [flushed5_A m c t h0, Attention.out_A]
    rfl

/-- The call's result, of real queries, keys and values and a real weight: the reference's. -/
theorem final (c : Dev nD) (Q K W : Fin 2 → Fin 8192 → Fin 512 → ℝ)
    (hq : ∀ b p e, (m ((c : Thread nD τ).loc main_arg0) : FVec Ideal S2x8192x512 .f32) (ix3 b p e) = ((Q b p e : ℝ) : EReal))
    (hk : ∀ b p e, (m ((c : Thread nD τ).loc main_arg1) : FVec Ideal S2x8192x512 .f32) (ix3 b p e) = ((K b p e : ℝ) : EReal))
    (hv : ∀ b p e, (m ((c : Thread nD τ).loc main_arg2) : FVec Ideal S2x8192x512 .f32) (ix3 b p e) = ((W b p e : ℝ) : EReal))
    (lam : ℝ) (hl : AttentionReference.lambdaOf (m ((c : Thread nD τ).loc main_arg3)) (m ((c : Thread nD τ).loc main_arg4))
      (m ((c : Thread nD τ).loc main_arg5)) (m ((c : Thread nD τ).loc main_arg6)) ix0 = ((lam : ℝ) : EReal)) :
    (dats m 0 c).arrAt 5 cfg0.N =
      AttentionReference.result (m ((c : Thread nD τ).loc main_arg0)) (m ((c : Thread nD τ).loc main_arg1))
        (m ((c : Thread nD τ).loc main_arg2))
        (AttentionReference.lambdaOf (m ((c : Thread nD τ).loc main_arg3)) (m ((c : Thread nD τ).loc main_arg4))
          (m ((c : Thread nD τ).loc main_arg5)) (m ((c : Thread nD τ).loc main_arg6)))
        (m ((c : Thread nD τ).loc main_arg7)) := by
  refine (dats m 0 c).arrAt_eq_of_covers 5 _ (by decide +kernel) fun t hf y => ?_
  refine (congrFun (flushed_eq m c t) y).trans ?_
  obtain ⟨r, d, rfl⟩ : ∃ (r : Fin 1024) (d : Fin 128), y = (ix3 0 r d : S1x1024x128.Idx) :=
    ⟨y 1, y 2, funext fun a => by
      match a with
      | ⟨0, _⟩ => exact Fin.ext (Nat.lt_one_iff.1 (y 0).isLt)
      | ⟨1, _⟩ => rfl
      | ⟨2, _⟩ => rfl⟩
  rw [place5]
  refine Eq.trans ?_ (AttentionReference.result_apply _ _ _ Q K W hq hk hv _ lam hl _ (batch t) (head t) _ d).symm
  refine (Attention.outBlock_apply (iblk m c 1 t) (iblk m c 2 t) (iblk m c 3 t)
    (fun r d => AttentionReference.headRows Q (batch t) (head t) (1024 * (qblock t).val + r) d * (1 / 8 * (1 / Real.log 2)))
    (AttentionReference.headRows K (batch t) (head t)) (AttentionReference.headRows W (batch t) (head t)) ?_ ?_ ?_
    (qblock t).val (qblock t).isLt (iblk m c 0 t) lam ?_ (iblk m c 4 t) r d).trans ?_
  · intro r d
    have h := AttentionReference.headRows_val Q (batch t) (head t) (⟨1024 * (qblock t).val + r.val, by have := (qblock t).isLt; omega⟩ : Fin 8192) d
    dsimp only at h
    rw [block1, query_entry m c _ rfl, hq, scale_real, ← EReal.coe_mul, h]
  · intro r d
    rw [block2, key_entry, AttentionReference.headRows_val]
    exact hk _ _ _
  · intro r d
    rw [block3, value_entry, AttentionReference.headRows_val]
    exact hv _ _ _
  · rw [block0, lambda_entry]
    exact hl
  · simp only [att_eq, block4]
    exact congrArg (fun w => Attention.normed _ w d) (funext fun k => weight_entry m c k)

end Cert.Proof.AttentionLaunch
end
-- ==== Proof.InprojRef.lean ====
/-
  The input projection as real arithmetic: one row normalised by its mean square and modulated, its products with the
  weight's columns, and the four results as functions of the arguments. The reference's run leaves exactly these.
-/
module

public import proofs.«01_k».proof.Proof.Gen.Reference3Ideal.Run
public import Idealize.ShloMosaic.Lib.Pointwise
public import Idealize.ShloMosaic.PureOps.Ideal

@[expose] public section

noncomputable section

namespace Cert.Proof.ProjectionReference

open Cert.Reference3Ideal Cert.Reference3Ideal.Gen
open Idealize.ShloMosaic Idealize.ShloMosaic.TcCoe Idealize.ShloMosaic.StableHlo
open Idealize.SL.Sem

/-- One row, normalised by the root of its mean square, weighted, scaled and shifted. -/
def hidden (x g scale shift : Fin 1024 → EReal) (e : Fin 1024) : EReal :=
  x e * Ideal.rsqrt (Ideal.div (∑ j, x j * x j) (Ideal.ofBits .f32 0x44800000#32) + Ideal.ofBits .f32 0x358637BD#32)
    * g e * (1 + scale e) + shift e

/-- Entry `o` of the projection of row `p` of batch `b`. -/
def projected (x : FVec Ideal S2x8192x1024 .f32) (a : FVec Ideal S2x6144 .f32) (g : FVec Ideal S1024 .f32)
    (w : FVec Ideal S1024x2048 .f32) (b : Fin 2) (p : Fin 8192) (o : Fin 2048) : EReal :=
  ∑ e, hidden (fun e => x (ix3 b p e)) (fun e => g (ix1 e))
    (fun e => a (ix2 b (⟨1024 + e.val, by have := e.isLt; omega⟩ : Fin 6144)))
    (fun e => a (ix2 b (⟨e.val, by have := e.isLt; omega⟩ : Fin 6144))) e * w (ix2 e o)

def queries (x : FVec Ideal S2x8192x1024 .f32) (a : FVec Ideal S2x6144 .f32) (g : FVec Ideal S1024 .f32)
    (w : FVec Ideal S1024x2048 .f32) : FVec Ideal S2x8192x512 .bf16 := fun i =>
  projected x a g w (i 0) (i 1) (⟨(i 2).val, by have : (i 2).val < 512 := (i 2).isLt; omega⟩ : Fin 2048)
    * ((1 / 8 * (Real.log 2)⁻¹ : ℝ) : EReal)

def keys (x : FVec Ideal S2x8192x1024 .f32) (a : FVec Ideal S2x6144 .f32) (g : FVec Ideal S1024 .f32)
    (w : FVec Ideal S1024x2048 .f32) : FVec Ideal S2x8192x512 .bf16 := fun i =>
  projected x a g w (i 0) (i 1) (⟨512 + (i 2).val, by have : (i 2).val < 512 := (i 2).isLt; omega⟩ : Fin 2048)

def values (x : FVec Ideal S2x8192x1024 .f32) (a : FVec Ideal S2x6144 .f32) (g : FVec Ideal S1024 .f32)
    (w : FVec Ideal S1024x2048 .f32) : FVec Ideal S2x8192x512 .bf16 := fun i =>
  projected x a g w (i 0) (i 1) (⟨1024 + (i 2).val, by have : (i 2).val < 512 := (i 2).isLt; omega⟩ : Fin 2048)

/-- The state space part's input, its rows running along the sequence. -/
def inputs (x : FVec Ideal S2x8192x1024 .f32) (a : FVec Ideal S2x6144 .f32) (g : FVec Ideal S1024 .f32)
    (w : FVec Ideal S1024x2048 .f32) : FVec Ideal S2x512x8192 .f32 := fun i =>
  projected x a g w (i 0) (i 2) (⟨1536 + (i 1).val, by have : (i 1).val < 512 := (i 1).isLt; omega⟩ : Fin 2048)

theorem scale_eq (y : EReal) : Ideal.div (y * Ideal.ofBits .f32 0x3E000000#32) (Ideal.log (Ideal.ofBits .f32 0x40000000#32)) =
    y * ((1 / 8 * (Real.log 2)⁻¹ : ℝ) : EReal) := by
  have h2 : Ideal.ofBits .f32 0x40000000#32 = ((2 : ℝ) : EReal) := by
    simp [Ideal.ofBits, Ideal.ieee, -EReal.coe_mul]; norm_num
  have h8 : Ideal.ofBits .f32 0x3E000000#32 = ((1 / 8 : ℝ) : EReal) := by
    simp [Ideal.ofBits, Ideal.ieee, -EReal.coe_mul]; norm_num
  rw [h8, h2, Ideal.log_coe, if_neg (by norm_num), Ideal.div_coe (Real.log_pos (by norm_num)).ne', one_div (Real.log 2), EReal.coe_mul, mul_assoc]

section
variable (x : FVec Ideal S2x8192x1024 .f32) (a : FVec Ideal S2x6144 .f32) (g : FVec Ideal S1024 .f32)
    (w : FVec Ideal S1024x2048 .f32)

/-- The whole projection, as the reference's operations compose it. -/
def whole : FVec Ideal S2x8192x2048 .f32 :=
  Host.dotGeneral dot_S2x8192x1024_S1024x2048_S2x8192x2048_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] a slices_S2x6144_S2x1024_0_1024))))) (broadcastInDim S2x8192x1024 ![0, 1, 2] bcast_S2x1x1024_S2x8192x1024_0_1_2 (broadcastInDim S2x1x1024 ![0, 2] bcast_S2x1024_S2x1x1024_0_2 (extractStridedSlice S2x1024 ![0, 0] a slices_S2x6144_S2x1024_0_0)))) w

theorem whole_apply (b : Fin 2) (p : Fin 8192) (o : Fin 2048) : whole x a g w (ix3 b p o) = projected x a g w b p o := by
  pointwise [whole]
  rfl

theorem queries_eq : truncf .bf16 (Host.divf (mulf (extractStridedSlice S2x8192x512 ![0, 0, 0] (whole x a g w) slices_S2x8192x2048_S2x8192x512_0_0_0) (broadcastInDim S2x8192x512 ![] bcast_S_S2x8192x512 (constant S_ .f32 0x3E000000#32))) (broadcastInDim S2x8192x512 ![] bcast_S_S2x8192x512 (Host.log (constant S_ .f32 0x40000000#32)))) bitsLt_bf16_f32 = queries x a g w := by
  funext i
  obtain ⟨b, p, e, rfl⟩ : ∃ (b : Fin 2) (p : Fin 8192) (e : Fin 512), i = ix3 b p e :=
    ⟨i 0, i 1, i 2, funext fun k => by
      match k with
      | ⟨0, _⟩ => rfl
      | ⟨1, _⟩ => rfl
      | ⟨2, _⟩ => rfl⟩
  pointwise []
  simp only [whole_apply, scale_eq]
  rfl

theorem keys_eq : truncf .bf16 (extractStridedSlice S2x8192x512 ![0, 0, 512] (whole x a g w) slices_S2x8192x2048_S2x8192x512_0_0_512) bitsLt_bf16_f32 = keys x a g w := by
  funext i
  obtain ⟨b, p, e, rfl⟩ : ∃ (b : Fin 2) (p : Fin 8192) (e : Fin 512), i = ix3 b p e :=
    ⟨i 0, i 1, i 2, funext fun k => by
      match k with
      | ⟨0, _⟩ => rfl
      | ⟨1, _⟩ => rfl
      | ⟨2, _⟩ => rfl⟩
  pointwise []
  simp only [whole_apply, scale_eq]
  rfl

theorem values_eq : truncf .bf16 (extractStridedSlice S2x8192x512 ![0, 0, 1024] (whole x a g w) slices_S2x8192x2048_S2x8192x512_0_0_1024) bitsLt_bf16_f32 = values x a g w := by
  funext i
  obtain ⟨b, p, e, rfl⟩ : ∃ (b : Fin 2) (p : Fin 8192) (e : Fin 512), i = ix3 b p e :=
    ⟨i 0, i 1, i 2, funext fun k => by
      match k with
      | ⟨0, _⟩ => rfl
      | ⟨1, _⟩ => rfl
      | ⟨2, _⟩ => rfl⟩
  pointwise []
  simp only [whole_apply, scale_eq]
  rfl

theorem inputs_eq : transpose S2x512x8192 [0, 2, 1] (extractStridedSlice S2x8192x512 ![0, 0, 1536] (whole x a g w) slices_S2x8192x2048_S2x8192x512_0_0_1536) transposes_S2x8192x512_S2x512x8192_0_2_1 = inputs x a g w := by
  funext i
  obtain ⟨b, p, e, rfl⟩ : ∃ (b : Fin 2) (p : Fin 512) (e : Fin 8192), i = ix3 b p e :=
    ⟨i 0, i 1, i 2, funext fun k => by
      match k with
      | ⟨0, _⟩ => rfl
      | ⟨1, _⟩ => rfl
      | ⟨2, _⟩ => rfl⟩
  pointwise []
  simp only [whole_apply, scale_eq]
  rfl
end

end Cert.Proof.ProjectionReference
end
-- ==== Proof.InprojLaunch.lean ====
/-
  The input projection's launch: what a grid point's body computes from its blocks, which entries of the arguments those
  blocks hold, and the four result arrays as functions of the arguments.
-/
module

public import proofs.«01_k».proof.Proof.Gen.Kernel3Ideal.Value
public import proofs.«01_k».proof.Proof.InprojRef
public import Idealize.ShloMosaic.Lib.Pipeline.ValueKit
public import Idealize.ShloMosaic.Lib.Claim

@[expose] public section

noncomputable section

namespace Cert.Proof.ProjectionLaunch

open Cert.Kernel3Ideal Cert.Kernel3Ideal.Gen Cert.Kernel3Ideal.Value
open Idealize.ShloMosaic Idealize.ShloMosaic.TcCoe
open Idealize.SL.Sem
open Cert.Proof.ProjectionReference (hidden projected queries keys values inputs)

/-! ## The body's results, of the blocks it loads -/

section
variable (x : FVec Ideal S1x512x1024 .f32) (a : FVec Ideal S1x6x1024 .f32) (g : FVec Ideal S1x1024 .f32)
  (w : FVec Ideal S1024x1536 .bf16) (wu : FVec Ideal S512x1024 .bf16)

/-- Row `r` of a block, normalised and modulated. -/
def row (r : Fin 512) (e : Fin 1024) : EReal :=
  hidden (fun e => x (ix3 0 r e)) (fun e => g (ix2 0 e)) (fun e => a (ix3 0 1 e)) (fun e => a (ix3 0 0 e)) e

theorem row_eq (r : Fin 512) (e : Fin 1024) :
    k0_pay5 (F := Ideal) (View.ld x r0_0) (View.ld g r0_1) (View.ld a r0_2) (View.ld a r0_3) (ix2 r e) = row x a g r e := by
  pointwise [k0_pay5]
  rfl

theorem product (r : Fin 512) (d : Fin 1536) :
    k0_pay6 (F := Ideal) (View.ld x r0_0) (View.ld g r0_1) (View.ld a r0_2) (View.ld a r0_3) (View.ld w r0_4) (ix2 r d) =
      ∑ e, row x a g r e * w (ix2 e d) := by
  pointwise [k0_pay6]
  exact Finset.sum_congr rfl fun e _ => congrArg (· * w (ix2 e d)) (row_eq x a g r e)

theorem z3 : (![0, 0, 0] : Fin 3 → ℕ) = 0 := by decide

theorem out5 (r d : Fin 512) : out0_5 (F := Ideal) x a g w wu (ix3 0 r d) =
    (∑ e, row x a g r e * w (ix2 e (⟨d.val, by have := d.isLt; omega⟩ : Fin 1536))) * ((1 / 8 * (Real.log 2)⁻¹ : ℝ) : EReal) := by
  unfold out0_5
  rw [View.canon_cons_unit_zero z3]
  pointwise [k0_pay1, k0_pay7]
  rw [product]
  rfl

theorem out6 (r d : Fin 512) : out0_6 (F := Ideal) x a g w wu (ix3 0 r d) =
    ∑ e, row x a g r e * w (ix2 e (⟨512 + d.val, by have := d.isLt; omega⟩ : Fin 1536)) := by
  unfold out0_6
  rw [View.canon_cons_unit_zero z3]
  pointwise [k0_pay2, k0_pay8]
  exact product x a g w r _

theorem out7 (r d : Fin 512) : out0_7 (F := Ideal) x a g w wu (ix3 0 r d) =
    ∑ e, row x a g r e * w (ix2 e (⟨1024 + d.val, by have := d.isLt; omega⟩ : Fin 1536)) := by
  unfold out0_7
  rw [View.canon_cons_unit_zero z3]
  pointwise [k0_pay3, k0_pay8]
  exact product x a g w r _

theorem out8 (d r : Fin 512) : out0_8 (F := Ideal) x a g w wu (ix3 0 d r) = ∑ e, row x a g r e * wu (ix2 d e) := by
  unfold out0_8
  rw [View.canon_cons_unit_zero z3]
  pointwise [k0_pay4]
  exact Finset.sum_congr rfl fun e _ => (congrArg (wu (ix2 d e) * ·) (row_eq x a g r e)).trans (mul_comm _ _)

end

variable (m : (ℓ : Loc nD τ sig) → Buf (Elt Ideal) ℓ)

/-! ## What the host code hands the call -/

theorem modulation_entry (c : Dev nD) (b : Fin 2) (k : Fin 6) (e : Fin 1024) : V m c main_v0 (ix3 b k e) =
    m ((c : Thread nD τ).loc main_arg1) (ix2 b (⟨k.val * 1024 + e.val, by have := k.isLt; have := e.isLt; omega⟩ : Fin 6144)) := by
  entry_read
  pointwise []

theorem weight_entry (c : Dev nD) (e : Fin 1024) (d : Fin 1536) : V m c main_v2 (ix2 e d) =
    m ((c : Thread nD τ).loc main_arg3) (ix2 e (⟨d.val, by have := d.isLt; omega⟩ : Fin 2048)) := by
  entry_read
  pointwise []

theorem turned_entry (c : Dev nD) (d : Fin 512) (e : Fin 1024) : V m c main_v5 (ix2 d e) =
    m ((c : Thread nD τ).loc main_arg3) (ix2 e (⟨1536 + d.val, by have := d.isLt; omega⟩ : Fin 2048)) := by
  entry_read
  pointwise []

theorem gain_entry (c : Dev nD) (e : Fin 1024) : V m c main_v6 (ix2 0 e) = m ((c : Thread nD τ).loc main_arg2) (ix1 e) := by
  entry_read
  pointwise []

/-! ## The blocks of a grid point -/

/-- Batch and row block of a grid point. -/
def batch (t : Fin cfg0.N) : Fin 2 := grid0.coords t 0
def tile (t : Fin cfg0.N) : Fin 16 := grid0.coords t 1

/-- Row `r` of a grid point's row block, in the whole sequence. -/
def place (t : Fin cfg0.N) (r : Fin 512) : Fin 8192 := ⟨512 * (tile t).val + r.val, by have := (tile t).isLt; omega⟩

theorem idx : ∀ t : Fin cfg0.N, win0_0.index t = ![(batch t).val, (tile t).val, 0] ∧ win0_1.index t = ![(batch t).val, 0, 0]
    ∧ win0_2.index t = ![0, 0] ∧ win0_3.index t = ![0, 0] ∧ win0_4.index t = ![0, 0]
    ∧ win0_5.index t = ![(batch t).val, (tile t).val, 0] ∧ win0_6.index t = ![(batch t).val, (tile t).val, 0]
    ∧ win0_7.index t = ![(batch t).val, (tile t).val, 0] ∧ win0_8.index t = ![(batch t).val, 0, (tile t).val] :=
  (by decide +kernel : ∀ t : Fin grid0.N, _)

theorem block0 (c : Dev nD) (t : Fin cfg0.N) (r : Fin 512) (e : Fin 1024) :
    (iblk m c 0 t : Vec Ideal S1x512x1024 .f32) (ix3 0 r e) = V m c main_arg0 (ix3 (batch t) (place t r) e) := by
  unfold place
  blk_ext [iblk, idx t]

theorem block1 (c : Dev nD) (t : Fin cfg0.N) (k : Fin 6) (e : Fin 1024) :
    (iblk m c 1 t : Vec Ideal S1x6x1024 .f32) (ix3 0 k e) = V m c main_v0 (ix3 (batch t) k e) := by
  blk_ext [iblk, idx t]

theorem block2 (c : Dev nD) (t : Fin cfg0.N) (e : Fin 1024) :
    (iblk m c 2 t : Vec Ideal S1x1024 .f32) (ix2 0 e) = V m c main_v6 (ix2 0 e) := by
  blk_ext [iblk, idx t]

theorem block3 (c : Dev nD) (t : Fin cfg0.N) (e : Fin 1024) (d : Fin 1536) :
    (iblk m c 3 t : Vec Ideal S1024x1536 .bf16) (ix2 e d) = V m c main_v2 (ix2 e d) := by
  blk_ext [iblk, idx t]

theorem block4 (c : Dev nD) (t : Fin cfg0.N) (d : Fin 512) (e : Fin 1024) :
    (iblk m c 4 t : Vec Ideal S512x1024 .bf16) (ix2 d e) = V m c main_v5 (ix2 d e) := by
  blk_ext [iblk, idx t]

theorem place5 (t : Fin cfg0.N) (r d : Fin 512) : ((cfg0.win 5).blk t).view.emb (ix3 0 r d : S1x512x512.Idx) =
    (ix3 (batch t) (place t r) d : S2x8192x512.Idx) := by
  unfold place
  blk_ext [idx t]

theorem place6 (t : Fin cfg0.N) (r d : Fin 512) : ((cfg0.win 6).blk t).view.emb (ix3 0 r d : S1x512x512.Idx) =
    (ix3 (batch t) (place t r) d : S2x8192x512.Idx) := by
  unfold place
  blk_ext [idx t]

theorem place7 (t : Fin cfg0.N) (r d : Fin 512) : ((cfg0.win 7).blk t).view.emb (ix3 0 r d : S1x512x512.Idx) =
    (ix3 (batch t) (place t r) d : S2x8192x512.Idx) := by
  unfold place
  blk_ext [idx t]

theorem place8 (t : Fin cfg0.N) (d r : Fin 512) : ((cfg0.win 8).blk t).view.emb (ix3 0 d r : S1x512x512.Idx) =
    (ix3 (batch t) d (place t r) : S2x512x8192.Idx) := by
  unfold place
  blk_ext [idx t]

/-! ## The result arrays -/

theorem index_eq (y : S1x512x512.Idx) : ∃ r d : Fin 512, y = ix3 0 r d :=
  ⟨y 1, y 2, funext fun k => by
    match k with
    | ⟨0, _⟩ => exact Fin.ext (Nat.lt_one_iff.1 (y 0).isLt)
    | ⟨1, _⟩ => rfl
    | ⟨2, _⟩ => rfl⟩

section
variable (c : Dev nD) (x : FVec Ideal S2x8192x1024 .f32) (a : FVec Ideal S2x6144 .f32) (g : FVec Ideal S1024 .f32)
  (w : FVec Ideal S1024x2048 .f32) (hx : m ((c : Thread nD τ).loc main_arg0) = x) (ha : m ((c : Thread nD τ).loc main_arg1) = a)
  (hg : m ((c : Thread nD τ).loc main_arg2) = g) (hw : m ((c : Thread nD τ).loc main_arg3) = w)
include hx ha hg

theorem row_block (t : Fin cfg0.N) (r : Fin 512) (e : Fin 1024) :
    row (iblk m c 0 t) (iblk m c 1 t) (iblk m c 2 t) r e =
      hidden (fun e => x (ix3 (batch t) (place t r) e)) (fun e => g (ix1 e))
        (fun e => a (ix2 (batch t) (⟨1024 + e.val, by have := e.isLt; omega⟩ : Fin 6144)))
        (fun e => a (ix2 (batch t) (⟨e.val, by have := e.isLt; omega⟩ : Fin 6144))) e := by
  subst hx ha hg
  unfold row
  congr 1
  · funext e; exact block0 m c t r e
  · funext e; exact (block2 m c t e).trans (gain_entry m c e)
  · funext e; exact (block1 m c t 1 e).trans ((modulation_entry m c _ 1 e).trans rfl)
  · funext e; exact (block1 m c t 0 e).trans ((modulation_entry m c _ 0 e).trans (by simp))

include hw

theorem weight_block (t : Fin cfg0.N) (e : Fin 1024) (d : Fin 1536) :
    (iblk m c 3 t : FVec Ideal S1024x1536 .bf16) (ix2 e d) = w (ix2 e (⟨d.val, by have := d.isLt; omega⟩ : Fin 2048)) := by
  subst hw
  exact (block3 m c t e d).trans (weight_entry m c e d)

theorem turned_block (t : Fin cfg0.N) (d : Fin 512) (e : Fin 1024) :
    (iblk m c 4 t : FVec Ideal S512x1024 .bf16) (ix2 d e) = w (ix2 e (⟨1536 + d.val, by have := d.isLt; omega⟩ : Fin 2048)) := by
  subst hw
  exact (block4 m c t d e).trans (turned_entry m c d e)

theorem final5 : (dats m 0 c).arrAt 5 cfg0.N = queries x a g w := by
  refine (dats m 0 c).arrAt_eq_of_covers 5 _ (by decide +kernel) fun t hf y => ?_
  refine (congrFun (flushed5 m c t) y).trans ?_
  obtain ⟨r, d, rfl⟩ := index_eq y
  rw [place5]
  refine (out5 (iblk m c 0 t) (iblk m c 1 t) (iblk m c 2 t) (iblk m c 3 t) (iblk m c 4 t) r d).trans ?_
  simp only [row_block m c x a g hx ha hg, weight_block m c x a g w hx ha hg hw]
  rfl

theorem final6 : (dats m 0 c).arrAt 6 cfg0.N = keys x a g w := by
  refine (dats m 0 c).arrAt_eq_of_covers 6 _ (by decide +kernel) fun t hf y => ?_
  refine (congrFun (flushed6 m c t) y).trans ?_
  obtain ⟨r, d, rfl⟩ := index_eq y
  rw [place6]
  refine (out6 (iblk m c 0 t) (iblk m c 1 t) (iblk m c 2 t) (iblk m c 3 t) (iblk m c 4 t) r d).trans ?_
  simp only [row_block m c x a g hx ha hg, weight_block m c x a g w hx ha hg hw]
  rfl

theorem final7 : (dats m 0 c).arrAt 7 cfg0.N = values x a g w := by
  refine (dats m 0 c).arrAt_eq_of_covers 7 _ (by decide +kernel) fun t hf y => ?_
  refine (congrFun (flushed7 m c t) y).trans ?_
  obtain ⟨r, d, rfl⟩ := index_eq y
  rw [place7]
  refine (out7 (iblk m c 0 t) (iblk m c 1 t) (iblk m c 2 t) (iblk m c 3 t) (iblk m c 4 t) r d).trans ?_
  simp only [row_block m c x a g hx ha hg, weight_block m c x a g w hx ha hg hw]
  rfl

theorem final8 : (dats m 0 c).arrAt 8 cfg0.N = inputs x a g w := by
  refine (dats m 0 c).arrAt_eq_of_covers 8 _ (by decide +kernel) fun t hf y => ?_
  refine (congrFun (flushed8 m c t) y).trans ?_
  obtain ⟨d, r, rfl⟩ := index_eq y
  rw [place8]
  refine (out8 (iblk m c 0 t) (iblk m c 1 t) (iblk m c 2 t) (iblk m c 3 t) (iblk m c 4 t) d r).trans ?_
  simp only [row_block m c x a g hx ha hg, turned_block m c x a g w hx ha hg hw]
  rfl

end

end Cert.Proof.ProjectionLaunch
end
-- ==== Proof.FinalRef.lean ====
/-
  The block's last step as real arithmetic: the packed features of a row, the chosen experts' weighted outputs, the shared
  expert, the gated residual and the final normalisation. The reference's run leaves exactly this.
-/
module

public import proofs.«01_k».proof.Proof.Gen.Reference4Ideal.Run
public import Idealize.ShloMosaic.Lib.Pointwise
public import Idealize.ShloMosaic.Lib.BitcastConvert
public import Idealize.ShloMosaic.PureOps.Ideal

@[expose] public section

noncomputable section

namespace Cert.Proof.FinalReference

open Cert.Reference4Ideal Cert.Reference4Ideal.Gen
open Idealize.ShloMosaic Idealize.ShloMosaic.TcCoe Idealize.ShloMosaic.StableHlo
open Idealize.SL.Sem

/-- The value in the low half of a word, and the one in its high half. -/
def low (u : BitVec 32) : EReal := Ideal.ofBits .bf16 (u.extractLsb' 0 16)
def high (u : BitVec 32) : EReal := Ideal.ofBits .bf16 (u.extractLsb' 16 16)

/-- Feature `e` of a packed row: the low halves of both planes, then the high halves. -/
def feature (u : Fin 2 → Fin 256 → BitVec 32) (e : Fin 1024) : EReal :=
  if h : e.val < 256 then low (u 0 ⟨e.val, h⟩)
  else if h : e.val - 256 < 256 then low (u 1 ⟨e.val - 256, h⟩)
  else if h : e.val - 256 - 256 < 256 then high (u 0 ⟨e.val - 256 - 256, h⟩)
  else high (u 1 ⟨e.val - 256 - 256 - 256, by have := e.isLt; omega⟩)

/-- Entry `j` of a packed row's product with a weight. -/
def product (u : Fin 2 → Fin 256 → BitVec 32) (w : Fin 1024 → Fin 256 → EReal) (j : Fin 256) : EReal := ∑ e, feature u e * w e j

/-- The shared expert's output. -/
def shared (u : Fin 2 → Fin 256 → BitVec 32) (wg wu : Fin 1024 → Fin 256 → EReal) (wd : Fin 256 → Fin 1024 → EReal) (e : Fin 1024) : EReal :=
  ∑ j, product u wg j * Ideal.div 1 (1 + Ideal.exp (-product u wg j)) * product u wu j * wd j e

/-- The chosen experts' outputs, weighted. -/
def routed (v : Fin 8 → Fin 2 → Fin 256 → BitVec 32) (w : Fin 8 → EReal) (e : Fin 1024) : EReal := ∑ k, feature (v k) e * w k

/-- A row after the gated residual. -/
def residual (x gate : Fin 1024 → EReal) (u : Fin 2 → Fin 256 → BitVec 32) (v : Fin 8 → Fin 2 → Fin 256 → BitVec 32) (w : Fin 8 → EReal)
    (wg wu : Fin 1024 → Fin 256 → EReal) (wd : Fin 256 → Fin 1024 → EReal) (e : Fin 1024) : EReal :=
  x e + gate e * (routed v w e + shared u wg wu wd e)

/-- A row normalised by the root of its mean square and weighted. -/
def normed (x g : Fin 1024 → EReal) (e : Fin 1024) : EReal :=
  x e * Ideal.rsqrt (Ideal.div (∑ j, x j * x j) (Ideal.ofBits .f32 0x44800000#32) + Ideal.ofBits .f32 0x358637BD#32) * g e

/-- Feature `e` of the block's result at position `p` of batch `b`, as a function of its last step's arguments. -/
def resultAt (x : FVec Ideal S2x8192x1024 .f32) (h : IVec S2x2x8192x256 32) (r : IVec S2x8x16384x256 32) (w : FVec Ideal S2x8x8192 .f32)
    (a : FVec Ideal S2x6144 .f32) (g : FVec Ideal S1024 .f32) (wg wu : FVec Ideal S1024x256 .f32) (wd : FVec Ideal S256x1024 .f32)
    (b : Fin 2) (p : Fin 8192) (e : Fin 1024) : EReal :=
  normed (residual (fun e => x (ix3 b p e)) (fun e => a (ix2 b (⟨5120 + e.val, by have := e.isLt; omega⟩ : Fin 6144)))
    (fun n d => h (ix4 n b p d))
    (fun k n d => r (ix4 n k (⟨b.val * 8192 + p.val, by have := b.isLt; have := p.isLt; omega⟩ : Fin 16384) d))
    (fun k => w (ix3 b k p)) (fun e j => wg (ix2 e j)) (fun e j => wu (ix2 e j)) (fun j e => wd (ix2 j e))) (fun e => g (ix1 e)) e

def result (x : FVec Ideal S2x8192x1024 .f32) (h : IVec S2x2x8192x256 32) (r : IVec S2x8x16384x256 32) (w : FVec Ideal S2x8x8192 .f32)
    (a : FVec Ideal S2x6144 .f32) (g : FVec Ideal S1024 .f32) (wg wu : FVec Ideal S1024x256 .f32) (wd : FVec Ideal S256x1024 .f32) :
    FVec Ideal S2x8192x1024 .f32 := fun i => resultAt x h r w a g wg wu wd (i 0) (i 1) (i 2)

/-- The reference's reading of the tokens' packed rows. -/
def tokenRows (words : IVec S2x2x8192x256 32) : FVec Ideal S2x8192x1024 .f32 :=
  ((concatenate S2x8192x1024 2 [⟨S2x8192x256, ((shapeCast _ (extractStridedSlice S1x2x8192x256 ![0, 0, 0, 0] (shapeCast _ (extractStridedSlice S2x2x8192x256x1 ![0, 0, 0, 0, 0] (extf .f32 (bitcastToFloat (F := Ideal) .bf16 (Host.bitcastConvertNarrow S2x2x8192x256x2 16 words splits_S2x2x8192x256_w32_S2x2x8192x256x2_w16)) bitsLt_bf16_f32) slices_S2x2x8192x256x2_S2x2x8192x256x1_0_0_0_0_0) shapeCasts_S2x2x8192x256x1_S2x2x8192x256) slices_S2x2x8192x256_S1x2x8192x256_0_0_0_0) shapeCasts_S1x2x8192x256_S2x8192x256) : (⟨S2x8192x256, .f32⟩ : BufTy).Contents (Elt Ideal))⟩, ⟨S2x8192x256, ((shapeCast _ (extractStridedSlice S1x2x8192x256 ![1, 0, 0, 0] (shapeCast _ (extractStridedSlice S2x2x8192x256x1 ![0, 0, 0, 0, 0] (extf .f32 (bitcastToFloat (F := Ideal) .bf16 (Host.bitcastConvertNarrow S2x2x8192x256x2 16 words splits_S2x2x8192x256_w32_S2x2x8192x256x2_w16)) bitsLt_bf16_f32) slices_S2x2x8192x256x2_S2x2x8192x256x1_0_0_0_0_0) shapeCasts_S2x2x8192x256x1_S2x2x8192x256) slices_S2x2x8192x256_S1x2x8192x256_1_0_0_0) shapeCasts_S1x2x8192x256_S2x8192x256) : (⟨S2x8192x256, .f32⟩ : BufTy).Contents (Elt Ideal))⟩, ⟨S2x8192x256, ((shapeCast _ (extractStridedSlice S1x2x8192x256 ![0, 0, 0, 0] (shapeCast _ (extractStridedSlice S2x2x8192x256x1 ![0, 0, 0, 0, 1] (extf .f32 (bitcastToFloat (F := Ideal) .bf16 (Host.bitcastConvertNarrow S2x2x8192x256x2 16 words splits_S2x2x8192x256_w32_S2x2x8192x256x2_w16)) bitsLt_bf16_f32) slices_S2x2x8192x256x2_S2x2x8192x256x1_0_0_0_0_1) shapeCasts_S2x2x8192x256x1_S2x2x8192x256) slices_S2x2x8192x256_S1x2x8192x256_0_0_0_0) shapeCasts_S1x2x8192x256_S2x8192x256) : (⟨S2x8192x256, .f32⟩ : BufTy).Contents (Elt Ideal))⟩, ⟨S2x8192x256, ((shapeCast _ (extractStridedSlice S1x2x8192x256 ![1, 0, 0, 0] (shapeCast _ (extractStridedSlice S2x2x8192x256x1 ![0, 0, 0, 0, 1] (extf .f32 (bitcastToFloat (F := Ideal) .bf16 (Host.bitcastConvertNarrow S2x2x8192x256x2 16 words splits_S2x2x8192x256_w32_S2x2x8192x256x2_w16)) bitsLt_bf16_f32) slices_S2x2x8192x256x2_S2x2x8192x256x1_0_0_0_0_1) shapeCasts_S2x2x8192x256x1_S2x2x8192x256) slices_S2x2x8192x256_S1x2x8192x256_1_0_0_0) shapeCasts_S1x2x8192x256_S2x8192x256) : (⟨S2x8192x256, .f32⟩ : BufTy).Contents (Elt Ideal))⟩] concatenates_S2x8192x256_S2x8192x256_S2x8192x256_S2x8192x256_S2x8192x1024_d2 : (⟨S2x8192x1024, .f32⟩ : BufTy).Contents (Elt Ideal)))

/-- The reference's reading of the experts' packed rows. -/
def expertRows (words : IVec S2x8x16384x256 32) : FVec Ideal S8x16384x1024 .f32 :=
  ((concatenate S8x16384x1024 2 [⟨S8x16384x256, ((shapeCast _ (extractStridedSlice S1x8x16384x256 ![0, 0, 0, 0] (shapeCast _ (extractStridedSlice S2x8x16384x256x1 ![0, 0, 0, 0, 0] (extf .f32 (bitcastToFloat (F := Ideal) .bf16 (Host.bitcastConvertNarrow S2x8x16384x256x2 16 words splits_S2x8x16384x256_w32_S2x8x16384x256x2_w16)) bitsLt_bf16_f32) slices_S2x8x16384x256x2_S2x8x16384x256x1_0_0_0_0_0) shapeCasts_S2x8x16384x256x1_S2x8x16384x256) slices_S2x8x16384x256_S1x8x16384x256_0_0_0_0) shapeCasts_S1x8x16384x256_S8x16384x256) : (⟨S8x16384x256, .f32⟩ : BufTy).Contents (Elt Ideal))⟩, ⟨S8x16384x256, ((shapeCast _ (extractStridedSlice S1x8x16384x256 ![1, 0, 0, 0] (shapeCast _ (extractStridedSlice S2x8x16384x256x1 ![0, 0, 0, 0, 0] (extf .f32 (bitcastToFloat (F := Ideal) .bf16 (Host.bitcastConvertNarrow S2x8x16384x256x2 16 words splits_S2x8x16384x256_w32_S2x8x16384x256x2_w16)) bitsLt_bf16_f32) slices_S2x8x16384x256x2_S2x8x16384x256x1_0_0_0_0_0) shapeCasts_S2x8x16384x256x1_S2x8x16384x256) slices_S2x8x16384x256_S1x8x16384x256_1_0_0_0) shapeCasts_S1x8x16384x256_S8x16384x256) : (⟨S8x16384x256, .f32⟩ : BufTy).Contents (Elt Ideal))⟩, ⟨S8x16384x256, ((shapeCast _ (extractStridedSlice S1x8x16384x256 ![0, 0, 0, 0] (shapeCast _ (extractStridedSlice S2x8x16384x256x1 ![0, 0, 0, 0, 1] (extf .f32 (bitcastToFloat (F := Ideal) .bf16 (Host.bitcastConvertNarrow S2x8x16384x256x2 16 words splits_S2x8x16384x256_w32_S2x8x16384x256x2_w16)) bitsLt_bf16_f32) slices_S2x8x16384x256x2_S2x8x16384x256x1_0_0_0_0_1) shapeCasts_S2x8x16384x256x1_S2x8x16384x256) slices_S2x8x16384x256_S1x8x16384x256_0_0_0_0) shapeCasts_S1x8x16384x256_S8x16384x256) : (⟨S8x16384x256, .f32⟩ : BufTy).Contents (Elt Ideal))⟩, ⟨S8x16384x256, ((shapeCast _ (extractStridedSlice S1x8x16384x256 ![1, 0, 0, 0] (shapeCast _ (extractStridedSlice S2x8x16384x256x1 ![0, 0, 0, 0, 1] (extf .f32 (bitcastToFloat (F := Ideal) .bf16 (Host.bitcastConvertNarrow S2x8x16384x256x2 16 words splits_S2x8x16384x256_w32_S2x8x16384x256x2_w16)) bitsLt_bf16_f32) slices_S2x8x16384x256x2_S2x8x16384x256x1_0_0_0_0_1) shapeCasts_S2x8x16384x256x1_S2x8x16384x256) slices_S2x8x16384x256_S1x8x16384x256_1_0_0_0) shapeCasts_S1x8x16384x256_S8x16384x256) : (⟨S8x16384x256, .f32⟩ : BufTy).Contents (Elt Ideal))⟩] concatenates_S8x16384x256_S8x16384x256_S8x16384x256_S8x16384x256_S8x16384x1024_d2 : (⟨S8x16384x1024, .f32⟩ : BufTy).Contents (Elt Ideal)))

/-- The shared expert's hidden layer. -/
def mixed (t : FVec Ideal S2x8192x1024 .f32) (wg wu : FVec Ideal S1024x256 .f32) : FVec Ideal S2x8192x256 .f32 :=
  (mulf (mulf (Host.dotGeneral dot_S2x8192x1024_S1024x256_S2x8192x256_2_0_01_1_n_n none t wg) (Host.divf (broadcastInDim S2x8192x256 ![] bcast_S_S2x8192x256 (constant S_ .f32 0x3F800000#32)) (addf (broadcastInDim S2x8192x256 ![] bcast_S_S2x8192x256 (constant S_ .f32 0x3F800000#32)) (Host.exp (Host.negf (Host.dotGeneral dot_S2x8192x1024_S1024x256_S2x8192x256_2_0_01_1_n_n none t wg)))))) (Host.dotGeneral dot_S2x8192x1024_S1024x256_S2x8192x256_2_0_01_1_n_n none t wu))

/-- All rows after the gated residual, as the reference's operations compose them. -/
def residualRows (x : FVec Ideal S2x8192x1024 .f32) (v : FVec Ideal S8x16384x1024 .f32) (y : FVec Ideal S2x8192x256 .f32) (w : FVec Ideal S2x8x8192 .f32)
    (a : FVec Ideal S2x6144 .f32) (wd : FVec Ideal S256x1024 .f32) : FVec Ideal S2x8192x1024 .f32 :=
  (addf x (mulf (broadcastInDim S2x8192x1024 ![0, 1, 2] bcast_S2x1x1024_S2x8192x1024_0_1_2 (broadcastInDim S2x1x1024 ![0, 2] bcast_S2x1024_S2x1x1024_0_2 (extractStridedSlice S2x1024 ![0, 5120] a slices_S2x6144_S2x1024_0_5120))) (addf (Host.reduceAdd (mulf (shapeCast _ v shapeCasts_S8x16384x1024_S8x2x8192x1024) (broadcastInDim S8x2x8192x1024 ![0, 1, 2, 3] bcast_S8x2x8192x1_S8x2x8192x1024_0_1_2_3 (broadcastInDim S8x2x8192x1 ![0, 1, 2] bcast_S8x2x8192_S8x2x8192x1_0_1_2 (transpose S8x2x8192 [1, 0, 2] w transposes_S2x8x8192_S8x2x8192_1_0_2)))) (constant S_ .f32 0x00000000#32) reducesTo_S8x2x8192x1024_S2x8192x1024_d0 h_S_) (Host.dotGeneral dot_S2x8192x256_S256x1024_S2x8192x1024_2_0_01_1_n_n none y wd))))

theorem drop_tokens (n b : Fin 2) (p : Fin 8192) (d : Fin 256) (q : Fin 2) :
    splits_S2x2x8192x256_w32_S2x2x8192x256x2_w16.drop (ix5 n b p d q) = ix4 n b p d := by
  funext k
  match k with
  | ⟨0, _⟩ => rfl
  | ⟨1, _⟩ => rfl
  | ⟨2, _⟩ => rfl
  | ⟨3, _⟩ => rfl

theorem drop_rows (n : Fin 2) (k : Fin 8) (p : Fin 16384) (d : Fin 256) (q : Fin 2) :
    splits_S2x8x16384x256_w32_S2x8x16384x256x2_w16.drop (ix5 n k p d q) = ix4 n k p d := by
  funext k
  match k with
  | ⟨0, _⟩ => rfl
  | ⟨1, _⟩ => rfl
  | ⟨2, _⟩ => rfl
  | ⟨3, _⟩ => rfl

theorem tokenRows_apply (words : IVec S2x2x8192x256 32) (b : Fin 2) (p : Fin 8192) (e : Fin 1024) :
    tokenRows words (ix3 b p e) = feature (fun n d => words (ix4 n b p d)) e := by
  pointwise [tokenRows]
  simp only [drop_tokens]
  rfl

theorem expertRows_apply (words : IVec S2x8x16384x256 32) (k : Fin 8) (p : Fin 16384) (e : Fin 1024) :
    expertRows words (ix3 k p e) = feature (fun n d => words (ix4 n k p d)) e := by
  pointwise [expertRows]
  simp only [drop_rows]
  rfl

section
variable (x : FVec Ideal S2x8192x1024 .f32) (h : IVec S2x2x8192x256 32) (r : IVec S2x8x16384x256 32) (w : FVec Ideal S2x8x8192 .f32)
    (a : FVec Ideal S2x6144 .f32) (g : FVec Ideal S1024 .f32) (wg wu : FVec Ideal S1024x256 .f32) (wd : FVec Ideal S256x1024 .f32)

theorem mixed_read (t : FVec Ideal S2x8192x1024 .f32) (b : Fin 2) (p : Fin 8192) (j : Fin 256) : mixed t wg wu (ix3 b p j) =
    (∑ e, t (ix3 b p e) * wg (ix2 e j)) * Ideal.div 1 (1 + Ideal.exp (-∑ e, t (ix3 b p e) * wg (ix2 e j))) * ∑ e, t (ix3 b p e) * wu (ix2 e j) := by
  pointwise [mixed]

theorem mixed_apply (b : Fin 2) (p : Fin 8192) (j : Fin 256) : mixed (tokenRows h) wg wu (ix3 b p j) =
    product (fun n d => h (ix4 n b p d)) (fun e j => wg (ix2 e j)) j
      * Ideal.div 1 (1 + Ideal.exp (-product (fun n d => h (ix4 n b p d)) (fun e j => wg (ix2 e j)) j))
      * product (fun n d => h (ix4 n b p d)) (fun e j => wu (ix2 e j)) j := by
  rw [mixed_read]
  simp only [tokenRows_apply, product]

theorem residualRows_read (v : FVec Ideal S8x16384x1024 .f32) (y : FVec Ideal S2x8192x256 .f32) (b : Fin 2) (p : Fin 8192) (e : Fin 1024) :
    residualRows x v y w a wd (ix3 b p e) =
      x (ix3 b p e) + a (ix2 b (⟨5120 + e.val, by have := e.isLt; omega⟩ : Fin 6144))
        * ((∑ k, v (ix3 k (⟨b.val * 8192 + p.val, by have := b.isLt; have := p.isLt; omega⟩ : Fin 16384) e) * w (ix3 b k p))
          + ∑ j, y (ix3 b p j) * wd (ix2 j e)) := by
  pointwise [residualRows]

theorem residualRows_apply (b : Fin 2) (p : Fin 8192) (e : Fin 1024) :
    residualRows x (expertRows r) (mixed (tokenRows h) wg wu) w a wd (ix3 b p e) =
    residual (fun e => x (ix3 b p e)) (fun e => a (ix2 b (⟨5120 + e.val, by have := e.isLt; omega⟩ : Fin 6144)))
      (fun n d => h (ix4 n b p d)) (fun k n d => r (ix4 n k (⟨b.val * 8192 + p.val, by have := b.isLt; have := p.isLt; omega⟩ : Fin 16384) d))
      (fun k => w (ix3 b k p)) (fun e j => wg (ix2 e j)) (fun e j => wu (ix2 e j)) (fun j e => wd (ix2 j e)) e := by
  rw [residualRows_read]
  simp only [mixed_apply, expertRows_apply, residual, routed, shared]

/-- The final normalisation, as the reference's operations compose it. -/
def normedRows (z : FVec Ideal S2x8192x1024 .f32) (g : FVec Ideal S1024 .f32) : FVec Ideal S2x8192x1024 .f32 :=
  mulf (mulf z (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf z z) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

theorem normedRows_read (z : FVec Ideal S2x8192x1024 .f32) (b : Fin 2) (p : Fin 8192) (e : Fin 1024) :
    normedRows z g (ix3 b p e) = normed (fun e => z (ix3 b p e)) (fun e => g (ix1 e)) e := by
  pointwise [normedRows]
  rfl

theorem result_eq : normedRows (residualRows x (expertRows r) (mixed (tokenRows h) wg wu) w a wd) g = result x h r w a g wg wu wd := by
  funext i
  obtain ⟨b, p, e, rfl⟩ : ∃ (b : Fin 2) (p : Fin 8192) (e : Fin 1024), i = ix3 b p e :=
    ⟨i 0, i 1, i 2, funext fun k => by
      match k with
      | ⟨0, _⟩ => rfl
      | ⟨1, _⟩ => rfl
      | ⟨2, _⟩ => rfl⟩
  rw [normedRows_read]
  simp only [residualRows_apply]
  change _ = resultAt x h r w a g wg wu wd b p e
  rfl
end

end Cert.Proof.FinalReference
end
-- ==== Proof.FinalLaunch.lean ====
/-
  The last step's launch: what a grid point's body computes from its blocks, which entries of the arguments those blocks
  hold, and the result array as a function of the arguments.
-/
module

public import proofs.«01_k».proof.Proof.Gen.Kernel4Ideal.Value
public import proofs.«01_k».proof.Proof.FinalRef
public import Idealize.ShloMosaic.Lib.Pipeline.ValueKit
public import Idealize.ShloMosaic.Lib.Claim

@[expose] public section

noncomputable section

namespace Cert.Proof.FinalLaunch

open Cert.Kernel4Ideal Cert.Kernel4Ideal.Gen Cert.Kernel4Ideal.Value
open Idealize.ShloMosaic Idealize.ShloMosaic.TcCoe
open Idealize.SL.Sem
open Cert.Proof.FinalReference (low high feature product shared routed residual normed resultAt result)

/-! ## The weighted sums, of the blocks the body loads -/

/-- A word whose low half is empty denotes, as a wide float, what its high half denotes as a narrow one. -/
theorem widened (b : BitVec 32) (h : BitVec 16) (hb : b.toNat = h.toNat * 65536) : Ideal.ofBits .f32 b = Ideal.ofBits .bf16 h := by
  have hs : b.extractLsb' (8 + 23) 1 = h.extractLsb' (8 + 7) 1 := by
    apply BitVec.eq_of_toNat_eq
    simp only [BitVec.extractLsb'_toNat, Nat.shiftRight_eq_div_pow]
    omega
  have hx : (b.extractLsb' 23 8).toNat = (h.extractLsb' 7 8).toNat := by
    simp only [BitVec.extractLsb'_toNat, Nat.shiftRight_eq_div_pow]
    omega
  have hf : (b.extractLsb' 0 23).toNat = (h.extractLsb' 0 7).toNat * 65536 := by
    simp only [BitVec.extractLsb'_toNat, Nat.shiftRight_eq_div_pow]
    omega
  have hz (n : ℤ) : (2 : ℝ) ^ (n - 7) = 65536 * (2 : ℝ) ^ (n - 23) := by
    rw [show n - 7 = 16 + (n - 23) by ring, zpow_add₀ two_ne_zero]
    norm_num
  show Ideal.ieee 8 23 b = Ideal.ieee 8 7 h
  simp only [Ideal.ieee, hs, hx, hf]
  by_cases he : (h.extractLsb' 7 8).toNat = 2 ^ 8 - 1
  · rw [if_pos he, if_pos he]
    by_cases hm : (h.extractLsb' 0 7).toNat = 0
    · rw [if_pos (by rw [hm]), if_pos hm]
    · rw [if_neg (by omega), if_neg hm]
  · rw [if_neg he, if_neg he]
    by_cases hn : (h.extractLsb' 7 8).toNat = 0
    · rw [if_pos hn, if_pos hn]
      congr 1
      simp only [Nat.cast_mul, Nat.cast_ofNat, hz]
      ring
    · rw [if_neg hn, if_neg hn]
      congr 1
      simp only [Nat.cast_add, Nat.cast_mul, Nat.cast_pow, Nat.cast_ofNat, hz]
      ring

theorem low_eq (u : BitVec 32) : Ideal.ofBits .f32 (IntOp.shli .vector u 16#32) = low u :=
  widened _ _ (by
    have h : IntOp.shli .vector u 16#32 = u <<< 16 := rfl
    rw [h, BitVec.toNat_shiftLeft, BitVec.extractLsb'_toNat, Nat.shiftLeft_eq, Nat.shiftRight_zero]
    omega)

theorem mask_bit : ∀ i : Fin 32, (4294901760#32).getLsbD i.val = decide (16 ≤ i.val) := by decide

theorem high_eq (u : BitVec 32) : Ideal.ofBits .f32 (IntOp.andi u 4294901760#32) = high u :=
  widened _ _ (by
    have h : IntOp.andi u 4294901760#32 = u >>> 16 <<< 16 := by
      apply BitVec.eq_of_getLsbD_eq
      intro i hi
      have hm := mask_bit ⟨i, hi⟩
      show (u &&& 4294901760#32).getLsbD i = _
      rw [BitVec.getLsbD_and, hm, BitVec.getLsbD_shiftLeft, BitVec.getLsbD_ushiftRight]
      by_cases h : 16 ≤ i
      · simp [h, hi, Nat.not_lt.2 h]
      · simp [h, Nat.lt_of_not_le h]
    rw [h, BitVec.toNat_shiftLeft, BitVec.toNat_ushiftRight, BitVec.extractLsb'_toNat, Nat.shiftLeft_eq, Nat.shiftRight_eq_div_pow]
    have := u.isLt
    omega)

section
variable (x0 : FVec Ideal S1x512x1024 .f32) (x1 : IVec S2x1x512x256 32) (x2 : IVec S2x8x512x256 32) (x3 : FVec Ideal S1x512x8 .f32)
  (x4 : FVec Ideal S1x6x1024 .f32) (x5 : FVec Ideal S1x1024 .f32) (x6 x7 : FVec Ideal S1024x256 .bf16) (x8 : FVec Ideal S256x1024 .bf16)

/-- The block of the choices' weights. -/
def weights : FVec Ideal S512x8 .f32 := k0_pay2 (F := Ideal) (View.ld x3 r0_0)

theorem weights_apply (r : Fin 512) (k : Fin 8) : weights x3 (ix2 r k) = x3 (ix3 0 r k) := by
  pointwise [weights, k0_pay2]

/-- The weighted sums of one plane's low or high halves. -/
def sum0 : FVec Ideal S512x256 .f32 := k0_pay33 (weights x3) (k0_pay27 (weights x3) (k0_pay17 (weights x3) (k0_pay11 (View.ld x3 r0_0) (View.ld x2 r0_2) (View.ld x2 r0_3)) (View.ld x2 r0_4) (View.ld x2 r0_5)) (k0_pay22 (weights x3) (View.ld x2 r0_6)) (View.ld x2 r0_7) (View.ld x2 r0_8)) (k0_pay30 (View.ld x2 r0_9))
def sum1 : FVec Ideal S512x256 .f32 := k0_pay34 (weights x3) (k0_pay28 (weights x3) (k0_pay18 (weights x3) (k0_pay8 (View.ld x3 r0_0) (View.ld x2 r0_2)) (k0_pay12 (View.ld x3 r0_0) (View.ld x2 r0_3)) (View.ld x2 r0_4) (View.ld x2 r0_5)) (k0_pay20 (View.ld x2 r0_6)) (k0_pay21 (weights x3)) (View.ld x2 r0_7) (View.ld x2 r0_8)) (k0_pay31 (View.ld x2 r0_9))
def sum2 : FVec Ideal S512x256 .f32 := addf (k0_pay59 (weights x3) (k0_pay49 (weights x3) (k0_pay43 (weights x3) (View.ld x2 r0_11) (View.ld x2 r0_12)) (View.ld x2 r0_13) (View.ld x2 r0_14)) (k0_pay54 (weights x3) (View.ld x2 r0_15)) (View.ld x2 r0_16) (View.ld x2 r0_17)) (mulf (broadcastTo S512x256 (extractStridedSlice S512x1 ![0, 7] (weights x3) slices_S512x8_o0_7_S512x1) broadcasts_S512x1_S512x256) (k0_pay62 (View.ld x2 r0_18)))
def sum3 : FVec Ideal S512x256 .f32 := addf (k0_pay60 (weights x3) (k0_pay50 (weights x3) (k0_pay40 (weights x3) (View.ld x2 r0_11)) (k0_pay44 (weights x3) (View.ld x2 r0_12)) (View.ld x2 r0_13) (View.ld x2 r0_14)) (k0_pay52 (View.ld x2 r0_15)) (k0_pay53 (weights x3)) (View.ld x2 r0_16) (View.ld x2 r0_17)) (mulf (broadcastTo S512x256 (extractStridedSlice S512x1 ![0, 7] (weights x3) slices_S512x8_o0_7_S512x1) broadcasts_S512x1_S512x256) (k0_pay63 (View.ld x2 r0_18)))

theorem sum0_apply (r : Fin 512) (d : Fin 256) : sum0 x2 x3 (ix2 r d) = ∑ k, x3 (ix3 0 r k) * low (x2 (ix4 0 k r d)) := by
  rw [Fin.sum_univ_eight]
  pointwise [sum0, weights, k0_pay2, k0_pay33, k0_pay27, k0_pay17, k0_pay11, k0_pay22, k0_pay30, k0_pay32, k0_pay23, k0_pay24, k0_pay25, k0_pay26, k0_pay13, k0_pay14, k0_pay15, k0_pay16, k0_pay6, k0_pay7, k0_pay9, k0_pay10, k0_pay19, k0_pay21, k0_pay29, k0_pay2]
  simp only [low_eq, high_eq]

theorem sum1_apply (r : Fin 512) (d : Fin 256) : sum1 x2 x3 (ix2 r d) = ∑ k, x3 (ix3 0 r k) * high (x2 (ix4 0 k r d)) := by
  rw [Fin.sum_univ_eight]
  pointwise [sum1, weights, k0_pay2, k0_pay34, k0_pay28, k0_pay18, k0_pay8, k0_pay12, k0_pay20, k0_pay21, k0_pay31, k0_pay32, k0_pay23, k0_pay24, k0_pay25, k0_pay26, k0_pay13, k0_pay14, k0_pay15, k0_pay16, k0_pay6, k0_pay7, k0_pay9, k0_pay10, k0_pay19, k0_pay29, k0_pay2]
  simp only [low_eq, high_eq]

theorem sum2_apply (r : Fin 512) (d : Fin 256) : sum2 x2 x3 (ix2 r d) = ∑ k, x3 (ix3 0 r k) * low (x2 (ix4 1 k r d)) := by
  rw [Fin.sum_univ_eight]
  pointwise [sum2, weights, k0_pay2, k0_pay59, k0_pay49, k0_pay43, k0_pay54, k0_pay62, k0_pay55, k0_pay56, k0_pay57, k0_pay58, k0_pay45, k0_pay46, k0_pay47, k0_pay48, k0_pay38, k0_pay39, k0_pay41, k0_pay42, k0_pay51, k0_pay53, k0_pay61]
  simp only [low_eq, high_eq]

theorem sum3_apply (r : Fin 512) (d : Fin 256) : sum3 x2 x3 (ix2 r d) = ∑ k, x3 (ix3 0 r k) * high (x2 (ix4 1 k r d)) := by
  rw [Fin.sum_univ_eight]
  pointwise [sum3, weights, k0_pay2, k0_pay60, k0_pay50, k0_pay40, k0_pay44, k0_pay52, k0_pay53, k0_pay63, k0_pay55, k0_pay56, k0_pay57, k0_pay58, k0_pay45, k0_pay46, k0_pay47, k0_pay48, k0_pay38, k0_pay39, k0_pay41, k0_pay42, k0_pay51, k0_pay61]
  simp only [low_eq, high_eq]

/-! ## The features of a row -/

/-- Four groups of features side by side. -/
def joined (a b c d : FVec Ideal S512x256 .f32) : FVec Ideal S512x1024 .f32 :=
  concatenate S512x1024 1 [⟨S512x256, a⟩, ⟨S512x256, b⟩, ⟨S512x256, c⟩, ⟨S512x256, d⟩] concatenates_S512x256_S512x256_S512x256_S512x256_S512x1024_d1

theorem joined_apply (a b c d : FVec Ideal S512x256 .f32) (r : Fin 512) (e : Fin 1024) : joined a b c d (ix2 r e) =
    if h : e.val < 256 then a (ix2 r ⟨e.val, h⟩)
    else if h : e.val - 256 < 256 then b (ix2 r ⟨e.val - 256, h⟩)
    else if h : e.val - 256 - 256 < 256 then c (ix2 r ⟨e.val - 256 - 256, h⟩)
    else d (ix2 r ⟨e.val - 256 - 256 - 256, by have := e.isLt; omega⟩) := by
  pointwise [joined]

/-- The tokens' features. -/
def tokens : FVec Ideal S512x1024 .f32 :=
  joined (k0_pay4 (F := Ideal) (View.ld x1 r0_1)) (k0_pay36 (F := Ideal) (View.ld x1 r0_10)) (k0_pay5 (F := Ideal) (View.ld x1 r0_1)) (k0_pay37 (F := Ideal) (View.ld x1 r0_10))

theorem low0 (r : Fin 512) (d : Fin 256) : k0_pay4 (F := Ideal) (View.ld x1 r0_1) (ix2 r d) = low (x1 (ix4 0 0 r d)) := by
  pointwise [k0_pay4, k0_pay3]
  simp only [low_eq, high_eq]

theorem high0 (r : Fin 512) (d : Fin 256) : k0_pay5 (F := Ideal) (View.ld x1 r0_1) (ix2 r d) = high (x1 (ix4 0 0 r d)) := by
  pointwise [k0_pay5, k0_pay3]
  simp only [low_eq, high_eq]

theorem low1 (r : Fin 512) (d : Fin 256) : k0_pay36 (F := Ideal) (View.ld x1 r0_10) (ix2 r d) = low (x1 (ix4 1 0 r d)) := by
  pointwise [k0_pay36, k0_pay35]
  simp only [low_eq, high_eq]

theorem high1 (r : Fin 512) (d : Fin 256) : k0_pay37 (F := Ideal) (View.ld x1 r0_10) (ix2 r d) = high (x1 (ix4 1 0 r d)) := by
  pointwise [k0_pay37, k0_pay35]
  simp only [low_eq, high_eq]

theorem tokens_apply (r : Fin 512) (e : Fin 1024) : tokens x1 (ix2 r e) = feature (fun n d => x1 (ix4 n 0 r d)) e := by
  unfold tokens
  rw [joined_apply]
  simp only [low0, low1, high0, high1]
  rfl

theorem routed_apply (r : Fin 512) (e : Fin 1024) : joined (sum0 x2 x3) (sum2 x2 x3) (sum1 x2 x3) (sum3 x2 x3) (ix2 r e) =
    routed (fun k n d => x2 (ix4 n k r d)) (fun k => x3 (ix3 0 r k)) e := by
  rw [joined_apply]
  simp only [sum0_apply, sum1_apply, sum2_apply, sum3_apply, routed, feature]
  split_ifs <;> exact Finset.sum_congr rfl fun k _ => mul_comm _ _

/-! ## The body's result -/

/-- The shared expert's hidden layer, of the tokens' features. -/
def mixed (t : FVec Ideal S512x1024 .f32) (g u : Vec Ideal S1024x256 .bf16) : FVec Ideal S512x256 .f32 :=
  mulf (mulf (matmul dot_S512x1024_S1024x256_S512x256_1_0_0_1_n_n none (truncf .bf16 t bitsLt_bf16_f32) (shapeCast S1024x256 g shapeCasts_S1024x256_S1024x256 : FVec Ideal S1024x256 .bf16) (constant S512x256 .f32 0x00000000#32))
      (logistic (matmul dot_S512x1024_S1024x256_S512x256_1_0_0_1_n_n none (truncf .bf16 t bitsLt_bf16_f32) (shapeCast S1024x256 g shapeCasts_S1024x256_S1024x256 : FVec Ideal S1024x256 .bf16) (constant S512x256 .f32 0x00000000#32))))
    (matmul dot_S512x1024_S1024x256_S512x256_1_0_0_1_n_n none (truncf .bf16 t bitsLt_bf16_f32) (shapeCast S1024x256 u shapeCasts_S1024x256_S1024x256 : FVec Ideal S1024x256 .bf16) (constant S512x256 .f32 0x00000000#32))

/-- The rows after the gated residual. -/
def added (v : FVec Ideal S512x1024 .f32) (y : FVec Ideal S512x256 .f32) (d : Vec Ideal S256x1024 .bf16) (x : Vec Ideal S1x512x1024 .f32)
    (a : Vec Ideal S1x1x1024 .f32) : FVec Ideal S512x1024 .f32 :=
  addf (shapeCast S512x1024 x shapeCasts_S1x512x1024_S512x1024)
    (mulf (broadcastTo S512x1024 (shapeCast S1x1024 a shapeCasts_S1x1x1024_S1x1024) broadcasts_S1x1024_S512x1024)
      (addf v (matmul dot_S512x256_S256x1024_S512x1024_1_0_0_1_n_n none (truncf .bf16 y bitsLt_bf16_f32) (shapeCast S256x1024 d shapeCasts_S256x1024_S256x1024 : FVec Ideal S256x1024 .bf16) (constant S512x1024 .f32 0x00000000#32))))

/-- Rows divided by the root of their mean square. -/
def levelled (z : FVec Ideal S512x1024 .f32) : FVec Ideal S512x1024 .f32 :=
  mulf z (broadcastTo S512x1024 (rsqrt (addf (divf (shapeCast S512x1 (multiReduction .add [1] S512 (mulf z z) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)

theorem mixed_read (t : FVec Ideal S512x1024 .f32) (r : Fin 512) (j : Fin 256) : mixed t (View.ld x6 r0_19) (View.ld x7 r0_19) (ix2 r j) =
    (∑ e, t (ix2 r e) * x6 (ix2 e j)) * Ideal.div 1 (1 + Ideal.exp (-∑ e, t (ix2 r e) * x6 (ix2 e j))) * ∑ e, t (ix2 r e) * x7 (ix2 e j) := by
  pointwise [mixed]
  rfl

theorem added_read (v : FVec Ideal S512x1024 .f32) (y : FVec Ideal S512x256 .f32) (r : Fin 512) (e : Fin 1024) :
    added v y (View.ld x8 r0_20) (View.ld x0 r0_21) (View.ld x4 r0_22) (ix2 r e) =
      x0 (ix3 0 r e) + x4 (ix3 0 5 e) * (v (ix2 r e) + ∑ j, y (ix2 r j) * x8 (ix2 j e)) := by
  pointwise [added]

theorem levelled_read (z : FVec Ideal S512x1024 .f32) (r : Fin 512) (e : Fin 1024) :
    k0_pay1 (F := Ideal) (levelled z) (View.ld x5 r0_23) (ix3 0 r e) = normed (fun e => z (ix2 r e)) (fun e => x5 (ix2 0 e)) e := by
  pointwise [k0_pay1, levelled]
  rfl

theorem body_eq : k0_pay64 (F := Ideal) (weights x3) (k0_pay4 (View.ld x1 r0_1)) (k0_pay5 (View.ld x1 r0_1)) (k0_pay33 (weights x3) (k0_pay27 (weights x3) (k0_pay17 (weights x3) (k0_pay11 (View.ld x3 r0_0) (View.ld x2 r0_2) (View.ld x2 r0_3)) (View.ld x2 r0_4) (View.ld x2 r0_5)) (k0_pay22 (weights x3) (View.ld x2 r0_6)) (View.ld x2 r0_7) (View.ld x2 r0_8)) (k0_pay30 (View.ld x2 r0_9))) (k0_pay34 (weights x3) (k0_pay28 (weights x3) (k0_pay18 (weights x3) (k0_pay8 (View.ld x3 r0_0) (View.ld x2 r0_2)) (k0_pay12 (View.ld x3 r0_0) (View.ld x2 r0_3)) (View.ld x2 r0_4) (View.ld x2 r0_5)) (k0_pay20 (View.ld x2 r0_6)) (k0_pay21 (weights x3)) (View.ld x2 r0_7) (View.ld x2 r0_8)) (k0_pay31 (View.ld x2 r0_9))) (k0_pay36 (View.ld x1 r0_10)) (k0_pay37 (View.ld x1 r0_10)) (k0_pay59 (weights x3) (k0_pay49 (weights x3) (k0_pay43 (weights x3) (View.ld x2 r0_11) (View.ld x2 r0_12)) (View.ld x2 r0_13) (View.ld x2 r0_14)) (k0_pay54 (weights x3) (View.ld x2 r0_15)) (View.ld x2 r0_16) (View.ld x2 r0_17)) (k0_pay60 (weights x3) (k0_pay50 (weights x3) (k0_pay40 (weights x3) (View.ld x2 r0_11)) (k0_pay44 (weights x3) (View.ld x2 r0_12)) (View.ld x2 r0_13) (View.ld x2 r0_14)) (k0_pay52 (View.ld x2 r0_15)) (k0_pay53 (weights x3)) (View.ld x2 r0_16) (View.ld x2 r0_17)) (k0_pay62 (View.ld x2 r0_18)) (k0_pay63 (View.ld x2 r0_18)) (View.ld x6 r0_19) (View.ld x7 r0_19) (View.ld x8 r0_20) (View.ld x0 r0_21) (View.ld x4 r0_22) =
    levelled (added (joined (sum0 x2 x3) (sum2 x2 x3) (sum1 x2 x3) (sum3 x2 x3)) (mixed (tokens x1) (View.ld x6 r0_19) (View.ld x7 r0_19))
      (View.ld x8 r0_20) (View.ld x0 r0_21) (View.ld x4 r0_22)) := rfl

theorem z3 : (![0, 0, 0] : Fin 3 → ℕ) = 0 := by decide

/-- Row `r` of the rows after the gated residual, of the blocks. -/
def row (r : Fin 512) (e : Fin 1024) : EReal :=
  residual (fun e => x0 (ix3 0 r e)) (fun e => x4 (ix3 0 5 e)) (fun n d => x1 (ix4 n 0 r d)) (fun k n d => x2 (ix4 n k r d))
    (fun k => x3 (ix3 0 r k)) (fun e j => x6 (ix2 e j)) (fun e j => x7 (ix2 e j)) (fun j e => x8 (ix2 j e)) e

theorem out9 (r : Fin 512) (e : Fin 1024) : out0_9 (F := Ideal) x0 x1 x2 x3 x4 x5 x6 x7 x8 (ix3 0 r e) =
    normed (row x0 x1 x2 x3 x4 x6 x7 x8 r) (fun e => x5 (ix2 0 e)) e := by
  unfold out0_9
  rw [View.canon_cons_unit_zero z3]
  refine (congrFun (congrArg (fun z => k0_pay1 (F := Ideal) z (View.ld x5 r0_23)) (body_eq x0 x1 x2 x3 x4 x6 x7 x8)) (ix3 0 r e)).trans ?_
  refine (levelled_read x5 _ r e).trans (congrArg (fun f => normed f _ e) (funext fun e => ?_))
  rw [added_read, routed_apply]
  simp only [mixed_read, tokens_apply]
  rfl

end

variable (m : (ℓ : Loc nD τ sig) → Buf (Elt Ideal) ℓ)

/-! ## What the host code hands the call -/

theorem modulation_entry (c : Dev nD) (b : Fin 2) (k : Fin 6) (e : Fin 1024) : V m c main_v0 (ix3 b k e) =
    m ((c : Thread nD τ).loc main_arg4) (ix2 b (⟨k.val * 1024 + e.val, by have := k.isLt; have := e.isLt; omega⟩ : Fin 6144)) := by
  entry_read
  pointwise []

theorem weights_entry (c : Dev nD) (b : Fin 2) (p : Fin 8192) (k : Fin 8) : V m c main_v1 (ix3 b p k) =
    m ((c : Thread nD τ).loc main_arg3) (ix3 b k p) := by
  entry_read
  pointwise []

theorem gate_entry (c : Dev nD) (e : Fin 1024) (j : Fin 256) : V m c main_v2 (ix2 e j) = m ((c : Thread nD τ).loc main_arg6) (ix2 e j) := by
  entry_read
  pointwise []

theorem up_entry (c : Dev nD) (e : Fin 1024) (j : Fin 256) : V m c main_v3 (ix2 e j) = m ((c : Thread nD τ).loc main_arg7) (ix2 e j) := by
  entry_read
  pointwise []

theorem down_entry (c : Dev nD) (j : Fin 256) (e : Fin 1024) : V m c main_v4 (ix2 j e) = m ((c : Thread nD τ).loc main_arg8) (ix2 j e) := by
  entry_read
  pointwise []

theorem gain_entry (c : Dev nD) (e : Fin 1024) : V m c main_v5 (ix2 0 e) = m ((c : Thread nD τ).loc main_arg5) (ix1 e) := by
  entry_read
  pointwise []

/-! ## The blocks of a grid point -/

/-- Batch and row block of a grid point. -/
def batch (t : Fin cfg0.N) : Fin 2 := grid0.coords t 0
def tile (t : Fin cfg0.N) : Fin 16 := grid0.coords t 1

/-- Row `r` of a grid point's row block, in its batch's sequence and in all sequences on end. -/
def place (t : Fin cfg0.N) (r : Fin 512) : Fin 8192 := ⟨512 * (tile t).val + r.val, by have := (tile t).isLt; omega⟩
def spot (t : Fin cfg0.N) (r : Fin 512) : Fin 16384 :=
  ⟨(batch t).val * 8192 + (place t r).val, by have := (batch t).isLt; have := (place t r).isLt; omega⟩

theorem idx : ∀ t : Fin cfg0.N, win0_0.index t = ![(batch t).val, (tile t).val, 0]
    ∧ win0_1.index t = ![0, (batch t).val, (tile t).val, 0]
    ∧ win0_2.index t = ![0, 0, (batch t).val * 16 + (tile t).val, 0]
    ∧ win0_3.index t = ![(batch t).val, (tile t).val, 0] ∧ win0_4.index t = ![(batch t).val, 0, 0]
    ∧ win0_5.index t = ![0, 0] ∧ win0_6.index t = ![0, 0] ∧ win0_7.index t = ![0, 0] ∧ win0_8.index t = ![0, 0]
    ∧ win0_9.index t = ![(batch t).val, (tile t).val, 0] :=
  (by decide +kernel : ∀ t : Fin grid0.N, _)

theorem block0 (c : Dev nD) (t : Fin cfg0.N) (r : Fin 512) (e : Fin 1024) :
    (iblk m c 0 t : Vec Ideal S1x512x1024 .f32) (ix3 0 r e) = V m c main_arg0 (ix3 (batch t) (place t r) e) := by
  unfold place
  blk_ext [iblk, idx t]

theorem block1 (c : Dev nD) (t : Fin cfg0.N) (n : Fin 2) (r : Fin 512) (d : Fin 256) :
    (iblk m c 1 t : Vec Ideal S2x1x512x256 .i32) (ix4 n 0 r d) = V m c main_arg1 (ix4 n (batch t) (place t r) d) := by
  unfold place
  blk_ext [iblk, idx t]

theorem block2 (c : Dev nD) (t : Fin cfg0.N) (n : Fin 2) (k : Fin 8) (r : Fin 512) (d : Fin 256) :
    (iblk m c 2 t : Vec Ideal S2x8x512x256 .i32) (ix4 n k r d) = V m c main_arg2 (ix4 n k (spot t r) d) := by
  unfold spot place
  blk_ext [iblk, idx t]

theorem block3 (c : Dev nD) (t : Fin cfg0.N) (r : Fin 512) (k : Fin 8) :
    (iblk m c 3 t : Vec Ideal S1x512x8 .f32) (ix3 0 r k) = V m c main_v1 (ix3 (batch t) (place t r) k) := by
  unfold place
  blk_ext [iblk, idx t]

theorem block4 (c : Dev nD) (t : Fin cfg0.N) (k : Fin 6) (e : Fin 1024) :
    (iblk m c 4 t : Vec Ideal S1x6x1024 .f32) (ix3 0 k e) = V m c main_v0 (ix3 (batch t) k e) := by
  blk_ext [iblk, idx t]

theorem block5 (c : Dev nD) (t : Fin cfg0.N) (e : Fin 1024) :
    (iblk m c 5 t : Vec Ideal S1x1024 .f32) (ix2 0 e) = V m c main_v5 (ix2 0 e) := by
  blk_ext [iblk, idx t]

theorem block6 (c : Dev nD) (t : Fin cfg0.N) (e : Fin 1024) (j : Fin 256) :
    (iblk m c 6 t : Vec Ideal S1024x256 .bf16) (ix2 e j) = V m c main_v2 (ix2 e j) := by
  blk_ext [iblk, idx t]

theorem block7 (c : Dev nD) (t : Fin cfg0.N) (e : Fin 1024) (j : Fin 256) :
    (iblk m c 7 t : Vec Ideal S1024x256 .bf16) (ix2 e j) = V m c main_v3 (ix2 e j) := by
  blk_ext [iblk, idx t]

theorem block8 (c : Dev nD) (t : Fin cfg0.N) (j : Fin 256) (e : Fin 1024) :
    (iblk m c 8 t : Vec Ideal S256x1024 .bf16) (ix2 j e) = V m c main_v4 (ix2 j e) := by
  blk_ext [iblk, idx t]

theorem place9 (t : Fin cfg0.N) (r : Fin 512) (e : Fin 1024) : ((cfg0.win 9).blk t).view.emb (ix3 0 r e : S1x512x1024.Idx) =
    (ix3 (batch t) (place t r) e : S2x8192x1024.Idx) := by
  unfold place
  blk_ext [idx t]

/-! ## The result array -/

theorem index_eq (y : S1x512x1024.Idx) : ∃ (r : Fin 512) (e : Fin 1024), y = ix3 0 r e :=
  ⟨y 1, y 2, funext fun k => by
    match k with
    | ⟨0, _⟩ => exact Fin.ext (Nat.lt_one_iff.1 (y 0).isLt)
    | ⟨1, _⟩ => rfl
    | ⟨2, _⟩ => rfl⟩

section
variable (c : Dev nD) (x : FVec Ideal S2x8192x1024 .f32) (h : IVec S2x2x8192x256 32) (v : IVec S2x8x16384x256 32) (w : FVec Ideal S2x8x8192 .f32)
    (a : FVec Ideal S2x6144 .f32) (g : FVec Ideal S1024 .f32) (wg wu : FVec Ideal S1024x256 .f32) (wd : FVec Ideal S256x1024 .f32)
  (hx : m ((c : Thread nD τ).loc main_arg0) = x) (hh : m ((c : Thread nD τ).loc main_arg1) = h) (hv : m ((c : Thread nD τ).loc main_arg2) = v)
  (hw : m ((c : Thread nD τ).loc main_arg3) = w) (ha : m ((c : Thread nD τ).loc main_arg4) = a) (hg : m ((c : Thread nD τ).loc main_arg5) = g)
  (hwg : m ((c : Thread nD τ).loc main_arg6) = wg) (hwu : m ((c : Thread nD τ).loc main_arg7) = wu) (hwd : m ((c : Thread nD τ).loc main_arg8) = wd)
include hx hh hv hw ha hwg hwu hwd

theorem row_block (t : Fin cfg0.N) (r : Fin 512) :
    row (iblk m c 0 t) (iblk m c 1 t) (iblk m c 2 t) (iblk m c 3 t) (iblk m c 4 t) (iblk m c 6 t) (iblk m c 7 t) (iblk m c 8 t) r =
      residual (fun e => x (ix3 (batch t) (place t r) e)) (fun e => a (ix2 (batch t) (⟨5120 + e.val, by have := e.isLt; omega⟩ : Fin 6144)))
        (fun n d => h (ix4 n (batch t) (place t r) d)) (fun k n d => v (ix4 n k (spot t r) d)) (fun k => w (ix3 (batch t) k (place t r)))
        (fun e j => wg (ix2 e j)) (fun e j => wu (ix2 e j)) (fun j e => wd (ix2 j e)) := by
  subst hx hh hv hw ha hwg hwu hwd
  funext e
  unfold row
  congr 1
  · funext e; exact block0 m c t r e
  · funext e; exact (block4 m c t 5 e).trans ((modulation_entry m c _ 5 e).trans rfl)
  · funext n d; exact block1 m c t n r d
  · funext k n d; exact block2 m c t n k r d
  · funext k; exact (block3 m c t r k).trans (weights_entry m c _ _ k)
  · funext e j; exact (block6 m c t e j).trans (gate_entry m c e j)
  · funext e j; exact (block7 m c t e j).trans (up_entry m c e j)
  · funext j e; exact (block8 m c t j e).trans (down_entry m c j e)

include hg

theorem gain_block (t : Fin cfg0.N) (e : Fin 1024) : (iblk m c 5 t : FVec Ideal S1x1024 .f32) (ix2 0 e) = g (ix1 e) := by
  subst hg
  exact (block5 m c t e).trans (gain_entry m c e)

theorem final : (dats m 0 c).arrAt 9 cfg0.N = result x h v w a g wg wu wd := by
  refine (dats m 0 c).arrAt_eq_of_covers 9 _ (by decide +kernel) fun t hf y => ?_
  refine (congrFun (flushed9 m c t) y).trans ?_
  obtain ⟨r, e, rfl⟩ := index_eq y
  rw [place9]
  refine (out9 (iblk m c 0 t) (iblk m c 1 t) (iblk m c 2 t) (iblk m c 3 t) (iblk m c 4 t) (iblk m c 5 t) (iblk m c 6 t) (iblk m c 7 t) (iblk m c 8 t) r e).trans ?_
  simp only [row_block m c x h v w a wg wu wd hx hh hv hw ha hwg hwu hwd, gain_block m c x h v w a g wg wu wd hx hh hv hw ha hg hwg hwu hwd]
  change _ = resultAt x h v w a g wg wu wd (batch t) (place t r) e
  rfl

end

end Cert.Proof.FinalLaunch
end
-- ==== Proof.lean ====
/-
  The certificate. Of the gather: both frames from its one run, the references' frames, and that the call's result and the
  reference's are the same collected rows, over the extended reals and bit for bit. Of the attention: the frames, what the
  named constant stands for, and that over the extended reals the call's result is the reference's. Of the input projection:
  the same, of all four results. Of the last step: the frames and the same equality, under no idealized constant.
-/
module

public import proofs.«01_k».proof.Defs
public import proofs.«01_k».proof.Proof.Gen.ReferenceIdeal.Run
public import proofs.«01_k».proof.Proof.Gen.Reference.Run
public import proofs.«01_k».proof.Proof.Host
public import proofs.«01_k».proof.Proof.AttnInputs
public import proofs.«01_k».proof.Proof.AttnLaunch
public import proofs.«01_k».proof.Proof.InprojLaunch
public import proofs.«01_k».proof.Proof.FinalLaunch
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_dest_in_rows
public import proofs.«01_k».proof.Proof.Gen.Pre_finite_inputs
public import proofs.«01_k».proof.Proof.Gen.Kernel2
public import proofs.«01_k».proof.Proof.Gen.Kernel2.Skeleton
public import proofs.«01_k».proof.Proof.Gen.Kernel2Ideal
public import proofs.«01_k».proof.Proof.Gen.Kernel2Ideal.Skeleton
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import Idealize.ShloMosaic.Adequacy
public import Idealize.ShloMosaic.Init

@[expose] public section

noncomputable section

namespace Cert.Proof

open Idealize.ShloMosaic Idealize.SL.Sem
open Cert.Proof.Gather (run_main nums_inRange within_of_pre resultOf_eq reference_eq collected)

instance bits_nonempty : ∀ e, Nonempty (Elt Bits e) := fun e => by cases e <;> exact ⟨Inhabited.default⟩
instance ideal_nonempty : ∀ e, Nonempty (Elt Ideal e) := fun e => by cases e <;> exact ⟨Inhabited.default⟩

theorem frame_kernel : Cert.quiescent_Kernel := fun m ρ hp =>
  (θ_run Cert.KernelIdeal.defs _ _).mono (fun _ h => ⟨fun c => (h.1 c).2, h.2⟩)
    (run_main (F := Bits) m ρ (nums_inRange m fun d => within_of_pre (F := Bits) _ _ (hp d)))

theorem frame_kernelIdeal : Cert.quiescent_KernelIdeal := fun m ρ hp =>
  (θ_run Cert.KernelIdeal.defs _ _).mono (fun _ h => ⟨fun c => (h.1 c).2, h.2⟩)
    (run_main (F := Ideal) m ρ (nums_inRange m fun d => within_of_pre (F := Ideal) _ _ (hp d)))

/-- The references declare no semaphore: no counter is ever off zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_dest_in_rows := fun m ρ _ =>
  frame_referenceIdeal m ρ trivial

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem algebraic : Cert.algebraic_KernelIdeal_ReferenceIdeal := fun m g m' g' hp hm =>
  have hJ := fun d => within_of_pre (F := Ideal) _ _ (hp d)
  ⟨fun c => collected (m (Cert.Proof.Gather.argLoc0 c)) (m (Cert.Proof.Gather.argLoc1 c)),
    (θ_run Cert.KernelIdeal.defs _ _).mono (fun _ h c => ⟨(h.1 c).1.trans (resultOf_eq m hJ c), (h.1 c).2⟩)
      (run_main (F := Ideal) m g (nums_inRange m hJ)),
    (θ_run Cert.ReferenceIdeal.defs _ _).mono (fun _ h c => ⟨(h c).1.trans (by
        rw [(hm c).1, (hm c).2]; exact reference_eq _ _ (hJ c)), (h c).2⟩)
      (Cert.ReferenceIdeal.Value.run (F := Ideal) m' g')⟩

theorem bitexact : Cert.bitexact_Kernel_Reference := fun m g m' g' hp hm =>
  have hJ := fun d => within_of_pre (F := Bits) _ _ (hp d)
  ⟨fun c => collected (F := Bits) (m (Cert.Proof.Gather.argLoc0 c)) (m (Cert.Proof.Gather.argLoc1 c)),
    (θ_run Cert.KernelIdeal.defs _ _).mono (fun _ h c => ⟨(h.1 c).1.trans (resultOf_eq m hJ c), (h.1 c).2⟩)
      (run_main (F := Bits) m g (nums_inRange m hJ)),
    (θ_run Cert.Reference.defs _ _).mono (fun _ h c => ⟨(h c).1.trans (by
        rw [(hm c).1, (hm c).2]; exact reference_eq _ _ (hJ c)), (h c).2⟩)
      (Cert.Reference.Value.run (F := Bits) m' g')⟩

/-! ## The attention -/

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_kernel2Ideal_pre : Cert.quiescent_Kernel2Ideal_pre_finite_inputs := fun m ρ _ => Cert.Kernel2Ideal.Gen.frame m ρ

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference2Ideal_pre : Cert.quiescent_Reference2Ideal_pre_finite_inputs := fun m ρ _ =>
  frame_reference2Ideal m ρ trivial

/-- The scores' mask stands for minus infinity. -/
theorem preserves2 : Cert.preserves_Kernel2_Kernel2Ideal :=
  IdealRules.named_const.statement Cert.Kernel2Ideal.κ "mask" .f32 0xF149F2CA#32 ⊥ rfl

/-- The attention's result on a device, of the argument arrays there. -/
def attended (m : (ℓ : Loc Cert.Kernel2Ideal.nD Cert.Kernel2Ideal.τ Cert.Kernel2Ideal.sig) → Buf (Elt Ideal) ℓ) (c : Dev Cert.Kernel2Ideal.nD) :
    FVec Ideal Cert.Kernel2Ideal.S2x8192x512 .bf16 :=
  AttentionReference.result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (AttentionReference.lambdaOf (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6)))
    (m ((c.tc : Thread Cert.Kernel2Ideal.nD Cert.Kernel2Ideal.τ).loc Cert.Kernel2Ideal.main_arg7))

/-- Under the precondition, what the call leaves in its result array. -/
theorem attended_eq (m : (ℓ : Loc Cert.Kernel2Ideal.nD Cert.Kernel2Ideal.τ Cert.Kernel2Ideal.sig) → Buf (Elt Ideal) ℓ)
    (hp : Cert.Pre_Kernel2Ideal_finite_inputs m) (c : Dev Cert.Kernel2Ideal.nD) :
    (Cert.Kernel2Ideal.Gen.dats m 0 c).arrAt 5 Cert.Kernel2Ideal.cfg0.N = attended m c := by
  have h := AttentionInputs.reading _ _ _ _ _ _ _ _ (hp c)
  choose Q hQ using fun b p e => (h b p e).1.1
  choose K hK using fun b p e => (h b p e).1.2.1
  choose W hW using fun b p e => (h b p e).1.2.2
  choose X hX using fun i => ((h 0 0 0).2 i).1
  choose Y hY using fun i => ((h 0 0 0).2 i).2.1
  choose Z hZ using fun i => ((h 0 0 0).2 i).2.2.1
  choose U hU using fun i => ((h 0 0 0).2 i).2.2.2
  obtain ⟨lam, hl⟩ := AttentionReference.lambdaOf_real _ _ _ _ X Y Z U hX hY hZ hU
  exact AttentionLaunch.final m c Q K W hQ hK hW lam hl

theorem algebraic2 : Cert.algebraic_Kernel2Ideal_Reference2Ideal_pre_finite_inputs := fun m g m' g' hp hm =>
  ⟨attended m,
    (θ_run Cert.Kernel2Ideal.defs _ _).mono (fun _ h c => ⟨(h c).1.trans (attended_eq m hp c), (h c).2⟩)
      (Cert.Kernel2Ideal.Value.run_blocks (F := Ideal) m g),
    (θ_run Cert.Reference2Ideal.defs _ _).mono (fun _ h c => ⟨(h c).1.trans (by
        rw [AttentionReference.result_eq, (hm c).1, (hm c).2.1, (hm c).2.2.1, (hm c).2.2.2.1, (hm c).2.2.2.2.1, (hm c).2.2.2.2.2.1,
          (hm c).2.2.2.2.2.2.1, (hm c).2.2.2.2.2.2.2]
        rfl), (h c).2⟩)
      (Cert.Reference2Ideal.Value.run (F := Ideal) m' g')⟩

/-! ## The input projection -/

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The queries' factor stands for an eighth over the logarithm of two. -/
theorem preserves3 : Cert.preserves_Kernel3_Kernel3Ideal :=
  IdealRules.named_const.statement Cert.Kernel3Ideal.κ "scale" .f32 0x3E38AA3B#32 (((1 / 8) * (Real.log 2)⁻¹ : ℝ) : EReal) rfl

theorem algebraic3 : Cert.algebraic_Kernel3Ideal_Reference3Ideal := fun m g m' g' _ hm =>
  ⟨fun c => ProjectionReference.queries (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => ProjectionReference.keys (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => ProjectionReference.values (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => ProjectionReference.inputs (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    (θ_run Cert.Kernel3Ideal.defs _ _).mono (fun _ h c => ⟨(h c).1.trans (ProjectionLaunch.final5 m c _ _ _ _ rfl rfl rfl rfl),
      (h c).2.1.trans (ProjectionLaunch.final6 m c _ _ _ _ rfl rfl rfl rfl),
      (h c).2.2.1.trans (ProjectionLaunch.final7 m c _ _ _ _ rfl rfl rfl rfl),
      (h c).2.2.2.1.trans (ProjectionLaunch.final8 m c _ _ _ _ rfl rfl rfl rfl), (h c).2.2.2.2⟩)
      (Cert.Kernel3Ideal.Value.run_blocks (F := Ideal) m g),
    (θ_run Cert.Reference3Ideal.defs _ _).mono (fun _ h c => ⟨
      (h c).1.trans (by rw [(hm c).1, (hm c).2.1, (hm c).2.2.1, (hm c).2.2.2]; exact ProjectionReference.queries_eq _ _ _ _),
      (h c).2.1.trans (by rw [(hm c).1, (hm c).2.1, (hm c).2.2.1, (hm c).2.2.2]; exact ProjectionReference.keys_eq _ _ _ _),
      (h c).2.2.1.trans (by rw [(hm c).1, (hm c).2.1, (hm c).2.2.1, (hm c).2.2.2]; exact ProjectionReference.values_eq _ _ _ _),
      (h c).2.2.2.1.trans (by rw [(hm c).1, (hm c).2.1, (hm c).2.2.1, (hm c).2.2.2]; exact ProjectionReference.inputs_eq _ _ _ _),
      (h c).2.2.2.2⟩)
      (Cert.Reference3Ideal.Value.run (F := Ideal) m' g')⟩

/-! ## The last step -/

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := fun m g m' g' _ hm =>
  ⟨fun c => FinalReference.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)),
    (θ_run Cert.Kernel4Ideal.defs _ _).mono (fun _ h c => ⟨(h c).1.trans
      (FinalLaunch.final m c _ _ _ _ _ _ _ _ _ rfl rfl rfl rfl rfl rfl rfl rfl rfl), (h c).2⟩)
      (Cert.Kernel4Ideal.Value.run_blocks (F := Ideal) m g),
    (θ_run Cert.Reference4Ideal.defs _ _).mono (fun _ h c => ⟨(h c).1.trans (by
        unfold Cert.Reference4Ideal.Value.res_main_v59
        rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2]
        exact FinalReference.result_eq _ _ _ _ _ _ _ _ _), (h c).2⟩)
      (Cert.Reference4Ideal.Value.run (F := Ideal) m' g')⟩

theorem claim : Cert.Claim := ⟨Cert.Kernel4.Gen.facts, Cert.Kernel4Ideal.Gen.facts, Cert.Reference4Ideal.Gen.facts,
  Cert.Kernel3.Gen.facts, Cert.Kernel3Ideal.Gen.facts, Cert.Reference3Ideal.Gen.facts,
  Cert.Kernel2.Gen.facts, Cert.Kernel2Ideal.Gen.facts, Cert.Reference2Ideal.Gen.facts,
  Cert.Kernel.Gen.facts, Cert.KernelIdeal.Gen.facts, Cert.ReferenceIdeal.Gen.facts, Cert.Reference.Gen.facts,
  Cert.Pre_finite_inputs.Gen.facts, Cert.Pre_dest_in_rows.Gen.facts,
  frame_kernel4, frame_kernel4Ideal, frame_reference4Ideal,
  frame_kernel3, frame_kernel3Ideal, frame_reference3Ideal,
  frame_kernel2, frame_kernel2Ideal, frame_kernel2Ideal_pre, frame_reference2Ideal, frame_reference2Ideal_pre,
  frame_kernel, frame_kernelIdeal, frame_referenceIdeal, frame_referenceIdeal_pre, frame_reference,
  trivial, algebraic4, preserves3, algebraic3, preserves2, algebraic2, trivial, algebraic, bitexact⟩

end Cert.Proof

end
